-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v60_0)) (v1 : (c : Dev Cert.KernelIdeal.nD) → Buf (Elt Ideal) ((c.tc : Thread Cert.KernelIdeal.nD Cert.KernelIdeal.τ).loc Cert.KernelIdeal.main_v60_1)) (v2 : (c : Dev Cert.KernelIdeal.nD) → Buf (Elt Ideal) ((c.tc : Thread Cert.KernelIdeal.nD Cert.KernelIdeal.τ).loc Cert.KernelIdeal.main_v60_2)) (v3 : (c : Dev Cert.KernelIdeal.nD) → Buf (Elt Ideal) ((c.tc : Thread Cert.KernelIdeal.nD Cert.KernelIdeal.τ).loc Cert.KernelIdeal.main_v60_3)) (v4 : (c : Dev Cert.KernelIdeal.nD) → Buf (Elt Ideal) ((c.tc : Thread Cert.KernelIdeal.nD Cert.KernelIdeal.τ).loc Cert.KernelIdeal.main_v60_4)) (v5 : (c : Dev Cert.KernelIdeal.nD) → Buf (Elt Ideal) ((c.tc : Thread Cert.KernelIdeal.nD Cert.KernelIdeal.τ).loc Cert.KernelIdeal.main_v60_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60_0) = v0 c
          ∧ r.2.mem ((c.tc : Thread Cert.KernelIdeal.nD Cert.KernelIdeal.τ).loc Cert.KernelIdeal.main_v60_1) = v1 c
          ∧ r.2.mem ((c.tc : Thread Cert.KernelIdeal.nD Cert.KernelIdeal.τ).loc Cert.KernelIdeal.main_v60_2) = v2 c
          ∧ r.2.mem ((c.tc : Thread Cert.KernelIdeal.nD Cert.KernelIdeal.τ).loc Cert.KernelIdeal.main_v60_3) = v3 c
          ∧ r.2.mem ((c.tc : Thread Cert.KernelIdeal.nD Cert.KernelIdeal.τ).loc Cert.KernelIdeal.main_v60_4) = v4 c
          ∧ r.2.mem ((c.tc : Thread Cert.KernelIdeal.nD Cert.KernelIdeal.τ).loc Cert.KernelIdeal.main_v60_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_v74) = v3 c
          ∧ r.2.mem ((c.tc : Thread Cert.ReferenceIdeal.nD Cert.ReferenceIdeal.τ).loc Cert.ReferenceIdeal.main_v90) = v4 c
          ∧ r.2.mem ((c.tc : Thread Cert.ReferenceIdeal.nD Cert.ReferenceIdeal.τ).loc Cert.ReferenceIdeal.main_v91) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v23_0)) (v1 : (c : Dev Cert.Kernel2Ideal.nD) → Buf (Elt Ideal) ((c.tc : Thread Cert.Kernel2Ideal.nD Cert.Kernel2Ideal.τ).loc Cert.Kernel2Ideal.main_v23_1)) (v2 : (c : Dev Cert.Kernel2Ideal.nD) → Buf (Elt Ideal) ((c.tc : Thread Cert.Kernel2Ideal.nD Cert.Kernel2Ideal.τ).loc Cert.Kernel2Ideal.main_v23_2)) (v3 : (c : Dev Cert.Kernel2Ideal.nD) → Buf (Elt Ideal) ((c.tc : Thread Cert.Kernel2Ideal.nD Cert.Kernel2Ideal.τ).loc Cert.Kernel2Ideal.main_v23_3)) (v4 : (c : Dev Cert.Kernel2Ideal.nD) → Buf (Elt Ideal) ((c.tc : Thread Cert.Kernel2Ideal.nD Cert.Kernel2Ideal.τ).loc Cert.Kernel2Ideal.main_v23_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23_0) = v0 c
          ∧ r.2.mem ((c.tc : Thread Cert.Kernel2Ideal.nD Cert.Kernel2Ideal.τ).loc Cert.Kernel2Ideal.main_v23_1) = v1 c
          ∧ r.2.mem ((c.tc : Thread Cert.Kernel2Ideal.nD Cert.Kernel2Ideal.τ).loc Cert.Kernel2Ideal.main_v23_2) = v2 c
          ∧ r.2.mem ((c.tc : Thread Cert.Kernel2Ideal.nD Cert.Kernel2Ideal.τ).loc Cert.Kernel2Ideal.main_v23_3) = v3 c
          ∧ r.2.mem ((c.tc : Thread Cert.Kernel2Ideal.nD Cert.Kernel2Ideal.τ).loc Cert.Kernel2Ideal.main_v23_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v55) = v0 c
          ∧ r.2.mem ((c.tc : Thread Cert.Reference2Ideal.nD Cert.Reference2Ideal.τ).loc Cert.Reference2Ideal.main_v38) = v1 c
          ∧ r.2.mem ((c.tc : Thread Cert.Reference2Ideal.nD Cert.Reference2Ideal.τ).loc Cert.Reference2Ideal.main_v57) = v2 c
          ∧ r.2.mem ((c.tc : Thread Cert.Reference2Ideal.nD Cert.Reference2Ideal.τ).loc Cert.Reference2Ideal.main_v58) = v3 c
          ∧ r.2.mem ((c.tc : Thread Cert.Reference2Ideal.nD Cert.Reference2Ideal.τ).loc Cert.Reference2Ideal.main_v59) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v57_0)) (v1 : (c : Dev Cert.Kernel3Ideal.nD) → Buf (Elt Ideal) ((c.tc : Thread Cert.Kernel3Ideal.nD Cert.Kernel3Ideal.τ).loc Cert.Kernel3Ideal.main_v57_1)) (v2 : (c : Dev Cert.Kernel3Ideal.nD) → Buf (Elt Ideal) ((c.tc : Thread Cert.Kernel3Ideal.nD Cert.Kernel3Ideal.τ).loc Cert.Kernel3Ideal.main_v57_2)) (v3 : (c : Dev Cert.Kernel3Ideal.nD) → Buf (Elt Ideal) ((c.tc : Thread Cert.Kernel3Ideal.nD Cert.Kernel3Ideal.τ).loc Cert.Kernel3Ideal.main_v57_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v57_0) = v0 c
          ∧ r.2.mem ((c.tc : Thread Cert.Kernel3Ideal.nD Cert.Kernel3Ideal.τ).loc Cert.Kernel3Ideal.main_v57_1) = v1 c
          ∧ r.2.mem ((c.tc : Thread Cert.Kernel3Ideal.nD Cert.Kernel3Ideal.τ).loc Cert.Kernel3Ideal.main_v57_2) = v2 c
          ∧ r.2.mem ((c.tc : Thread Cert.Kernel3Ideal.nD Cert.Kernel3Ideal.τ).loc Cert.Kernel3Ideal.main_v57_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v139) = v0 c
          ∧ r.2.mem ((c.tc : Thread Cert.Reference3Ideal.nD Cert.Reference3Ideal.τ).loc Cert.Reference3Ideal.main_v140) = v1 c
          ∧ r.2.mem ((c.tc : Thread Cert.Reference3Ideal.nD Cert.Reference3Ideal.τ).loc Cert.Reference3Ideal.main_v116) = v2 c
          ∧ r.2.mem ((c.tc : Thread Cert.Reference3Ideal.nD Cert.Reference3Ideal.τ).loc Cert.Reference3Ideal.main_v122) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)) (v2 : (c : Dev Cert.Kernel4Ideal.nD) → Buf (Elt Ideal) ((c.tc : Thread Cert.Kernel4Ideal.nD Cert.Kernel4Ideal.τ).loc Cert.Kernel4Ideal.main_v7_2)) (v3 : (c : Dev Cert.Kernel4Ideal.nD) → Buf (Elt Ideal) ((c.tc : Thread Cert.Kernel4Ideal.nD Cert.Kernel4Ideal.τ).loc Cert.Kernel4Ideal.main_v7_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_v7_2) = v2 c
          ∧ r.2.mem ((c.tc : Thread Cert.Kernel4Ideal.nD Cert.Kernel4Ideal.τ).loc Cert.Kernel4Ideal.main_v7_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_v19) = v1 c
          ∧ r.2.mem ((c.tc : Thread Cert.Reference4Ideal.nD Cert.Reference4Ideal.τ).loc Cert.Reference4Ideal.main_v20) = v2 c
          ∧ r.2.mem ((c.tc : Thread Cert.Reference4Ideal.nD Cert.Reference4Ideal.τ).loc Cert.Reference4Ideal.main_v23) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_v27) = v1 c
          ∧ r.2.mem ((c.tc : Thread Cert.Reference5Ideal.nD Cert.Reference5Ideal.τ).loc Cert.Reference5Ideal.main_v8) = v2 c
          ∧ r.2.mem ((c.tc : Thread Cert.Reference5Ideal.nD Cert.Reference5Ideal.τ).loc Cert.Reference5Ideal.main_v14) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_v31) = v1 c
          ∧ r.2.mem ((c.tc : Thread Cert.Reference6Ideal.nD Cert.Reference6Ideal.τ).loc Cert.Reference6Ideal.main_v12) = v2 c
          ∧ r.2.mem ((c.tc : Thread Cert.Reference6Ideal.nD Cert.Reference6Ideal.τ).loc Cert.Reference6Ideal.main_v18) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S8192x1024 : Shape := ⟨2, ![8192, 1024]⟩
abbrev S8192x512 : Shape := ⟨2, ![8192, 512]⟩
abbrev S4x128x128 : Shape := ⟨3, ![4, 128, 128]⟩
abbrev S4x128 : Shape := ⟨2, ![4, 128]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v14 : IVec S_ 1) (main_v15 : FVec F S1024x1024 .f32) (main_cst_5 : FVec F S_ .f32) : IVec S_ 1 :=
  let main_v16 : FVec F S1024x1024 .f32 := broadcastInDim S1024x1024 ![] bcast_S_S1024x1024 main_cst_5
  let main_v17 : IVec S1024x1024 1 := cmpf .olt main_v15 main_v16
  let main_c_6 : IVec S_ 1 := constantI S_ 1 1#1
  let main_v18 : IVec S_ 1 := (fun x v => Host.reduce IntOp.andi x v reducesTo_S1024x1024_S_d0_1 h_S_) main_v17 main_c_6
  let main_v19 : IVec S_ 1 := andi main_v14 main_v18
  main_v19

def fn {F : FTy → Type} [FloatOps F] (main_arg0 : FVec F S8192x1024 .f32) (main_arg1 : FVec F S8192x512 .f32) (main_arg2 : FVec F S8192x512 .f32) (main_arg3 : FVec F S4x128x128 .f32) (main_arg4 : FVec F S4x128 .f32) (main_arg5 : FVec F S4x128 .f32) (main_arg6 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 1 := constantI S_ 1 1#1
  let main_v4 : IVec S_ 1 := andi main_c_0 main_v3
  let main_v5 : FVec F S4x128x128 .f32 := Host.absf main_arg3
  let main_cst_1 : FVec F S_ .f32 := constant S_ .f32 0x7F800000#32
  let main_v6 : FVec F S4x128x128 .f32 := broadcastInDim S4x128x128 ![] bcast_S_S4x128x128 main_cst_1
  let main_v7 : IVec S4x128x128 1 := cmpf .olt main_v5 main_v6
  let main_c_2 : IVec S_ 1 := constantI S_ 1 1#1
  let main_v8 : IVec S_ 1 := (fun x v => Host.reduce IntOp.andi x v reducesTo_S4x128x128_S_d0_1_2 h_S_) main_v7 main_c_2
  let main_v9 : IVec S_ 1 := andi main_v4 main_v8
  let main_v10 : FVec F S4x128 .f32 := Host.absf main_arg5
  let main_cst_3 : FVec F S_ .f32 := constant S_ .f32 0x7F800000#32
  let main_v11 : FVec F S4x128 .f32 := broadcastInDim S4x128 ![] bcast_S_S4x128 main_cst_3
  let main_v12 : IVec S4x128 1 := cmpf .olt main_v10 main_v11
  let main_c_4 : IVec S_ 1 := constantI S_ 1 1#1
  let main_v13 : IVec S_ 1 := (fun x v => Host.reduce IntOp.andi x v reducesTo_S4x128_S_d0_1 h_S_) main_v12 main_c_4
  let main_v14 : IVec S_ 1 := andi main_v9 main_v13
  let main_v15 : FVec F S1024x1024 .f32 := Host.absf main_arg6
  let main_cst_5 : FVec F S_ .f32 := constant S_ .f32 0x7F800000#32
  fn_part1 (F := F) main_v14 main_v15 main_cst_5
-- ==== Pre_finite2.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v14 : IVec S_ 1) (main_v15 : FVec F S2816x1024 .f32) (main_cst_5 : FVec F S_ .f32) : IVec S_ 1 :=
  let main_v16 : FVec F S2816x1024 .f32 := broadcastInDim S2816x1024 ![] bcast_S_S2816x1024 main_cst_5
  let main_v17 : IVec S2816x1024 1 := cmpf .olt main_v15 main_v16
  let main_c_6 : IVec S_ 1 := constantI S_ 1 1#1
  let main_v18 : IVec S_ 1 := (fun x v => Host.reduce IntOp.andi x v reducesTo_S2816x1024_S_d0_1 h_S_) main_v17 main_c_6
  let main_v19 : IVec S_ 1 := andi main_v14 main_v18
  main_v19

def fn {F : FTy → Type} [FloatOps F] (main_arg0 : FVec F S8192x1024 .f32) (main_arg1 : FVec F S8192x1024 .f32) (main_arg2 : FVec F S1x1024 .f32) (main_arg3 : FVec F S1x1024 .f32) (main_arg4 : FVec F S1024x2816 .f32) (main_arg5 : FVec F S1024x2816 .f32) (main_arg6 : FVec F S2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 1 := constantI S_ 1 1#1
  let main_v4 : IVec S_ 1 := andi main_c_0 main_v3
  let main_v5 : FVec F S1x1024 .f32 := Host.absf main_arg3
  let main_cst_1 : FVec F S_ .f32 := constant S_ .f32 0x7F800000#32
  let main_v6 : FVec F S1x1024 .f32 := broadcastInDim S1x1024 ![] bcast_S_S1x1024 main_cst_1
  let main_v7 : IVec S1x1024 1 := cmpf .olt main_v5 main_v6
  let main_c_2 : IVec S_ 1 := constantI S_ 1 1#1
  let main_v8 : IVec S_ 1 := (fun x v => Host.reduce IntOp.andi x v reducesTo_S1x1024_S_d0_1 h_S_) main_v7 main_c_2
  let main_v9 : IVec S_ 1 := andi main_v4 main_v8
  let main_v10 : FVec F S1024x2816 .f32 := Host.absf main_arg5
  let main_cst_3 : FVec F S_ .f32 := constant S_ .f32 0x7F800000#32
  let main_v11 : FVec F S1024x2816 .f32 := broadcastInDim S1024x2816 ![] bcast_S_S1024x2816 main_cst_3
  let main_v12 : IVec S1024x2816 1 := cmpf .olt main_v10 main_v11
  let main_c_4 : IVec S_ 1 := constantI S_ 1 1#1
  let main_v13 : IVec S_ 1 := (fun x v => Host.reduce IntOp.andi x v reducesTo_S1024x2816_S_d0_1 h_S_) main_v12 main_c_4
  let main_v14 : IVec S_ 1 := andi main_v9 main_v13
  let main_v15 : FVec F S2816x1024 .f32 := Host.absf main_arg6
  let main_cst_5 : FVec F S_ .f32 := constant S_ .f32 0x7F800000#32
  fn_part1 (F := F) main_v14 main_v15 main_cst_5
-- ==== Kernel.lean ====
abbrev S8192x1024 : Shape := ⟨2, ![8192, 1024]⟩
abbrev S8192x512 : Shape := ⟨2, ![8192, 512]⟩
abbrev S4x128x128 : Shape := ⟨3, ![4, 128, 128]⟩
abbrev S4x128 : Shape := ⟨2, ![4, 128]⟩
abbrev S1024x1024 : Shape := ⟨2, ![1024, 1024]⟩
abbrev S4 : Shape := ⟨1, ![4]⟩
abbrev S8192x4x128 : Shape := ⟨3, ![8192, 4, 128]⟩
abbrev S1x4x128 : Shape := ⟨3, ![1, 4, 128]⟩
abbrev S_ : Shape := ⟨0, ![]⟩
abbrev S8193x4x128 : Shape := ⟨3, ![8193, 4, 128]⟩
abbrev S8192 : Shape := ⟨1, ![8192]⟩
abbrev S8192x1 : Shape := ⟨2, ![8192, 1]⟩
abbrev S1x4 : Shape := ⟨2, ![1, 4]⟩
abbrev S8192x4 : Shape := ⟨2, ![8192, 4]⟩
abbrev S8192x4x1 : Shape := ⟨3, ![8192, 4, 1]⟩
abbrev S8192x4x2 : Shape := ⟨3, ![8192, 4, 2]⟩
abbrev S4x128x8192 : Shape := ⟨3, ![4, 128, 8192]⟩
abbrev S1x512 : Shape := ⟨2, ![1, 512]⟩
abbrev S1024x512 : Shape := ⟨2, ![1024, 512]⟩
abbrev S16x512 : Shape := ⟨2, ![16, 512]⟩
abbrev S512x1024 : Shape := ⟨2, ![512, 1024]⟩
abbrev S1024x128 : Shape := ⟨2, ![1024, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S16x128 : Shape := ⟨2, ![16, 128]⟩
abbrev S1008x128 : Shape := ⟨2, ![1008, 128]⟩
abbrev S1040x128 : Shape := ⟨2, ![1040, 128]⟩

abbrev nBuf : Space → Nat
  | .hbm => 84
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S4x128x128, .f32⟩
  | .hbm, ⟨4, _⟩ => ⟨S4x128, .f32⟩
  | .hbm, ⟨5, _⟩ => ⟨S4x128, .f32⟩
  | .hbm, ⟨6, _⟩ => ⟨S1024x1024, .f32⟩
  | .hbm, ⟨7, _⟩ => ⟨S4, .i32⟩
  | .hbm, ⟨8, _⟩ => ⟨S8192x4x128, .f32⟩
  | .hbm, ⟨9, _⟩ => ⟨S1x4x128, .f32⟩
  | .hbm, ⟨10, _⟩ => ⟨S_, .f32⟩
  | .hbm, ⟨11, _⟩ => ⟨S1x4x128, .f32⟩
  | .hbm, ⟨12, _⟩ => ⟨S_, .f32⟩
  | .hbm, ⟨13, _⟩ => ⟨S_, .f32⟩
  | .hbm, ⟨14, _⟩ => ⟨S8192x4x128, .f32⟩
  | .hbm, ⟨15, _⟩ => ⟨S8193x4x128, .f32⟩
  | .hbm, ⟨16, _⟩ => ⟨S8192, .i32⟩
  | .hbm, ⟨17, _⟩ => ⟨S8192x1, .i32⟩
  | .hbm, ⟨18, _⟩ => ⟨S1x4, .i32⟩
  | .hbm, ⟨19, _⟩ => ⟨S_, .i32⟩
  | .hbm, ⟨20, _⟩ => ⟨S8192x1, .i32⟩
  | .hbm, ⟨21, _⟩ => ⟨S8192x1, .i32⟩
  | .hbm, ⟨22, _⟩ => ⟨S8192x4, .i32⟩
  | .hbm, ⟨23, _⟩ => ⟨S8192x4, .i32⟩
  | .hbm, ⟨24, _⟩ => ⟨S8192x4, .i32⟩
  | .hbm, ⟨25, _⟩ => ⟨S_, .i32⟩
  | .hbm, ⟨26, _⟩ => ⟨S8192x4, .i32⟩
  | .hbm, ⟨27, _⟩ => ⟨S8192x4, .i32⟩
  | .hbm, ⟨28, _⟩ => ⟨S4, .i32⟩
  | .hbm, ⟨29, _⟩ => ⟨S1x4, .i32⟩
  | .hbm, ⟨30, _⟩ => ⟨S8192x4x128, .f32⟩
  | .hbm, ⟨31, _⟩ => ⟨S_, .i32⟩
  | .hbm, ⟨32, _⟩ => ⟨S8192x4, .i32⟩
  | .hbm, ⟨33, _⟩ => ⟨S8192x4, .i1⟩
  | .hbm, ⟨34, _⟩ => ⟨S_, .i32⟩
  | .hbm, ⟨35, _⟩ => ⟨S8192x4, .i32⟩
  | .hbm, ⟨36, _⟩ => ⟨S8192x4, .i32⟩
  | .hbm, ⟨37, _⟩ => ⟨S8192x4, .i32⟩
  | .hbm, ⟨38, _⟩ => ⟨S_, .i32⟩
  | .hbm, ⟨39, _⟩ => ⟨S1x4, .i32⟩
  | .hbm, ⟨40, _⟩ => ⟨S1x4, .i1⟩
  | .hbm, ⟨41, _⟩ => ⟨S_, .i32⟩
  | .hbm, ⟨42, _⟩ => ⟨S1x4, .i32⟩
  | .hbm, ⟨43, _⟩ => ⟨S1x4, .i32⟩
  | .hbm, ⟨44, _⟩ => ⟨S1x4, .i32⟩
  | .hbm, ⟨45, _⟩ => ⟨S8192x4, .i32⟩
  | .hbm, ⟨46, _⟩ => ⟨S8192x4x1, .i32⟩
  | .hbm, ⟨47, _⟩ => ⟨S8192x4x1, .i32⟩
  | .hbm, ⟨48, _⟩ => ⟨S8192x4x2, .i32⟩
  | .hbm, ⟨49, _⟩ => ⟨S8192x4x128, .f32⟩
  | .hbm, ⟨50, _⟩ => ⟨S8192x4x128, .f32⟩
  | .hbm, ⟨51, _⟩ => ⟨S_, .i32⟩
  | .hbm, ⟨52, _⟩ => ⟨S8192x1, .i32⟩
  | .hbm, ⟨53, _⟩ => ⟨S8192x1, .i32⟩
  | .hbm, ⟨54, _⟩ => ⟨S8192x4, .i32⟩
  | .hbm, ⟨55, _⟩ => ⟨S8192x4, .i32⟩
  | .hbm, ⟨56, _⟩ => ⟨S8192x4, .f32⟩
  | .hbm, ⟨57, _⟩ => ⟨S8192x4x1, .f32⟩
  | .hbm, ⟨58, _⟩ => ⟨S8192x4x128, .f32⟩
  | .hbm, ⟨59, _⟩ => ⟨S8192x4x128, .f32⟩
  | .hbm, ⟨60, _⟩ => ⟨S8192x4x128, .f32⟩
  | .hbm, ⟨61, _⟩ => ⟨S4x128x8192, .f32⟩
  | .hbm, ⟨62, _⟩ => ⟨S8192x4x128, .f32⟩
  | .hbm, ⟨63, _⟩ => ⟨S1x4x128, .f32⟩
  | .hbm, ⟨64, _⟩ => ⟨S8192x4x128, .f32⟩
  | .hbm, ⟨65, _⟩ => ⟨S8192x4x128, .f32⟩
  | .hbm, ⟨66, _⟩ => ⟨S1x4x128, .f32⟩
  | .hbm, ⟨67, _⟩ => ⟨S8192x4x128, .f32⟩
  | .hbm, ⟨68, _⟩ => ⟨S8192x4x128, .f32⟩
  | .hbm, ⟨69, _⟩ => ⟨S8192x512, .f32⟩
  | .hbm, ⟨70, _⟩ => ⟨S8192x512, .bf16⟩
  | .hbm, ⟨71, _⟩ => ⟨S8192x512, .bf16⟩
  | .hbm, ⟨72, _⟩ => ⟨S8192x512, .f32⟩
  | .hbm, ⟨73, _⟩ => ⟨S8192x512, .bf16⟩
  | .hbm, ⟨74, _⟩ => ⟨S1024x1024, .bf16⟩
  | .hbm, ⟨75, _⟩ => ⟨S4x128x128, .bf16⟩
  | .hbm, ⟨76, _⟩ => ⟨S1x512, .f32⟩
  | .hbm, ⟨77, _⟩ => ⟨S1x512, .f32⟩
  | .hbm, ⟨78, _⟩ => ⟨S8192x512, .bf16⟩
  | .hbm, ⟨79, _⟩ => ⟨S8192x512, .bf16⟩
  | .hbm, ⟨80, _⟩ => ⟨S1024x1024, .f32⟩
  | .hbm, ⟨81, _⟩ => ⟨S4x128x128, .f32⟩
  | .hbm, ⟨82, _⟩ => ⟨S1x512, .f32⟩
  | .hbm, ⟨83, _⟩ => ⟨S1x512, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x1024, .bf16⟩
  | .local _ .vmem, ⟨9, _⟩ => ⟨S4x128x128, .bf16⟩
  | .local _ .vmem, ⟨10, _⟩ => ⟨S1x512, .f32⟩
  | .local _ .vmem, ⟨11, _⟩ => ⟨S1x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x1024, .f32⟩
  | .local _ .vmem, ⟨17, _⟩ => ⟨S4x128x128, .f32⟩
  | .local _ .vmem, ⟨18, _⟩ => ⟨S1x512, .f32⟩
  | .local _ .vmem, ⟨19, _⟩ => ⟨S1x512, .f32⟩
  | .local _ .vmem, ⟨20, _⟩ => ⟨S16x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_call0_call0_cst : Ref sig .tc := ⟨.hbm, 12, rfl⟩
abbrev main_call0_call0_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60_0 : Ref sig .tc := ⟨.hbm, 78, rfl⟩
abbrev main_v60_1 : Ref sig .tc := ⟨.hbm, 79, rfl⟩
abbrev main_v60_2 : Ref sig .tc := ⟨.hbm, 80, rfl⟩
abbrev main_v60_3 : Ref sig .tc := ⟨.hbm, 81, rfl⟩
abbrev main_v60_4 : Ref sig .tc := ⟨.hbm, 82, rfl⟩
abbrev main_v60_5 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S8192x1024 : Shape := ⟨2, ![8192, 1024]⟩
abbrev S8192x512 : Shape := ⟨2, ![8192, 512]⟩
abbrev S4x128x128 : Shape := ⟨3, ![4, 128, 128]⟩
abbrev S4x128 : Shape := ⟨2, ![4, 128]⟩
abbrev S1024x1024 : Shape := ⟨2, ![1024, 1024]⟩
abbrev S4 : Shape := ⟨1, ![4]⟩
abbrev S8192x4x128 : Shape := ⟨3, ![8192, 4, 128]⟩
abbrev S1x4x128 : Shape := ⟨3, ![1, 4, 128]⟩
abbrev S_ : Shape := ⟨0, ![]⟩
abbrev S8193x4x128 : Shape := ⟨3, ![8193, 4, 128]⟩
abbrev S8192 : Shape := ⟨1, ![8192]⟩
abbrev S8192x1 : Shape := ⟨2, ![8192, 1]⟩
abbrev S1x4 : Shape := ⟨2, ![1, 4]⟩
abbrev S8192x4 : Shape := ⟨2, ![8192, 4]⟩
abbrev S8192x4x1 : Shape := ⟨3, ![8192, 4, 1]⟩
abbrev S8192x4x2 : Shape := ⟨3, ![8192, 4, 2]⟩
abbrev S4x128x8192 : Shape := ⟨3, ![4, 128, 8192]⟩
abbrev S4x8192x128 : Shape := ⟨3, ![4, 8192, 128]⟩
abbrev S1x512 : Shape := ⟨2, ![1, 512]⟩

abbrev nBuf : Space → Nat
  | .hbm => 119
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S4x128x128, .f32⟩
  | .hbm, ⟨4, _⟩ => ⟨S4x128, .f32⟩
  | .hbm, ⟨5, _⟩ => ⟨S4x128, .f32⟩
  | .hbm, ⟨6, _⟩ => ⟨S1024x1024, .f32⟩
  | .hbm, ⟨7, _⟩ => ⟨S4, .i32⟩
  | .hbm, ⟨8, _⟩ => ⟨S8192x4x128, .f32⟩
  | .hbm, ⟨9, _⟩ => ⟨S1x4x128, .f32⟩
  | .hbm, ⟨10, _⟩ => ⟨S_, .f32⟩
  | .hbm, ⟨11, _⟩ => ⟨S1x4x128, .f32⟩
  | .hbm, ⟨12, _⟩ => ⟨S_, .f32⟩
  | .hbm, ⟨13, _⟩ => ⟨S_, .f32⟩
  | .hbm, ⟨14, _⟩ => ⟨S8192x4x128, .f32⟩
  | .hbm, ⟨15, _⟩ => ⟨S8193x4x128, .f32⟩
  | .hbm, ⟨16, _⟩ => ⟨S_, .f32⟩
  | .hbm, ⟨17, _⟩ => ⟨S1x4x128, .f32⟩
  | .hbm, ⟨18, _⟩ => ⟨S8192, .i32⟩
  | .hbm, ⟨19, _⟩ => ⟨S8192x1, .i32⟩
  | .hbm, ⟨20, _⟩ => ⟨S1x4, .i32⟩
  | .hbm, ⟨21, _⟩ => ⟨S_, .i32⟩
  | .hbm, ⟨22, _⟩ => ⟨S8192x1, .i32⟩
  | .hbm, ⟨23, _⟩ => ⟨S8192x1, .i32⟩
  | .hbm, ⟨24, _⟩ => ⟨S8192x4, .i32⟩
  | .hbm, ⟨25, _⟩ => ⟨S8192x4, .i32⟩
  | .hbm, ⟨26, _⟩ => ⟨S8192x4, .i32⟩
  | .hbm, ⟨27, _⟩ => ⟨S_, .i32⟩
  | .hbm, ⟨28, _⟩ => ⟨S8192x4, .i32⟩
  | .hbm, ⟨29, _⟩ => ⟨S8192x4, .i32⟩
  | .hbm, ⟨30, _⟩ => ⟨S4, .i32⟩
  | .hbm, ⟨31, _⟩ => ⟨S1x4, .i32⟩
  | .hbm, ⟨32, _⟩ => ⟨S8192x4x128, .f32⟩
  | .hbm, ⟨33, _⟩ => ⟨S_, .i32⟩
  | .hbm, ⟨34, _⟩ => ⟨S8192x4, .i32⟩
  | .hbm, ⟨35, _⟩ => ⟨S8192x4, .i1⟩
  | .hbm, ⟨36, _⟩ => ⟨S_, .i32⟩
  | .hbm, ⟨37, _⟩ => ⟨S8192x4, .i32⟩
  | .hbm, ⟨38, _⟩ => ⟨S8192x4, .i32⟩
  | .hbm, ⟨39, _⟩ => ⟨S8192x4, .i32⟩
  | .hbm, ⟨40, _⟩ => ⟨S_, .i32⟩
  | .hbm, ⟨41, _⟩ => ⟨S1x4, .i32⟩
  | .hbm, ⟨42, _⟩ => ⟨S1x4, .i1⟩
  | .hbm, ⟨43, _⟩ => ⟨S_, .i32⟩
  | .hbm, ⟨44, _⟩ => ⟨S1x4, .i32⟩
  | .hbm, ⟨45, _⟩ => ⟨S1x4, .i32⟩
  | .hbm, ⟨46, _⟩ => ⟨S1x4, .i32⟩
  | .hbm, ⟨47, _⟩ => ⟨S8192x4, .i32⟩
  | .hbm, ⟨48, _⟩ => ⟨S8192x4x1, .i32⟩
  | .hbm, ⟨49, _⟩ => ⟨S8192x4x1, .i32⟩
  | .hbm, ⟨50, _⟩ => ⟨S8192x4x2, .i32⟩
  | .hbm, ⟨51, _⟩ => ⟨S8192x4x128, .f32⟩
  | .hbm, ⟨52, _⟩ => ⟨S8192x4x128, .f32⟩
  | .hbm, ⟨53, _⟩ => ⟨S_, .i32⟩
  | .hbm, ⟨54, _⟩ => ⟨S8192x1, .i32⟩
  | .hbm, ⟨55, _⟩ => ⟨S8192x1, .i32⟩
  | .hbm, ⟨56, _⟩ => ⟨S8192x4, .i32⟩
  | .hbm, ⟨57, _⟩ => ⟨S8192x4, .i32⟩
  | .hbm, ⟨58, _⟩ => ⟨S8192x4, .f32⟩
  | .hbm, ⟨59, _⟩ => ⟨S8192x4x1, .f32⟩
  | .hbm, ⟨60, _⟩ => ⟨S8192x4x128, .f32⟩
  | .hbm, ⟨61, _⟩ => ⟨S8192x4x128, .f32⟩
  | .hbm, ⟨62, _⟩ => ⟨S8192x4x128, .f32⟩
  | .hbm, ⟨63, _⟩ => ⟨S4x128x8192, .f32⟩
  | .hbm, ⟨64, _⟩ => ⟨S8192x4x128, .f32⟩
  | .hbm, ⟨65, _⟩ => ⟨S1x4x128, .f32⟩
  | .hbm, ⟨66, _⟩ => ⟨S8192x4x128, .f32⟩
  | .hbm, ⟨67, _⟩ => ⟨S8192x4x128, .f32⟩
  | .hbm, ⟨68, _⟩ => ⟨S1x4x128, .f32⟩
  | .hbm, ⟨69, _⟩ => ⟨S8192x4x128, .f32⟩
  | .hbm, ⟨70, _⟩ => ⟨S8192x4x128, .f32⟩
  | .hbm, ⟨71, _⟩ => ⟨S8192x512, .f32⟩
  | .hbm, ⟨72, _⟩ => ⟨S8192x1024, .f32⟩
  | .hbm, ⟨73, _⟩ => ⟨S8192x1024, .f32⟩
  | .hbm, ⟨74, _⟩ => ⟨S1024x1024, .f32⟩
  | .hbm, ⟨75, _⟩ => ⟨S1024x1024, .f32⟩
  | .hbm, ⟨76, _⟩ => ⟨S8192x1024, .f32⟩
  | .hbm, ⟨77, _⟩ => ⟨S8192x512, .f32⟩
  | .hbm, ⟨78, _⟩ => ⟨S8192x512, .f32⟩
  | .hbm, ⟨79, _⟩ => ⟨S8192x4x128, .f32⟩
  | .hbm, ⟨80, _⟩ => ⟨S8192x4x128, .f32⟩
  | .hbm, ⟨81, _⟩ => ⟨S_, .f32⟩
  | .hbm, ⟨82, _⟩ => ⟨S4x128, .f32⟩
  | .hbm, ⟨83, _⟩ => ⟨S1x4x128, .f32⟩
  | .hbm, ⟨84, _⟩ => ⟨S8192x4x128, .f32⟩
  | .hbm, ⟨85, _⟩ => ⟨S8192x4x128, .f32⟩
  | .hbm, ⟨86, _⟩ => ⟨S_, .f32⟩
  | .hbm, ⟨87, _⟩ => ⟨S4x128, .f32⟩
  | .hbm, ⟨88, _⟩ => ⟨S_, .f32⟩
  | .hbm, ⟨89, _⟩ => ⟨S4x128, .f32⟩
  | .hbm, ⟨90, _⟩ => ⟨S1x4x128, .f32⟩
  | .hbm, ⟨91, _⟩ => ⟨S_, .f32⟩
  | .hbm, ⟨92, _⟩ => ⟨S4x128, .f32⟩
  | .hbm, ⟨93, _⟩ => ⟨S4x128x8192, .f32⟩
  | .hbm, ⟨94, _⟩ => ⟨S4x8192x128, .f32⟩
  | .hbm, ⟨95, _⟩ => ⟨S8192x4x128, .f32⟩
  | .hbm, ⟨96, _⟩ => ⟨S4x128x128, .f32⟩
  | .hbm, ⟨97, _⟩ => ⟨S4x128x128, .f32⟩
  | .hbm, ⟨98, _⟩ => ⟨S8192x4x128, .f32⟩
  | .hbm, ⟨99, _⟩ => ⟨S8192x4x128, .f32⟩
  | .hbm, ⟨100, _⟩ => ⟨S8192x4x128, .f32⟩
  | .hbm, ⟨101, _⟩ => ⟨S8192x4x128, .f32⟩
  | .hbm, ⟨102, _⟩ => ⟨S_, .f32⟩
  | .hbm, ⟨103, _⟩ => ⟨S8193x4x128, .f32⟩
  | .hbm, ⟨104, _⟩ => ⟨S8193x4x128, .f32⟩
  | .hbm, ⟨105, _⟩ => ⟨S_, .f32⟩
  | .hbm, ⟨106, _⟩ => ⟨S8193x4x128, .f32⟩
  | .hbm, ⟨107, _⟩ => ⟨S8193x4x128, .f32⟩
  | .hbm, ⟨108, _⟩ => ⟨S1x4x128, .f32⟩
  | .hbm, ⟨109, _⟩ => ⟨S8192x4x128, .f32⟩
  | .hbm, ⟨110, _⟩ => ⟨S_, .f32⟩
  | .hbm, ⟨111, _⟩ => ⟨S_, .f32⟩
  | .hbm, ⟨112, _⟩ => ⟨S8192x4x128, .f32⟩
  | .hbm, ⟨113, _⟩ => ⟨S8192x4x128, .f32⟩
  | .hbm, ⟨114, _⟩ => ⟨S8192x512, .f32⟩
  | .hbm, ⟨115, _⟩ => ⟨S8192x512, .bf16⟩
  | .hbm, ⟨116, _⟩ => ⟨S8192x512, .bf16⟩
  | .hbm, ⟨117, _⟩ => ⟨S1x512, .f32⟩
  | .hbm, ⟨118, _⟩ => ⟨S1x512, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_call0_call0_cst : Ref sig .tc := ⟨.hbm, 12, rfl⟩
abbrev main_call0_call0_v0 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_8 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_9 : Ref sig .tc := ⟨.hbm, 86, rfl⟩
abbrev main_v66 : Ref sig .tc := ⟨.hbm, 87, rfl⟩
abbrev main_cst_10 : Ref sig .tc := ⟨.hbm, 88, rfl⟩
abbrev main_v67 : Ref sig .tc := ⟨.hbm, 89, rfl⟩
abbrev main_v68 : Ref sig .tc := ⟨.hbm, 90, rfl⟩
abbrev main_cst_11 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_12 : Ref sig .tc := ⟨.hbm, 102, rfl⟩
abbrev main_v79 : Ref sig .tc := ⟨.hbm, 103, rfl⟩
abbrev main_v80 : Ref sig .tc := ⟨.hbm, 104, rfl⟩
abbrev main_cst_13 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_call1_call0_cst : Ref sig .tc := ⟨.hbm, 110, rfl⟩
abbrev main_call1_call0_v0 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩

abbrev nD : Nat := 1
abbrev τ : Topo := Topo.v7x

variable {F : FTy → Type} [FloatOps F]
-- ==== Kernel2.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S256x1024 : Shape := ⟨2, ![256, 1024]⟩
abbrev S256x2816 : Shape := ⟨2, ![256, 2816]⟩
abbrev S2 : Shape := ⟨1, ![2]⟩
abbrev S256 : Shape := ⟨1, ![256]⟩
abbrev S256x1 : Shape := ⟨2, ![256, 1]⟩
abbrev S256x256 : Shape := ⟨2, ![256, 256]⟩
abbrev S1024 : Shape := ⟨1, ![1024]⟩
abbrev S1 : Shape := ⟨1, ![1]⟩

abbrev nBuf : Space → Nat
  | .hbm => 38
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x2816, .f32⟩
  | .hbm, ⟨25, _⟩ => ⟨S8192x2816, .f32⟩
  | .hbm, ⟨26, _⟩ => ⟨S8192x2816, .bf16⟩
  | .hbm, ⟨27, _⟩ => ⟨S8192x2816, .bf16⟩
  | .hbm, ⟨28, _⟩ => ⟨S2816x1024, .bf16⟩
  | .hbm, ⟨29, _⟩ => ⟨S2816x1024, .f32⟩
  | .hbm, ⟨30, _⟩ => ⟨S2816x1024, .bf16⟩
  | .hbm, ⟨31, _⟩ => ⟨S2816x1024, .f32⟩
  | .hbm, ⟨32, _⟩ => ⟨S2816x1024, .bf16⟩
  | .hbm, ⟨33, _⟩ => ⟨S8192x1024, .f32⟩
  | .hbm, ⟨34, _⟩ => ⟨S1x1024, .f32⟩
  | .hbm, ⟨35, _⟩ => ⟨S1x1024, .f32⟩
  | .hbm, ⟨36, _⟩ => ⟨S2816x1024, .f32⟩
  | .hbm, ⟨37, _⟩ => ⟨S2816x1024, .f32⟩
  | .local _ .vmem, ⟨0, _⟩ => ⟨S256x1024, .f32⟩
  | .local _ .vmem, ⟨1, _⟩ => ⟨S256x1024, .f32⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x1024, .f32⟩
  | .local _ .vmem, ⟨7, _⟩ => ⟨S256x1024, .f32⟩
  | .local _ .vmem, ⟨8, _⟩ => ⟨S2816x1024, .bf16⟩
  | .local _ .vmem, ⟨9, _⟩ => ⟨S2816x1024, .bf16⟩
  | .local _ .vmem, ⟨10, _⟩ => ⟨S2816x1024, .bf16⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S1x1024, .f32⟩
  | .local _ .vmem, ⟨16, _⟩ => ⟨S256x2816, .bf16⟩
  | .local _ .vmem, ⟨17, _⟩ => ⟨S256x2816, .bf16⟩
  | .local _ .vmem, ⟨18, _⟩ => ⟨S2816x1024, .f32⟩
  | .local _ .vmem, ⟨19, _⟩ => ⟨S2816x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23_0 : Ref sig .tc := ⟨.hbm, 33, rfl⟩
abbrev main_v23_1 : Ref sig .tc := ⟨.hbm, 34, rfl⟩
abbrev main_v23_2 : Ref sig .tc := ⟨.hbm, 35, rfl⟩
abbrev main_v23_3 : Ref sig .tc := ⟨.hbm, 36, rfl⟩
abbrev main_v23_4 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S1024 : Shape := ⟨1, ![1024]⟩

abbrev nBuf : Space → Nat
  | .hbm => 91
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S2816x1024, .f32⟩
  | .hbm, ⟨52, _⟩ => ⟨S1024x2816, .f32⟩
  | .hbm, ⟨53, _⟩ => ⟨S8192x1024, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S2816x1024, .f32⟩
  | .hbm, ⟨59, _⟩ => ⟨S1024x2816, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S_, .f32⟩
  | .hbm, ⟨70, _⟩ => ⟨S8192, .f32⟩
  | .hbm, ⟨71, _⟩ => ⟨S8192x1, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S_, .f32⟩
  | .hbm, ⟨80, _⟩ => ⟨S8192, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S_, .f32⟩
  | .hbm, ⟨87, _⟩ => ⟨S1024, .f32⟩
  | .hbm, ⟨88, _⟩ => ⟨S1x1024, .f32⟩
  | .hbm, ⟨89, _⟩ => ⟨S2816x1024, .f32⟩
  | .hbm, ⟨90, _⟩ => ⟨S2816x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v18_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v18_1 : Ref sig .tc := ⟨.hbm, 40, rfl⟩
abbrev main_v18_0 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_3 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_4 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_5 : Ref sig .tc := ⟨.hbm, 76, rfl⟩
abbrev main_v48 : Ref sig .tc := ⟨.hbm, 77, rfl⟩
abbrev main_v49 : Ref sig .tc := ⟨.hbm, 78, rfl⟩
abbrev main_cst_6 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_7 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩

abbrev nD : Nat := 1
abbrev τ : Topo := Topo.v7x

variable {F : FTy → Type} [FloatOps F]
-- ==== Kernel3.lean ====
abbrev S8192x512 : Shape := ⟨2, ![8192, 512]⟩
abbrev S8192x128 : Shape := ⟨2, ![8192, 128]⟩
abbrev S8192x1024 : Shape := ⟨2, ![8192, 1024]⟩
abbrev S1x1024 : Shape := ⟨2, ![1, 1024]⟩
abbrev S1x1024x1280 : Shape := ⟨3, ![1, 1024, 1280]⟩
abbrev S1x1280 : Shape := ⟨2, ![1, 1280]⟩
abbrev S2 : Shape := ⟨1, ![2]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S2x32 : Shape := ⟨2, ![2, 32]⟩
abbrev S64 : Shape := ⟨1, ![64]⟩
abbrev S1x64 : Shape := ⟨2, ![1, 64]⟩
abbrev S2x64 : Shape := ⟨2, ![2, 64]⟩
abbrev S512 : Shape := ⟨1, ![512]⟩
abbrev S512x1 : Shape := ⟨2, ![512, 1]⟩
abbrev S1x128 : Shape := ⟨2, ![1, 128]⟩
abbrev S512x128 : Shape := ⟨2, ![512, 128]⟩
abbrev S16 : Shape := ⟨1, ![16]⟩
abbrev S16x1 : Shape := ⟨2, ![16, 1]⟩
abbrev S16x128 : Shape := ⟨2, ![16, 128]⟩
abbrev S1x512x128 : Shape := ⟨3, ![1, 512, 128]⟩
abbrev S4x512x128 : Shape := ⟨3, ![4, 512, 128]⟩
abbrev S16x1x128 : Shape := ⟨3, ![16, 1, 128]⟩
abbrev S16x2x128 : Shape := ⟨3, ![16, 2, 128]⟩
abbrev S1024x1280 : Shape := ⟨2, ![1024, 1280]⟩
abbrev S1280x1024 : Shape := ⟨2, ![1280, 1024]⟩
abbrev S512x512 : Shape := ⟨2, ![512, 512]⟩
abbrev S1x2x128 : Shape := ⟨3, ![1, 2, 128]⟩
abbrev S512x1024 : Shape := ⟨2, ![512, 1024]⟩
abbrev S2x128 : Shape := ⟨2, ![2, 128]⟩
abbrev S256x512 : Shape := ⟨2, ![256, 512]⟩
abbrev S256x128 : Shape := ⟨2, ![256, 128]⟩
abbrev S256x1280 : Shape := ⟨2, ![256, 1280]⟩
abbrev S1280 : Shape := ⟨1, ![1280]⟩
abbrev S256x1024 : Shape := ⟨2, ![256, 1024]⟩
abbrev S256 : Shape := ⟨1, ![256]⟩
abbrev S256x1 : Shape := ⟨2, ![256, 1]⟩
abbrev S512x1280 : Shape := ⟨2, ![512, 1280]⟩
abbrev S512x256 : Shape := ⟨2, ![512, 256]⟩
abbrev S1024 : Shape := ⟨1, ![1024]⟩

abbrev nBuf : Space → Nat
  | .hbm => 78
  | .vmem => 22
  | .smem => 0
  | _ => 0

abbrev bufTy : (tb : Table) → Fin (tcTables nBuf tb) → BufTy
  | .hbm, ⟨0, _⟩ => ⟨S8192x512, .f32⟩
  | .hbm, ⟨1, _⟩ => ⟨S8192x128, .f32⟩
  | .hbm, ⟨2, _⟩ => ⟨S8192x128, .f32⟩
  | .hbm, ⟨3, _⟩ => ⟨S8192x512, .f32⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S1x1024x1280, .f32⟩
  | .hbm, ⟨8, _⟩ => ⟨S1x1280, .f32⟩
  | .hbm, ⟨9, _⟩ => ⟨S2, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S1x32, .f32⟩
  | .hbm, ⟨27, _⟩ => ⟨S4x32, .f32⟩
  | .hbm, ⟨28, _⟩ => ⟨S128, .f32⟩
  | .hbm, ⟨29, _⟩ => ⟨S2x32, .f32⟩
  | .hbm, ⟨30, _⟩ => ⟨S64, .f32⟩
  | .hbm, ⟨31, _⟩ => ⟨S1x64, .f32⟩
  | .hbm, ⟨32, _⟩ => ⟨S2x64, .f32⟩
  | .hbm, ⟨33, _⟩ => ⟨S128, .f32⟩
  | .hbm, ⟨34, _⟩ => ⟨S512, .f32⟩
  | .hbm, ⟨35, _⟩ => ⟨S512x1, .f32⟩
  | .hbm, ⟨36, _⟩ => ⟨S1x128, .f32⟩
  | .hbm, ⟨37, _⟩ => ⟨S512x128, .f32⟩
  | .hbm, ⟨38, _⟩ => ⟨S512x128, .f32⟩
  | .hbm, ⟨39, _⟩ => ⟨S512x128, .f32⟩
  | .hbm, ⟨40, _⟩ => ⟨S16, .f32⟩
  | .hbm, ⟨41, _⟩ => ⟨S_, .f32⟩
  | .hbm, ⟨42, _⟩ => ⟨S16, .f32⟩
  | .hbm, ⟨43, _⟩ => ⟨S16, .f32⟩
  | .hbm, ⟨44, _⟩ => ⟨S_, .f32⟩
  | .hbm, ⟨45, _⟩ => ⟨S16, .f32⟩
  | .hbm, ⟨46, _⟩ => ⟨S16, .f32⟩
  | .hbm, ⟨47, _⟩ => ⟨S16x1, .f32⟩
  | .hbm, ⟨48, _⟩ => ⟨S1x128, .f32⟩
  | .hbm, ⟨49, _⟩ => ⟨S16x128, .f32⟩
  | .hbm, ⟨50, _⟩ => ⟨S16x128, .f32⟩
  | .hbm, ⟨51, _⟩ => ⟨S16x128, .f32⟩
  | .hbm, ⟨52, _⟩ => ⟨S512x128, .f32⟩
  | .hbm, ⟨53, _⟩ => ⟨S512x128, .f32⟩
  | .hbm, ⟨54, _⟩ => ⟨S1x128, .f32⟩
  | .hbm, ⟨55, _⟩ => ⟨S512x128, .f32⟩
  | .hbm, ⟨56, _⟩ => ⟨S512x128, .f32⟩
  | .hbm, ⟨57, _⟩ => ⟨S1x128, .f32⟩
  | .hbm, ⟨58, _⟩ => ⟨S512x128, .f32⟩
  | .hbm, ⟨59, _⟩ => ⟨S512x128, .f32⟩
  | .hbm, ⟨60, _⟩ => ⟨S1x512x128, .f32⟩
  | .hbm, ⟨61, _⟩ => ⟨S1x512x128, .f32⟩
  | .hbm, ⟨62, _⟩ => ⟨S1x512x128, .f32⟩
  | .hbm, ⟨63, _⟩ => ⟨S1x512x128, .f32⟩
  | .hbm, ⟨64, _⟩ => ⟨S4x512x128, .f32⟩
  | .hbm, ⟨65, _⟩ => ⟨S16x128, .f32⟩
  | .hbm, ⟨66, _⟩ => ⟨S16x128, .f32⟩
  | .hbm, ⟨67, _⟩ => ⟨S16x1x128, .f32⟩
  | .hbm, ⟨68, _⟩ => ⟨S16x1x128, .f32⟩
  | .hbm, ⟨69, _⟩ => ⟨S16x2x128, .f32⟩
  | .hbm, ⟨70, _⟩ => ⟨S8192x512, .bf16⟩
  | .hbm, ⟨71, _⟩ => ⟨S1024x1280, .f32⟩
  | .hbm, ⟨72, _⟩ => ⟨S1280x1024, .f32⟩
  | .hbm, ⟨73, _⟩ => ⟨S1280x1024, .bf16⟩
  | .hbm, ⟨74, _⟩ => ⟨S8192x1024, .f32⟩
  | .hbm, ⟨75, _⟩ => ⟨S1280x1024, .f32⟩
  | .hbm, ⟨76, _⟩ => ⟨S1x1280, .f32⟩
  | .hbm, ⟨77, _⟩ => ⟨S1x1024, .f32⟩
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x512, .bf16⟩
  | .local _ .vmem, ⟨7, _⟩ => ⟨S512x512, .bf16⟩
  | .local _ .vmem, ⟨8, _⟩ => ⟨S4x512x128, .f32⟩
  | .local _ .vmem, ⟨9, _⟩ => ⟨S1x2x128, .f32⟩
  | .local _ .vmem, ⟨10, _⟩ => ⟨S1x2x128, .f32⟩
  | .local _ .vmem, ⟨11, _⟩ => ⟨S1280x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S1280x1024, .f32⟩
  | .local _ .vmem, ⟨20, _⟩ => ⟨S1x1280, .f32⟩
  | .local _ .vmem, ⟨21, _⟩ => ⟨S1x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_cst_1 : Ref sig .tc := ⟨.hbm, 14, rfl⟩
abbrev main_v3 : Ref sig .tc := ⟨.hbm, 15, rfl⟩
abbrev main_v4 : Ref sig .tc := ⟨.hbm, 16, rfl⟩
abbrev main_cst_2 : Ref sig .tc := ⟨.hbm, 17, rfl⟩
abbrev main_v5 : Ref sig .tc := ⟨.hbm, 18, rfl⟩
abbrev main_v6 : Ref sig .tc := ⟨.hbm, 19, rfl⟩
abbrev main_cst_3 : Ref sig .tc := ⟨.hbm, 20, rfl⟩
abbrev main_v7 : Ref sig .tc := ⟨.hbm, 21, rfl⟩
abbrev main_v8 : Ref sig .tc := ⟨.hbm, 22, rfl⟩
abbrev main_cst_4 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57_0 : Ref sig .tc := ⟨.hbm, 74, rfl⟩
abbrev main_v57_1 : Ref sig .tc := ⟨.hbm, 75, rfl⟩
abbrev main_v57_2 : Ref sig .tc := ⟨.hbm, 76, rfl⟩
abbrev main_v57_3 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1280x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1280x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1280 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference3Ideal.lean ====
abbrev S8192x512 : Shape := ⟨2, ![8192, 512]⟩
abbrev S8192x128 : Shape := ⟨2, ![8192, 128]⟩
abbrev S8192x1024 : Shape := ⟨2, ![8192, 1024]⟩
abbrev S1x1024 : Shape := ⟨2, ![1, 1024]⟩
abbrev S1x1024x1280 : Shape := ⟨3, ![1, 1024, 1280]⟩
abbrev S1x1280 : Shape := ⟨2, ![1, 1280]⟩
abbrev S1024x1280 : Shape := ⟨2, ![1024, 1280]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S8192x1280 : Shape := ⟨2, ![8192, 1280]⟩
abbrev S8192x8x64 : Shape := ⟨3, ![8192, 8, 64]⟩
abbrev S8192x2x64 : Shape := ⟨3, ![8192, 2, 64]⟩
abbrev S8192x8x32 : Shape := ⟨3, ![8192, 8, 32]⟩
abbrev S8192x1x32 : Shape := ⟨3, ![8192, 1, 32]⟩
abbrev S8192x2x32 : Shape := ⟨3, ![8192, 2, 32]⟩
abbrev S1280 : Shape := ⟨1, ![1280]⟩
abbrev S1280x1024 : Shape := ⟨2, ![1280, 1024]⟩
abbrev S1024 : Shape := ⟨1, ![1024]⟩

abbrev nBuf : Space → Nat
  | .hbm => 168
  | .vmem => 0
  | .smem => 0
  | _ => 0

abbrev hbmTy0_0 (i : Nat) : BufTy := match i % 128 with
  | 0 => ⟨S8192x512, .f32⟩
  | 1 => ⟨S8192x128, .f32⟩
  | 2 => ⟨S8192x128, .f32⟩
  | 3 => ⟨S8192x512, .f32⟩
  | 4 => ⟨S8192x1024, .f32⟩
  | 5 => ⟨S8192x1024, .f32⟩
  | 6 => ⟨S1x1024, .f32⟩
  | 7 => ⟨S1x1024x1280, .f32⟩
  | 8 => ⟨S1x1280, .f32⟩
  | 9 => ⟨S1024x1280, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S_, .f32⟩
  | 24 => ⟨S32, .f32⟩
  | 25 => ⟨S32, .f32⟩
  | 26 => ⟨S8192, .f32⟩
  | 27 => ⟨S8192x1, .f32⟩
  | 28 => ⟨S1x32, .f32⟩
  | 29 => ⟨S8192x32, .f32⟩
  | 30 => ⟨S8192x32, .f32⟩
  | 31 => ⟨S8192x32, .f32⟩
  | 32 => ⟨S8192x32, .f32⟩
  | 33 => ⟨S8192x32, .f32⟩
  | 34 => ⟨S8192x1024, .f32⟩
  | 35 => ⟨S_, .f32⟩
  | 36 => ⟨S8192, .f32⟩
  | 37 => ⟨S8192x1, .f32⟩
  | 38 => ⟨S_, .f32⟩
  | 39 => ⟨S8192x1, .f32⟩
  | 40 => ⟨S8192x1, .f32⟩
  | 41 => ⟨S_, .f32⟩
  | 42 => ⟨S8192x1, .f32⟩
  | 43 => ⟨S8192x1, .f32⟩
  | 44 => ⟨S8192x1, .f32⟩
  | 45 => ⟨S8192x1, .f32⟩
  | 46 => ⟨S_, .f32⟩
  | 47 => ⟨S8192x1, .f32⟩
  | 48 => ⟨S8192x1, .f32⟩
  | 49 => ⟨S8192x1024, .f32⟩
  | 50 => ⟨S8192x1024, .f32⟩
  | 51 => ⟨S8192x1024, .f32⟩
  | 52 => ⟨S8192x1024, .f32⟩
  | 53 => ⟨S8192x1280, .f32⟩
  | 54 => ⟨S8192x1280, .f32⟩
  | 55 => ⟨S8192x1280, .f32⟩
  | 56 => ⟨S8192x512, .f32⟩
  | 57 => ⟨S8192x8x64, .f32⟩
  | 58 => ⟨S8192x128, .f32⟩
  | 59 => ⟨S8192x2x64, .f32⟩
  | 60 => ⟨S8192x128, .f32⟩
  | 61 => ⟨S8192x512, .f32⟩
  | 62 => ⟨S8192x8x32, .f32⟩
  | 63 => ⟨S8192x8x32, .f32⟩
  | 64 => ⟨S8192x1x32, .f32⟩
  | 65 => ⟨S8192x1x32, .f32⟩
  | 66 => ⟨S8192x8x32, .f32⟩
  | 67 => ⟨S8192x8x32, .f32⟩
  | 68 => ⟨S8192x8x32, .f32⟩
  | 69 => ⟨S8192x8x32, .f32⟩
  | 70 => ⟨S8192x8x32, .f32⟩
  | 71 => ⟨S8192x8x32, .f32⟩
  | 72 => ⟨S8192x8x32, .f32⟩
  | 73 => ⟨S8192x8x32, .f32⟩
  | 74 => ⟨S8192x8x32, .f32⟩
  | 75 => ⟨S8192x8x32, .f32⟩
  | 76 => ⟨S8192x8x64, .f32⟩
  | 77 => ⟨S8192x512, .f32⟩
  | 78 => ⟨S8192x2x32, .f32⟩
  | 79 => ⟨S8192x2x32, .f32⟩
  | 80 => ⟨S8192x1x32, .f32⟩
  | 81 => ⟨S8192x1x32, .f32⟩
  | 82 => ⟨S8192x2x32, .f32⟩
  | 83 => ⟨S8192x2x32, .f32⟩
  | 84 => ⟨S8192x2x32, .f32⟩
  | 85 => ⟨S8192x2x32, .f32⟩
  | 86 => ⟨S8192x2x32, .f32⟩
  | 87 => ⟨S8192x2x32, .f32⟩
  | 88 => ⟨S8192x2x32, .f32⟩
  | 89 => ⟨S8192x2x32, .f32⟩
  | 90 => ⟨S8192x2x32, .f32⟩
  | 91 => ⟨S8192x2x32, .f32⟩
  | 92 => ⟨S8192x2x64, .f32⟩
  | 93 => ⟨S8192x128, .f32⟩
  | 94 => ⟨S8192x2x64, .f32⟩
  | 95 => ⟨S8192x2x32, .f32⟩
  | 96 => ⟨S8192x2x32, .f32⟩
  | 97 => ⟨S8192x2x32, .f32⟩
  | 98 => ⟨S8192x2x32, .f32⟩
  | 99 => ⟨S8192x2x32, .f32⟩
  | 100 => ⟨S8192x2x32, .f32⟩
  | 101 => ⟨S8192x2x32, .f32⟩
  | 102 => ⟨S8192x2x32, .f32⟩
  | 103 => ⟨S8192x2x32, .f32⟩
  | 104 => ⟨S8192x2x32, .f32⟩
  | 105 => ⟨S8192x2x32, .f32⟩
  | 106 => ⟨S8192x2x32, .f32⟩
  | 107 => ⟨S8192x2x32, .f32⟩
  | 108 => ⟨S8192x2x64, .f32⟩
  | 109 => ⟨S8192x8x64, .f32⟩
  | 110 => ⟨S8192x8x32, .f32⟩
  | 111 => ⟨S8192x8x32, .f32⟩
  | 112 => ⟨S8192x8x32, .f32⟩
  | 113 => ⟨S8192x8x32, .f32⟩
  | 114 => ⟨S8192x8x32, .f32⟩
  | 115 => ⟨S8192x8x32, .f32⟩
  | 116 => ⟨S8192x8x32, .f32⟩
  | 117 => ⟨S8192x8x32, .f32⟩
  | 118 => ⟨S8192x8x32, .f32⟩
  | 119 => ⟨S8192x8x32, .f32⟩
  | 120 => ⟨S8192x8x32, .f32⟩
  | 121 => ⟨S8192x8x32, .f32⟩
  | 122 => ⟨S8192x8x32, .f32⟩
  | 123 => ⟨S8192x8x64, .f32⟩
  | 124 => ⟨S_, .f32⟩
  | 125 => ⟨S8192x1280, .f32⟩
  | 126 => ⟨S_, .f32⟩
  | 127 => ⟨S8192x1280, .f32⟩
  | _ => ⟨S8192x512, .f32⟩

abbrev hbmTy0_1 (i : Nat) : BufTy := match i % 128 with
  | 0 => ⟨S8192x1280, .f32⟩
  | 1 => ⟨S8192x128, .f32⟩
  | 2 => ⟨S_, .f32⟩
  | 3 => ⟨S8192x1280, .f32⟩
  | 4 => ⟨S8192x1280, .f32⟩
  | 5 => ⟨S8192x512, .f32⟩
  | 6 => ⟨S_, .f32⟩
  | 7 => ⟨S8192x1280, .f32⟩
  | 8 => ⟨S8192x1280, .f32⟩
  | 9 => ⟨S_, .f32⟩
  | 10 => ⟨S1280, .f32⟩
  | 11 => ⟨S1x1280, .f32⟩
  | 12 => ⟨S1280x1024, .f32⟩
  | 13 => ⟨S1024x1280, .f32⟩
  | 14 => ⟨S8192x1024, .f32⟩
  | 15 => ⟨S8192x1024, .f32⟩
  | 16 => ⟨S_, .f32⟩
  | 17 => ⟨S1024, .f32⟩
  | 18 => ⟨S1x1024, .f32⟩
  | 19 => ⟨S8192x1024, .f32⟩
  | 20 => ⟨S8192x1024, .f32⟩
  | 21 => ⟨S8192x1024, .f32⟩
  | 22 => ⟨S_, .f32⟩
  | 23 => ⟨S8192, .f32⟩
  | 24 => ⟨S8192x1, .f32⟩
  | 25 => ⟨S8192x1024, .f32⟩
  | 26 => ⟨S8192x1024, .f32⟩
  | 27 => ⟨S8192x1024, .f32⟩
  | 28 => ⟨S8192x1, .f32⟩
  | 29 => ⟨S_, .f32⟩
  | 30 => ⟨S8192x1, .f32⟩
  | 31 => ⟨S8192x1, .f32⟩
  | 32 => ⟨S_, .f32⟩
  | 33 => ⟨S8192, .f32⟩
  | 34 => ⟨S8192x1024, .f32⟩
  | 35 => ⟨S8192x1024, .f32⟩
  | 36 => ⟨S8192x1024, .f32⟩
  | 37 => ⟨S8192x1024, .f32⟩
  | 38 => ⟨S8192x1024, .f32⟩
  | 39 => ⟨S1280x1024, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_cst_3 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_cst_5 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_cst_8 : Ref sig .tc := ⟨.hbm, 124, rfl⟩
abbrev main_v106 : Ref sig .tc := ⟨.hbm, 125, rfl⟩
abbrev main_cst_9 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_cst_10 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_cst_11 : Ref sig .tc := ⟨.hbm, 134, rfl⟩
abbrev main_v113 : Ref sig .tc := ⟨.hbm, 135, rfl⟩
abbrev main_v114 : Ref sig .tc := ⟨.hbm, 136, rfl⟩
abbrev main_cst_12 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_cst_13 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_cst_14 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_cst_15 : Ref sig .tc := ⟨.hbm, 157, rfl⟩
abbrev main_v132 : Ref sig .tc := ⟨.hbm, 158, rfl⟩
abbrev main_v133 : Ref sig .tc := ⟨.hbm, 159, rfl⟩
abbrev main_cst_16 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩

abbrev nD : Nat := 1
abbrev τ : Topo := Topo.v7x

variable {F : FTy → Type} [FloatOps F]
-- ==== Kernel4.lean ====
abbrev S8192x512 : Shape := ⟨2, ![8192, 512]⟩
abbrev S1024x1024 : Shape := ⟨2, ![1024, 1024]⟩
abbrev S1x1024 : Shape := ⟨2, ![1, 1024]⟩
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S512x512 : Shape := ⟨2, ![512, 512]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩

abbrev nBuf : Space → Nat
  | .hbm => 19
  | .vmem => 19
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1024x1024, .f32⟩
  | .hbm, ⟨3, _⟩ => ⟨S1x1024, .f32⟩
  | .hbm, ⟨4, _⟩ => ⟨S8192x1024, .f32⟩
  | .hbm, ⟨5, _⟩ => ⟨S1x1024, .f32⟩
  | .hbm, ⟨6, _⟩ => ⟨S1024x2816, .f32⟩
  | .hbm, ⟨7, _⟩ => ⟨S1024x2816, .f32⟩
  | .hbm, ⟨8, _⟩ => ⟨S8192x512, .bf16⟩
  | .hbm, ⟨9, _⟩ => ⟨S8192x512, .bf16⟩
  | .hbm, ⟨10, _⟩ => ⟨S1024x1024, .bf16⟩
  | .hbm, ⟨11, _⟩ => ⟨S2816x1024, .f32⟩
  | .hbm, ⟨12, _⟩ => ⟨S2816x1024, .bf16⟩
  | .hbm, ⟨13, _⟩ => ⟨S2816x1024, .f32⟩
  | .hbm, ⟨14, _⟩ => ⟨S2816x1024, .bf16⟩
  | .hbm, ⟨15, _⟩ => ⟨S8192x1024, .f32⟩
  | .hbm, ⟨16, _⟩ => ⟨S8192x2816, .bf16⟩
  | .hbm, ⟨17, _⟩ => ⟨S8192x2816, .bf16⟩
  | .hbm, ⟨18, _⟩ => ⟨S8192x2816, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S2816x1024, .bf16⟩
  | .local _ .vmem, ⟨10, _⟩ => ⟨S2816x1024, .bf16⟩
  | .local _ .vmem, ⟨11, _⟩ => ⟨S512x1024, .f32⟩
  | .local _ .vmem, ⟨12, _⟩ => ⟨S512x1024, .f32⟩
  | .local _ .vmem, ⟨13, _⟩ => ⟨S512x2816, .bf16⟩
  | .local _ .vmem, ⟨14, _⟩ => ⟨S512x2816, .bf16⟩
  | .local _ .vmem, ⟨15, _⟩ => ⟨S512x2816, .bf16⟩
  | .local _ .vmem, ⟨16, _⟩ => ⟨S512x2816, .bf16⟩
  | .local _ .vmem, ⟨17, _⟩ => ⟨S512x2816, .bf16⟩
  | .local _ .vmem, ⟨18, _⟩ => ⟨S512x2816, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S8192x512 : Shape := ⟨2, ![8192, 512]⟩
abbrev S1024x1024 : Shape := ⟨2, ![1024, 1024]⟩
abbrev S1x1024 : Shape := ⟨2, ![1, 1024]⟩
abbrev S8192x1024 : Shape := ⟨2, ![8192, 1024]⟩
abbrev S1024x2816 : Shape := ⟨2, ![1024, 2816]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩

abbrev nBuf : Space → Nat
  | .hbm => 43
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1024x1024, .f32⟩
  | .hbm, ⟨3, _⟩ => ⟨S1x1024, .f32⟩
  | .hbm, ⟨4, _⟩ => ⟨S8192x1024, .f32⟩
  | .hbm, ⟨5, _⟩ => ⟨S1x1024, .f32⟩
  | .hbm, ⟨6, _⟩ => ⟨S1024x2816, .f32⟩
  | .hbm, ⟨7, _⟩ => ⟨S1024x2816, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x2816, .f32⟩
  | .hbm, ⟨29, _⟩ => ⟨S8192x2816, .f32⟩
  | .hbm, ⟨30, _⟩ => ⟨S8192x2816, .bf16⟩
  | .hbm, ⟨31, _⟩ => ⟨S8192x2816, .bf16⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩

abbrev nD : Nat := 1
abbrev τ : Topo := Topo.v7x

variable {F : FTy → Type} [FloatOps F]
-- ==== Kernel5.lean ====
abbrev S352x1024 : Shape := ⟨2, ![352, 1024]⟩
abbrev S1056x1024 : Shape := ⟨2, ![1056, 1024]⟩
abbrev S8x128 : Shape := ⟨2, ![8, 128]⟩

abbrev nBuf : Space → Nat
  | .hbm => 10
  | .vmem => 9
  | .smem => 0
  | _ => 0

abbrev bufTy : (tb : Table) → Fin (tcTables nBuf tb) → BufTy
  | .hbm, ⟨0, _⟩ => ⟨S352x1024, .f32⟩
  | .hbm, ⟨1, _⟩ => ⟨S1056x1024, .bf16⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S8x128, .f32⟩
  | .hbm, ⟨6, _⟩ => ⟨S352x1024, .f32⟩
  | .hbm, ⟨7, _⟩ => ⟨S352x1024, .f32⟩
  | .hbm, ⟨8, _⟩ => ⟨S352x1024, .f32⟩
  | .hbm, ⟨9, _⟩ => ⟨S352x1024, .f32⟩
  | .local _ .vmem, ⟨0, _⟩ => ⟨S352x1024, .f32⟩
  | .local _ .vmem, ⟨1, _⟩ => ⟨S1056x1024, .bf16⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1056x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S352x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Reference5Ideal.lean ====
abbrev S352x1024 : Shape := ⟨2, ![352, 1024]⟩
abbrev S1056x1024 : Shape := ⟨2, ![1056, 1024]⟩
abbrev S8x128 : Shape := ⟨2, ![8, 128]⟩
abbrev S3x352x1024 : Shape := ⟨3, ![3, 352, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S1056x1024, .bf16⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S8x128, .f32⟩
  | .hbm, ⟨6, _⟩ => ⟨S1056x1024, .f32⟩
  | .hbm, ⟨7, _⟩ => ⟨S3x352x1024, .f32⟩
  | .hbm, ⟨8, _⟩ => ⟨S_, .f32⟩
  | .hbm, ⟨9, _⟩ => ⟨S352x1024, .f32⟩
  | .hbm, ⟨10, _⟩ => ⟨S352x1024, .f32⟩
  | .hbm, ⟨11, _⟩ => ⟨S_, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S352x1024, .f32⟩
  | .hbm, ⟨26, _⟩ => ⟨S_, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | .hbm, ⟨40, _⟩ => ⟨S352x1024, .f32⟩
  | .hbm, ⟨41, _⟩ => ⟨S_, .f32⟩
  | .hbm, ⟨42, _⟩ => ⟨S352x1024, .f32⟩
  | .hbm, ⟨43, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Kernel6.lean ====
abbrev S4096x128 : Shape := ⟨2, ![4096, 128]⟩
abbrev S384x128 : Shape := ⟨2, ![384, 128]⟩
abbrev S256x128 : Shape := ⟨2, ![256, 128]⟩
abbrev S592x128 : Shape := ⟨2, ![592, 128]⟩
abbrev S512x128 : Shape := ⟨2, ![512, 128]⟩
abbrev S48x128 : Shape := ⟨2, ![48, 128]⟩
abbrev S32x128 : Shape := ⟨2, ![32, 128]⟩

abbrev nBuf : Space → Nat
  | .hbm => 10
  | .vmem => 10
  | .smem => 0
  | _ => 0

abbrev bufTy : (tb : Table) → Fin (tcTables nBuf tb) → BufTy
  | .hbm, ⟨0, _⟩ => ⟨S4096x128, .bf16⟩
  | .hbm, ⟨1, _⟩ => ⟨S384x128, .f32⟩
  | .hbm, ⟨2, _⟩ => ⟨S256x128, .f32⟩
  | .hbm, ⟨3, _⟩ => ⟨S592x128, .f32⟩
  | .hbm, ⟨4, _⟩ => ⟨S592x128, .f32⟩
  | .hbm, ⟨5, _⟩ => ⟨S592x128, .f32⟩
  | .hbm, ⟨6, _⟩ => ⟨S592x128, .f32⟩
  | .hbm, ⟨7, _⟩ => ⟨S592x128, .f32⟩
  | .hbm, ⟨8, _⟩ => ⟨S592x128, .f32⟩
  | .hbm, ⟨9, _⟩ => ⟨S592x128, .f32⟩
  | .local _ .vmem, ⟨0, _⟩ => ⟨S4096x128, .bf16⟩
  | .local _ .vmem, ⟨1, _⟩ => ⟨S384x128, .f32⟩
  | .local _ .vmem, ⟨2, _⟩ => ⟨S256x128, .f32⟩
  | .local _ .vmem, ⟨3, _⟩ => ⟨S592x128, .f32⟩
  | .local _ .vmem, ⟨4, _⟩ => ⟨S592x128, .f32⟩
  | .local _ .vmem, ⟨5, _⟩ => ⟨S592x128, .f32⟩
  | .local _ .vmem, ⟨6, _⟩ => ⟨S592x128, .f32⟩
  | .local _ .vmem, ⟨7, _⟩ => ⟨S592x128, .f32⟩
  | .local _ .vmem, ⟨8, _⟩ => ⟨S592x128, .f32⟩
  | .local _ .vmem, ⟨9, _⟩ => ⟨S592x128, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S592x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S592x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S592x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S592x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S592x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S592x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S592x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Reference6Ideal.lean ====
abbrev S4096x128 : Shape := ⟨2, ![4096, 128]⟩
abbrev S384x128 : Shape := ⟨2, ![384, 128]⟩
abbrev S256x128 : Shape := ⟨2, ![256, 128]⟩
abbrev S592x128 : Shape := ⟨2, ![592, 128]⟩
abbrev S8x512x128 : Shape := ⟨3, ![8, 512, 128]⟩
abbrev S_ : Shape := ⟨0, ![]⟩
abbrev S512x128 : Shape := ⟨2, ![512, 128]⟩
abbrev S8x48x128 : Shape := ⟨3, ![8, 48, 128]⟩
abbrev S48x128 : Shape := ⟨2, ![48, 128]⟩
abbrev S8x32x128 : Shape := ⟨3, ![8, 32, 128]⟩
abbrev S32x128 : Shape := ⟨2, ![32, 128]⟩

abbrev nBuf : Space → Nat
  | .hbm => 50
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S384x128, .f32⟩
  | .hbm, ⟨2, _⟩ => ⟨S256x128, .f32⟩
  | .hbm, ⟨3, _⟩ => ⟨S592x128, .f32⟩
  | .hbm, ⟨4, _⟩ => ⟨S592x128, .f32⟩
  | .hbm, ⟨5, _⟩ => ⟨S592x128, .f32⟩
  | .hbm, ⟨6, _⟩ => ⟨S4096x128, .f32⟩
  | .hbm, ⟨7, _⟩ => ⟨S8x512x128, .f32⟩
  | .hbm, ⟨8, _⟩ => ⟨S_, .f32⟩
  | .hbm, ⟨9, _⟩ => ⟨S512x128, .f32⟩
  | .hbm, ⟨10, _⟩ => ⟨S8x48x128, .f32⟩
  | .hbm, ⟨11, _⟩ => ⟨S_, .f32⟩
  | .hbm, ⟨12, _⟩ => ⟨S48x128, .f32⟩
  | .hbm, ⟨13, _⟩ => ⟨S8x32x128, .f32⟩
  | .hbm, ⟨14, _⟩ => ⟨S_, .f32⟩
  | .hbm, ⟨15, _⟩ => ⟨S32x128, .f32⟩
  | .hbm, ⟨16, _⟩ => ⟨S592x128, .f32⟩
  | .hbm, ⟨17, _⟩ => ⟨S_, .f32⟩
  | .hbm, ⟨18, _⟩ => ⟨S592x128, .f32⟩
  | .hbm, ⟨19, _⟩ => ⟨S592x128, .f32⟩
  | .hbm, ⟨20, _⟩ => ⟨S_, .f32⟩
  | .hbm, ⟨21, _⟩ => ⟨S592x128, .f32⟩
  | .hbm, ⟨22, _⟩ => ⟨S592x128, .f32⟩
  | .hbm, ⟨23, _⟩ => ⟨S592x128, .f32⟩
  | .hbm, ⟨24, _⟩ => ⟨S_, .f32⟩
  | .hbm, ⟨25, _⟩ => ⟨S592x128, .f32⟩
  | .hbm, ⟨26, _⟩ => ⟨S592x128, .f32⟩
  | .hbm, ⟨27, _⟩ => ⟨S592x128, .f32⟩
  | .hbm, ⟨28, _⟩ => ⟨S_, .f32⟩
  | .hbm, ⟨29, _⟩ => ⟨S592x128, .f32⟩
  | .hbm, ⟨30, _⟩ => ⟨S592x128, .f32⟩
  | .hbm, ⟨31, _⟩ => ⟨S592x128, .f32⟩
  | .hbm, ⟨32, _⟩ => ⟨S_, .f32⟩
  | .hbm, ⟨33, _⟩ => ⟨S592x128, .f32⟩
  | .hbm, ⟨34, _⟩ => ⟨S592x128, .f32⟩
  | .hbm, ⟨35, _⟩ => ⟨S_, .f32⟩
  | .hbm, ⟨36, _⟩ => ⟨S592x128, .f32⟩
  | .hbm, ⟨37, _⟩ => ⟨S592x128, .f32⟩
  | .hbm, ⟨38, _⟩ => ⟨S592x128, .f32⟩
  | .hbm, ⟨39, _⟩ => ⟨S_, .f32⟩
  | .hbm, ⟨40, _⟩ => ⟨S592x128, .f32⟩
  | .hbm, ⟨41, _⟩ => ⟨S592x128, .f32⟩
  | .hbm, ⟨42, _⟩ => ⟨S592x128, .f32⟩
  | .hbm, ⟨43, _⟩ => ⟨S_, .f32⟩
  | .hbm, ⟨44, _⟩ => ⟨S592x128, .f32⟩
  | .hbm, ⟨45, _⟩ => ⟨S592x128, .f32⟩
  | .hbm, ⟨46, _⟩ => ⟨S592x128, .f32⟩
  | .hbm, ⟨47, _⟩ => ⟨S_, .f32⟩
  | .hbm, ⟨48, _⟩ => ⟨S592x128, .f32⟩
  | .hbm, ⟨49, _⟩ => ⟨S592x128, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_cst_7 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_8 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_9 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_10 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== Proof.PoolStep.lean ====
/- What one grid point of the pool kernel leaves in each of its buffers, as plain formulas of the blocks it reads.

   A grid point holds 1024 tokens `r`.  `x0` is the block of the output gradient, `x3` the pooled means, `x4` the
   output weights, `x5` the four pooling matrices, `x6`, `x7` the pooling bias and scale.  Column `j` of the 512 pooled
   columns belongs to group `j / 128`. -/
module

public import proofs.«01_k».proof.Proof.Gen.KernelIdeal.Frame
public import Idealize.ShloMosaic.Lib.Pipeline.Value
public import Idealize.ShloMosaic.Lib.Pipeline.ReadBack
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.Pool

open Cert.KernelIdeal Cert.KernelIdeal.Gen

/-! ## The formulas -/

section Formulas

variable (x0 : Vec Ideal S1024x1024 .f32) (x3 : Vec Ideal S1024x512 .bf16) (x4 : Vec Ideal S1024x1024 .bf16)
  (x5 : Vec Ideal S4x128x128 .bf16) (x6 x7 : Vec Ideal S1x512 .f32)

/-- The gradient of the pooled half of the concatenated row. -/
def dy (r : Fin 1024) (j : Fin 512) : EReal := ∑ k : Fin 1024, x0 (ix2 r k) * x4 (ix2 ⟨512 + j.val, by omega⟩ k)

/-- The gradient before the scale. -/
def dpre (r : Fin 1024) (j : Fin 512) : EReal := dy x0 x4 r j * x7 (ix2 0 j)

/-- The pooling projection before the scale. -/
def pre (r : Fin 1024) (j : Fin 512) : EReal :=
  ∑ c : Fin 128, x3 (ix2 r ⟨128 * (j.val / 128) + c.val, by omega⟩) * x5 (ix3 ⟨j.val / 128, by omega⟩ c ⟨j.val % 128, by omega⟩)
    + x6 (ix2 0 j)

/-- The gradient of the pooled means. -/
def dmix (r : Fin 1024) (j : Fin 512) : EReal :=
  ∑ d : Fin 128, dpre x0 x4 x7 r ⟨128 * (j.val / 128) + d.val, by omega⟩
    * x5 (ix3 ⟨j.val / 128, by omega⟩ ⟨j.val % 128, by omega⟩ d)

/-- The running sum of the bias gradient, one point further. -/
def dbStep (acc : Vec Ideal S1x512 .f32) : Vec Ideal S1x512 .f32 := fun y => acc y + ∑ r, dpre x0 x4 x7 r (y 1)

/-- The running sum of the scale gradient, one point further. -/
def dsStep (acc : Vec Ideal S1x512 .f32) : Vec Ideal S1x512 .f32 := fun y =>
  acc y + ∑ r, dy x0 x4 r (y 1) * pre x3 x5 x6 r (y 1)

/-- The running sum of the gradient of the pooling matrices, one point further. -/
def dwpStep (acc : Vec Ideal S4x128x128 .f32) : Vec Ideal S4x128x128 .f32 := fun y =>
  acc y + ∑ r, x3 (ix2 r ⟨128 * (y 0).val + (y 1).val, by have h0 : (y 0).val < 4 := (y 0).isLt; have h1 : (y 1).val < 128 := (y 1).isLt; omega⟩)
    * dpre x0 x4 x7 r ⟨128 * (y 0).val + (y 2).val, by have h0 : (y 0).val < 4 := (y 0).isLt; have h1 : (y 2).val < 128 := (y 2).isLt; omega⟩

/-- The running sum of the gradient of the output weights, one point further. -/
def dwoStep (x1 x2 : Vec Ideal S1024x512 .bf16) (acc : Vec Ideal S1024x1024 .f32) : Vec Ideal S1024x1024 .f32 := fun y =>
  acc y + ∑ r, (if h : (y 0).val < 512 then x1 (ix2 r ⟨(y 0).val, h⟩) else x2 (ix2 r ⟨(y 0).val - 512, by have h0 : (y 0).val < 1024 := (y 0).isLt; omega⟩)) * x0 (ix2 r (y 1))

/-- The gradient of the attention half of the concatenated row. -/
def dattn : Vec Ideal S1024x512 .bf16 := fun y => ∑ k : Fin 1024, x0 (ix2 (y 0) k) * x4 (ix2 ⟨(y 1).val, by have h0 : (y 1).val < 512 := (y 1).isLt; omega⟩ k)

end Formulas

/-! ## Reading a piece list -/

/-- A list of stores that are blocks of `G` and cover an index leaves `G` there. -/
theorem canon_of {S : Shape} {e : EltTy} (G : S.Idx → Elt Ideal e) (L : List (View.Piece (Elt Ideal) S e))
    (h : View.PiecesOf G L) (y : S.Idx) (hc : ∃ p ∈ L, y ∈ p.1.set) : View.canon L y = G y :=
  View.canon_apply_of_pieces G L h.mem y hc

theorem emb_idx {s : Shape} (r : Rect s) (x : r.shape.Idx) : r.emb x = r.toLoadRect.idx x := rfl

theorem hz2 : (![0, 0] : Fin 2 → Nat) = fun _ => 0 := funext fun a => by fin_cases a <;> rfl

/-! The group and the place in its group of a column. -/

theorem grp0 (x : Fin 128) : x.val / 128 = 0 := by omega
theorem grp1 (x : Fin 128) : (128 + x.val) / 128 = 1 := by omega
theorem grp2 (x : Fin 128) : (256 + x.val) / 128 = 2 := by omega
theorem grp3 (x : Fin 128) : (384 + x.val) / 128 = 3 := by omega
theorem lane0 (x : Fin 128) : x.val % 128 = x.val := by omega
theorem lane1 (x : Fin 128) : (128 + x.val) % 128 = x.val := by omega
theorem lane2 (x : Fin 128) : (256 + x.val) % 128 = x.val := by omega
theorem lane3 (x : Fin 128) : (384 + x.val) % 128 = x.val := by omega

/-! ## The later points -/

section Points

variable (c : Dev nD) (i : grid0.Coords) (arg1 : Memref sig .tc .vmem S1024x1024 .f32) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .bf16) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x1024 .f32) (harg11 : arg11.IsWhole) (arg12 : Memref sig .tc .vmem S4x128x128 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S16x512 .f32) (harg15 : arg15.IsWhole)
variable (x0 : Vec Ideal S1024x1024 .f32) (x1 : Vec Ideal S1024x512 .bf16) (x2 : Vec Ideal S1024x512 .bf16) (x3 : Vec Ideal S1024x512 .bf16) (x4 : Vec Ideal S1024x1024 .bf16) (x5 : Vec Ideal S4x128x128 .bf16) (x6 : Vec Ideal S1x512 .f32) (x7 : Vec Ideal S1x512 .f32) (xo10 : Vec Ideal S1024x1024 .f32) (xo11 : Vec Ideal S4x128x128 .f32) (xo12 : Vec Ideal S1x512 .f32) (xo13 : Vec Ideal S1x512 .f32) (xs0 : Vec Ideal S16x512 .f32)

theorem db_B (hcB : ¬cond0_0 i) : out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hcB x0 x1 x2 x3 x4 x5 x6 x7 xo10 xo11 xo12 xo13 xs0 = dbStep x0 x4 x7 xo12 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hcB x0 x1 x2 x3 x4 x5 x6 x7 xo10 xo11 xo12 xo13 xs0)]
  funext y
  refine canon_of (e := .f32) (dbStep x0 x4 x7 xo12) _ ?_ y (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hcB x0 x1 x2 x3 x4 x5 x6 x7 xo10 xo11 xo12 xo13 xs0 y)
  unfold kernelRun0_B
  dsimp only
  sl_unfold_words
  simp only [View.readAt_eq_ld, harg1.read_unread, harg2.read_unread, harg3.read_unread, harg4.read_unread, harg5.read_unread, harg6.read_unread, harg7.read_unread, harg8.read_unread, harg11.read_unread, harg12.read_unread, harg13.read_unread, harg14.read_unread, harg15.read_unread]
  rw [View.ld_unit_zero (S := S1024x1024) hz2, View.ld_unit_zero (S := S1024x1024) hz2]
  refine ⟨fun x => ?_, fun x => ?_, fun x => ?_, fun x => ?_, trivial⟩ <;> idx_vars x <;>
    pointwise [k0_pay59, k0_pay58, k0_pay56, k0_pay46, k0_pay45, k0_pay43, k0_pay33, k0_pay32, k0_pay30, k0_pay20, k0_pay19,
      k0_pay17, k0_pay13, k0_pay11, k0_pay8, dbStep, dpre, dy, emb_idx]

theorem ds_B (hcB : ¬cond0_0 i) : out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hcB x0 x1 x2 x3 x4 x5 x6 x7 xo10 xo11 xo12 xo13 xs0 = dsStep x0 x3 x4 x5 x6 xo13 := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hcB x0 x1 x2 x3 x4 x5 x6 x7 xo10 xo11 xo12 xo13 xs0)]
  funext y
  refine canon_of (e := .f32) (dsStep x0 x3 x4 x5 x6 xo13) _ ?_ y (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hcB x0 x1 x2 x3 x4 x5 x6 x7 xo10 xo11 xo12 xo13 xs0 y)
  unfold kernelRun0_B
  dsimp only
  sl_unfold_words
  simp only [View.readAt_eq_ld, harg1.read_unread, harg2.read_unread, harg3.read_unread, harg4.read_unread, harg5.read_unread, harg6.read_unread, harg7.read_unread, harg8.read_unread, harg11.read_unread, harg12.read_unread, harg13.read_unread, harg14.read_unread, harg15.read_unread]
  rw [View.ld_unit_zero (S := S1024x1024) hz2, View.ld_unit_zero (S := S1024x1024) hz2]
  refine ⟨fun x => ?_, fun x => ?_, fun x => ?_, fun x => ?_, trivial⟩ <;> idx_vars x <;>
    pointwise [k0_pay57, k0_pay56, k0_pay55, k0_pay44, k0_pay43, k0_pay42, k0_pay41, k0_pay31, k0_pay30, k0_pay29, k0_pay28,
      k0_pay18, k0_pay17, k0_pay16, k0_pay13, k0_pay11, k0_pay8, dsStep, pre, dy, emb_idx] <;>
    simp only [grp0, grp1, grp2, grp3, lane0, lane1, lane2, lane3, Nat.reduceMul, zero_add, Fin.eta] <;> rfl

theorem dwp_B (hcB : ¬cond0_0 i) : out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hcB x0 x1 x2 x3 x4 x5 x6 x7 xo10 xo11 xo12 xo13 xs0 = dwpStep x0 x3 x4 x7 xo11 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hcB x0 x1 x2 x3 x4 x5 x6 x7 xo10 xo11 xo12 xo13 xs0)]
  funext y
  refine canon_of (e := .f32) (dwpStep x0 x3 x4 x7 xo11) _ ?_ y (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hcB x0 x1 x2 x3 x4 x5 x6 x7 xo10 xo11 xo12 xo13 xs0 y)
  unfold kernelRun0_B
  dsimp only
  sl_unfold_words
  simp only [View.readAt_eq_ld, harg1.read_unread, harg2.read_unread, harg3.read_unread, harg4.read_unread, harg5.read_unread, harg6.read_unread, harg7.read_unread, harg8.read_unread, harg11.read_unread, harg12.read_unread, harg13.read_unread, harg14.read_unread, harg15.read_unread]
  rw [View.ld_unit_zero (S := S1024x1024) hz2, View.ld_unit_zero (S := S1024x1024) hz2]
  refine ⟨fun x => ?_, fun x => ?_, fun x => ?_, fun x => ?_, trivial⟩ <;> idx_vars x <;>
    pointwise [k0_pay61, k0_pay60, k0_pay58, k0_pay56, k0_pay55, k0_pay48, k0_pay47, k0_pay45, k0_pay43, k0_pay41, k0_pay35, k0_pay34, k0_pay32,
      k0_pay30, k0_pay28, k0_pay23, k0_pay22, k0_pay21, k0_pay19, k0_pay17, k0_pay16, k0_pay13, k0_pay11, k0_pay8, dwpStep, dpre, dy, emb_idx]

theorem dwo_B (hcB : ¬cond0_0 i) : out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hcB x0 x1 x2 x3 x4 x5 x6 x7 xo10 xo11 xo12 xo13 xs0 = dwoStep x0 x1 x2 xo10 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hcB x0 x1 x2 x3 x4 x5 x6 x7 xo10 xo11 xo12 xo13 xs0)]
  funext y
  refine canon_of (e := .f32) (dwoStep x0 x1 x2 xo10) _ ?_ y (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hcB x0 x1 x2 x3 x4 x5 x6 x7 xo10 xo11 xo12 xo13 xs0 y)
  unfold kernelRun0_B
  dsimp only
  sl_unfold_words
  simp only [View.readAt_eq_ld, harg1.read_unread, harg2.read_unread, harg3.read_unread, harg4.read_unread, harg5.read_unread, harg6.read_unread, harg7.read_unread, harg8.read_unread, harg11.read_unread, harg12.read_unread, harg13.read_unread, harg14.read_unread, harg15.read_unread]
  rw [View.ld_unit_zero (S := S1024x1024) hz2]
  refine ⟨fun x => ?_, fun x => ?_, trivial⟩ <;> idx_vars x <;>
    pointwise [k0_pay10, k0_pay9, k0_pay8, dwoStep, emb_idx]

theorem dattn_B (hcB : ¬cond0_0 i) : out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hcB x0 x1 x2 x3 x4 x5 x6 x7 xo10 xo11 xo12 xo13 xs0 = dattn x0 x4 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hcB x0 x1 x2 x3 x4 x5 x6 x7 xo10 xo11 xo12 xo13 xs0)]
  funext y
  refine canon_of (e := .bf16) (dattn x0 x4) _ ?_ y (cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hcB x0 x1 x2 x3 x4 x5 x6 x7 xo10 xo11 xo12 xo13 xs0 y)
  unfold kernelRun0_B
  dsimp only
  sl_unfold_words
  simp only [View.readAt_eq_ld, harg1.read_unread, harg2.read_unread, harg3.read_unread, harg4.read_unread, harg5.read_unread, harg6.read_unread, harg7.read_unread, harg8.read_unread, harg11.read_unread, harg12.read_unread, harg13.read_unread, harg14.read_unread, harg15.read_unread]
  rw [View.ld_unit_zero (S := S1024x1024) hz2, View.ld_unit_zero (S := S1024x1024) hz2]
  refine ⟨fun x => ?_, trivial⟩ <;> idx_vars x <;>
    pointwise [k0_pay12, k0_pay11, k0_pay8, dattn, emb_idx]

end Points

end Cert.Pool
-- ==== Proof.PoolWindow.lean ====
/- The window of the pool kernel at one grid point: the weights of the windows' sums and the sums themselves.

   Group `g` averages over a window of `2 ^ (g + 1)` tokens that ends at the token, shorter at the first tokens.  In the
   gradient each token's contribution is divided by the length of its window (`wt`), and a token collects the
   contributions of the windows that hold it, its own and the following ones.  The following tokens are the rows below,
   and past the last row the head of the following block. -/
module

public import proofs.«01_k».proof.Proof.PoolStep

@[expose] public section

set_option maxRecDepth 16384

noncomputable section

open Idealize.ShloMosaic Idealize.ShloMosaic.TcCoe Idealize.SL.Sem

namespace Cert.Pool

open Cert.KernelIdeal Cert.KernelIdeal.Gen

/-- The words of the positions of a block's tokens. -/
abbrev pos (i : grid0.Coords) : IVec S1024x128 32 :=
  k0_pay15 (iota Kind.tc S1024x128 32 [0] iota_S1024x128_d0_w32) (k0_pay14 i)

/-- The length of the window, read from the words of the kernel. -/
abbrev lenWord (i r : ℕ) (size : BitVec 32) : BitVec 32 :=
  IntOp.minsi (IntOp.addi (IntOp.addi (BitVec.ofNat 32 r) (Scalar.muli (Scalar.subi (7#32) (BitVec.ofNat 32 i)) 1024#32)) 1#32) size

theorem len2 : ∀ (i : Fin 8) (r : Fin 16), (lenWord i.val r.val 2#32).toInt = min ((7 - i.val) * 1024 + r.val + 1) 2 := by
  decide +kernel
theorem len4 : ∀ (i : Fin 8) (r : Fin 16), (lenWord i.val r.val 4#32).toInt = min ((7 - i.val) * 1024 + r.val + 1) 4 := by
  decide +kernel
theorem len8 : ∀ (i : Fin 8) (r : Fin 16), (lenWord i.val r.val 8#32).toInt = min ((7 - i.val) * 1024 + r.val + 1) 8 := by
  decide +kernel
theorem len16 : ∀ (i : Fin 8) (r : Fin 16), (lenWord i.val r.val 16#32).toInt = min ((7 - i.val) * 1024 + r.val + 1) 16 := by
  decide +kernel

theorem lit2 : Ideal.ofBits .f32 0x3F000000#32 = ((1 / (2 : ℕ) : ℝ) : EReal) := by
  simp [Ideal.ofBits, Ideal.ieee, -EReal.coe_mul]; norm_num
theorem lit4 : Ideal.ofBits .f32 0x3E800000#32 = ((1 / (4 : ℕ) : ℝ) : EReal) := by
  simp [Ideal.ofBits, Ideal.ieee, -EReal.coe_mul]; norm_num
theorem lit8 : Ideal.ofBits .f32 0x3E000000#32 = ((1 / (8 : ℕ) : ℝ) : EReal) := by
  simp [Ideal.ofBits, Ideal.ieee, -EReal.coe_mul]; norm_num
theorem lit16 : Ideal.ofBits .f32 0x3D800000#32 = ((1 / (16 : ℕ) : ℝ) : EReal) := by
  simp [Ideal.ofBits, Ideal.ieee, -EReal.coe_mul]; norm_num

/-- Division by the length of the window: by the word in the first 16 rows, by the whole length in the others. -/
theorem div_len {n : ℕ} (hn : 0 < n ∧ n ≤ 16) {size : BitVec 32} (i : Fin 8)
    (hw : ∀ (i : Fin 8) (r : Fin 16), (lenWord i.val r.val size).toInt = min ((7 - i.val) * 1024 + r.val + 1) n)
    {l : EReal} (hl : l = ((1 / (n : ℕ) : ℝ) : EReal)) (r : Fin 1024) (D : Fin 1024 → EReal) :
    (if h : r.val < 16 then Ideal.div (D r) (FloatOps.sitofp (F := Ideal) FTy.f32 (lenWord i.val r.val size))
      else D ⟨16 + (r.val - 16), by omega⟩ * l)
    = Ideal.div (D r) (((min ((7 - i.val) * 1024 + r.val + 1) n : ℕ) : ℝ) : EReal) := by
  split
  · next h =>
    have := hw i ⟨r.val, h⟩
    show Ideal.div (D r) (((lenWord i.val r.val size).toInt : ℝ) : EReal) = _
    rw [this]
    norm_cast
  · next h =>
    have e : (⟨16 + (r.val - 16), by omega⟩ : Fin 1024) = r := Fin.ext (by simp only; omega)
    have e2 : min ((7 - i.val) * 1024 + r.val + 1) n = n := by omega
    rw [e, e2, hl, Ideal.div_coe (by have := hn.1; positivity)]

section Weights

variable (i : grid0.Coords) (x0 : Vec Ideal S1024x1024 .f32) (x4 : Vec Ideal S1024x1024 .bf16)
  (x5 : Vec Ideal S4x128x128 .bf16) (x7 : Vec Ideal S1x512 .f32)

/-- A token's gradient of the pooled means over the length of its window. -/
def wt (r : Fin 1024) (j : Fin 512) : EReal :=
  Ideal.div (dmix x0 x4 x5 x7 r j) (((min ((7 - (i 0).val) * 1024 + r.val + 1) (2 ^ (j.val / 128 + 1)) : ℕ) : ℝ) : EReal)

variable (r : Fin 1024) (d : Fin 128)

theorem dm0 : k0_pay24 (F := Ideal) (k0_pay21 (k0_pay13 x0 x4) (View.ld x7 (Rect.unit ![0, 0] ![1, 128] inb_S1x512_S1x128_0_0)))
      (View.ld x5 (Rect.unit ![0, 0, 0] ![1, 128, 128] inb_S4x128x128_S1x128x128_0_0_0)) (ix2 r d)
    = dmix x0 x4 x5 x7 r ⟨d.val, by omega⟩ := by
  pointwise [k0_pay24, k0_pay21, k0_pay19, k0_pay17, k0_pay13, k0_pay11, k0_pay8, dmix, dpre, dy]
  simp only [grp0, lane0, Nat.reduceMul, zero_add, Fin.eta]; rfl

theorem dm1 : k0_pay37 (F := Ideal) (k0_pay34 (k0_pay13 x0 x4) (View.ld x7 (Rect.unit ![0, 128] ![1, 128] inb_S1x512_S1x128_0_128)))
      (k0_pay36 (View.ld x5 (Rect.unit ![1, 0, 0] ![1, 128, 128] inb_S4x128x128_S1x128x128_1_0_0))) (ix2 r d)
    = dmix x0 x4 x5 x7 r ⟨128 + d.val, by omega⟩ := by
  pointwise [k0_pay37, k0_pay36, k0_pay34, k0_pay32, k0_pay30, k0_pay13, k0_pay11, k0_pay8, dmix, dpre, dy]
  simp only [grp1, lane1, Nat.reduceMul, Fin.eta]; rfl

theorem dm2 : k0_pay49 (F := Ideal) (k0_pay43 (k0_pay13 x0 x4)) (View.ld x7 (Rect.unit ![0, 256] ![1, 128] inb_S1x512_S1x128_0_256))
      (View.ld x5 (Rect.unit ![2, 0, 0] ![1, 128, 128] inb_S4x128x128_S1x128x128_2_0_0)) (ix2 r d)
    = dmix x0 x4 x5 x7 r ⟨256 + d.val, by omega⟩ := by
  pointwise [k0_pay49, k0_pay47, k0_pay45, k0_pay43, k0_pay13, k0_pay11, k0_pay8, dmix, dpre, dy]
  simp only [grp2, lane2, Nat.reduceMul, Fin.eta]; rfl

theorem dm3 : k0_pay62 (F := Ideal) (k0_pay56 (k0_pay13 x0 x4)) (View.ld x7 (Rect.unit ![0, 384] ![1, 128] inb_S1x512_S1x128_0_384))
      (View.ld x5 (Rect.unit ![3, 0, 0] ![1, 128, 128] inb_S4x128x128_S1x128x128_3_0_0)) (ix2 r d)
    = dmix x0 x4 x5 x7 r ⟨384 + d.val, by omega⟩ := by
  pointwise [k0_pay62, k0_pay60, k0_pay58, k0_pay56, k0_pay13, k0_pay11, k0_pay8, dmix, dpre, dy]
  simp only [grp3, lane3, Nat.reduceMul, Fin.eta]; rfl

theorem w0 : k0_pay25 (F := Ideal) (pos i) (k0_pay21 (k0_pay13 x0 x4) (View.ld x7 (Rect.unit ![0, 0] ![1, 128] inb_S1x512_S1x128_0_0)))
      (View.ld x5 (Rect.unit ![0, 0, 0] ![1, 128, 128] inb_S4x128x128_S1x128x128_0_0_0)) (ix2 r d)
    = wt i x0 x4 x5 x7 r ⟨d.val, by omega⟩ := by
  pointwise [pos, k0_pay25, k0_pay15, k0_pay14]
  simp only [dm0]
  refine (div_len (n := 2) (by decide) (i 0) len2 lit2 r fun r => dmix x0 x4 x5 x7 r ⟨d.val, by omega⟩).trans ?_
  unfold wt
  rw [show 2 ^ ((⟨d.val, by omega⟩ : Fin 512).val / 128 + 1) = 2 from by rw [grp0]; rfl]

theorem w1 : k0_pay38 (F := Ideal) (pos i) (k0_pay34 (k0_pay13 x0 x4) (View.ld x7 (Rect.unit ![0, 128] ![1, 128] inb_S1x512_S1x128_0_128)))
      (k0_pay36 (View.ld x5 (Rect.unit ![1, 0, 0] ![1, 128, 128] inb_S4x128x128_S1x128x128_1_0_0))) (ix2 r d)
    = wt i x0 x4 x5 x7 r ⟨128 + d.val, by omega⟩ := by
  pointwise [pos, k0_pay38, k0_pay15, k0_pay14]
  simp only [dm1]
  refine (div_len (n := 4) (by decide) (i 0) len4 lit4 r fun r => dmix x0 x4 x5 x7 r ⟨128 + d.val, by omega⟩).trans ?_
  unfold wt
  rw [show 2 ^ ((⟨128 + d.val, by omega⟩ : Fin 512).val / 128 + 1) = 4 from by rw [grp1]; rfl]

theorem w2 : k0_pay52 (F := Ideal)
      (k0_pay49 (k0_pay43 (k0_pay13 x0 x4)) (View.ld x7 (Rect.unit ![0, 256] ![1, 128] inb_S1x512_S1x128_0_256))
        (View.ld x5 (Rect.unit ![2, 0, 0] ![1, 128, 128] inb_S4x128x128_S1x128x128_2_0_0)))
      (k0_pay50 (k0_pay43 (k0_pay13 x0 x4)) (View.ld x7 (Rect.unit ![0, 256] ![1, 128] inb_S1x512_S1x128_0_256))
        (View.ld x5 (Rect.unit ![2, 0, 0] ![1, 128, 128] inb_S4x128x128_S1x128x128_2_0_0)))
      (k0_pay51 (pos i)) (ix2 r d)
    = wt i x0 x4 x5 x7 r ⟨256 + d.val, by omega⟩ := by
  pointwise [pos, k0_pay52, k0_pay51, k0_pay50, k0_pay15, k0_pay14]
  simp only [dm2]
  refine (div_len (n := 8) (by decide) (i 0) len8 lit8 r fun r => dmix x0 x4 x5 x7 r ⟨256 + d.val, by omega⟩).trans ?_
  unfold wt
  rw [show 2 ^ ((⟨256 + d.val, by omega⟩ : Fin 512).val / 128 + 1) = 8 from by rw [grp2]; rfl]

theorem w3 : k0_pay63 (F := Ideal) (pos i) (k0_pay56 (k0_pay13 x0 x4)) (View.ld x7 (Rect.unit ![0, 384] ![1, 128] inb_S1x512_S1x128_0_384))
      (View.ld x5 (Rect.unit ![3, 0, 0] ![1, 128, 128] inb_S4x128x128_S1x128x128_3_0_0)) (ix2 r d)
    = wt i x0 x4 x5 x7 r ⟨384 + d.val, by omega⟩ := by
  pointwise [pos, k0_pay63, k0_pay15, k0_pay14]
  simp only [dm3]
  refine (div_len (n := 16) (by decide) (i 0) len16 lit16 r fun r => dmix x0 x4 x5 x7 r ⟨384 + d.val, by omega⟩).trans ?_
  unfold wt
  rw [show 2 ^ ((⟨384 + d.val, by omega⟩ : Fin 512).val / 128 + 1) = 16 from by rw [grp3]; rfl]

end Weights

/-! ## The sums over a window, by doubling -/

/-- A column of 1040 rows: the block's own 1024, then the 16 carried. -/
def ext (W : Fin 1024 → EReal) (H : Fin 16 → EReal) (q : ℕ) : EReal :=
  if h : q < 1024 then W ⟨q, h⟩ else if h' : q - 1024 < 16 then H ⟨q - 1024, h'⟩ else 0

/-- A vector plus itself, rotated. -/
def dbl (k : BitVec 32) (V : FVec Ideal S1040x128 .f32) : FVec Ideal S1040x128 .f32 :=
  addf V (dynamicRotate 0 k none V rotates_S1040x128_d0)

/-- One doubling: the sum of `n` following rows, plus itself `n` rows down, is the sum of `2 n` following rows. -/
theorem double {n m : ℕ} (k : BitVec 32) (hk : k.toNat = 1040 - n) (hn : n ≤ 8) (hm : m = 2 * n) (E : ℕ → Fin 128 → EReal)
    {V : FVec Ideal S1040x128 .f32}
    (hV : ∀ (q : Fin 1040) (d : Fin 128), q.val + n ≤ 1040 → V (ix2 q d) = ∑ s ∈ Finset.range n, E (q.val + s) d)
    (h0 : 0 < n) (q : Fin 1040) (d : Fin 128) (hq : q.val + m ≤ 1040) :
    dbl k V (ix2 q d) = ∑ s ∈ Finset.range m, E (q.val + s) d := by
  subst hm
  unfold dbl
  pointwise
  rw [two_mul, Finset.sum_range_add, hV q d (by omega)]
  congr 1
  have e : (q.val + 1040 - k.toNat % 1040) % 1040 = q.val + n := by
    rw [hk, Nat.mod_eq_of_lt (by omega : 1040 - n < 1040), show q.val + 1040 - (1040 - n) = q.val + n from by omega, Nat.mod_eq_of_lt (by omega)]
  simp only [e]
  rw [hV ⟨q.val + n, by omega⟩ d (by simp only; omega)]
  exact Finset.sum_congr rfl fun s _ => by simp only [Nat.add_assoc]

/-- The block's rows over the carried ones. -/
def stack (W : FVec Ideal S1024x128 .f32) (H : FVec Ideal S16x128 .f32) : FVec Ideal S1040x128 .f32 :=
  concatenate S1040x128 0 [⟨S1024x128, W⟩, ⟨S16x128, H⟩] concatenates_S1024x128_S16x128_S1040x128_d0

theorem stack_apply (W : FVec Ideal S1024x128 .f32) (H : FVec Ideal S16x128 .f32) (q : Fin 1040) (d : Fin 128) (hq : q.val + 1 ≤ 1040) :
    stack W H (ix2 q d)
      = ∑ s ∈ Finset.range 1, ext (fun r => W (ix2 r d)) (fun r => H (ix2 r d)) (q.val + s) := by
  unfold stack
  pointwise
  simp only [Finset.sum_range_one, Nat.add_zero, ext]
  split
  · rfl
  · rw [dif_pos (by omega)]

variable (W D : FVec Ideal S1024x128 .f32) (H : FVec Ideal S16x128 .f32) (r : Fin 1024) (d : Fin 128)

/-- The following row `q` of the block's column. -/
def row (q : ℕ) (d : Fin 128) : EReal := ext (fun r => W (ix2 r d)) (fun r => H (ix2 r d)) q

theorem sum1 (q : Fin 1040) (d : Fin 128) (hq : q.val + 1 ≤ 1040) :
    stack W H (ix2 q d) = ∑ s ∈ Finset.range 1, row W H (q.val + s) d := stack_apply W H q d hq

theorem sum2 (q : Fin 1040) (d : Fin 128) (hq : q.val + 2 ≤ 1040) :
    dbl 1039#32 (stack W H) (ix2 q d) = ∑ s ∈ Finset.range 2, row W H (q.val + s) d :=
  double (n := 1) _ rfl (by omega) rfl _ (sum1 W H) (by omega) q d hq

theorem sum4 (q : Fin 1040) (d : Fin 128) (hq : q.val + 4 ≤ 1040) :
    dbl 1038#32 (dbl 1039#32 (stack W H)) (ix2 q d) = ∑ s ∈ Finset.range 4, row W H (q.val + s) d :=
  double (n := 2) _ rfl (by omega) rfl _ (sum2 W H) (by omega) q d hq

theorem sum8 (q : Fin 1040) (d : Fin 128) (hq : q.val + 8 ≤ 1040) :
    dbl 1036#32 (dbl 1038#32 (dbl 1039#32 (stack W H))) (ix2 q d) = ∑ s ∈ Finset.range 8, row W H (q.val + s) d :=
  double (n := 4) _ rfl (by omega) rfl _ (sum4 W H) (by omega) q d hq

theorem sum16 (q : Fin 1040) (d : Fin 128) (hq : q.val + 16 ≤ 1040) :
    dbl 1032#32 (dbl 1036#32 (dbl 1038#32 (dbl 1039#32 (stack W H)))) (ix2 q d)
      = ∑ s ∈ Finset.range 16, row W H (q.val + s) d :=
  double (n := 8) _ rfl (by omega) rfl _ (sum8 W H) (by omega) q d hq

/-- The first 1024 rows of a window's sums, less the token's own gradient. -/
theorem win {n : ℕ} {V : FVec Ideal S1040x128 .f32} (hn : n ≤ 16)
    (hV : ∀ (q : Fin 1040) (d : Fin 128), q.val + n ≤ 1040 → V (ix2 q d) = ∑ s ∈ Finset.range n, row W H (q.val + s) d) :
    truncf .bf16 (subf (extractStridedSlice S1024x128 ![0, 0] V slices_S1040x128_o0_0_S1024x128) D) bitsLt_bf16_f32 (ix2 r d)
      = (∑ s ∈ Finset.range n, row W H (r.val + s) d) - D (ix2 r d) := by
  pointwise
  rw [hV _ _ (by simp only; omega)]

/-! ## What the block's window stores -/

section Stored

variable (i : grid0.Coords) (x0 : Vec Ideal S1024x1024 .f32) (x4 : Vec Ideal S1024x1024 .bf16)
  (x5 : Vec Ideal S4x128x128 .bf16) (x7 : Vec Ideal S1x512 .f32) (xs0 : Vec Ideal S16x512 .f32)

/-- The gradient of the pooled columns of the block: the windows' sums less the token's own gradient. -/
def duBlock : Vec Ideal S1024x512 .bf16 := fun y =>
  (∑ s ∈ Finset.range (2 ^ ((y 1).val / 128 + 1)),
    ext (fun r => wt i x0 x4 x5 x7 r (y 1)) (fun r => xs0 (ix2 r (y 1))) ((y 0).val + s)) - dmix x0 x4 x5 x7 (y 0) (y 1)

/-- What is carried: the weights of the block's first 16 tokens. -/
def headBlock : Vec Ideal S16x512 .f32 := fun y => wt i x0 x4 x5 x7 ⟨(y 0).val, by have h : (y 0).val < 16 := (y 0).isLt; omega⟩ (y 1)

theorem du0 : k0_pay27 (F := Ideal) (pos i) xs0 (k0_pay21 (k0_pay13 x0 x4) (View.ld x7 (Rect.unit ![0, 0] ![1, 128] inb_S1x512_S1x128_0_0)))
      (View.ld x5 (Rect.unit ![0, 0, 0] ![1, 128, 128] inb_S4x128x128_S1x128x128_0_0_0)) (ix2 r d)
    = duBlock i x0 x4 x5 x7 xs0 (ix2 r ⟨d.val, by omega⟩) := by
  refine (win _ _ _ r d (by omega) (sum2 _ _)).trans ?_
  pointwise [duBlock, row]
  simp only [w0, dm0, grp0]
  rfl

theorem du1 : k0_pay40 (F := Ideal) (pos i) xs0 (k0_pay34 (k0_pay13 x0 x4) (View.ld x7 (Rect.unit ![0, 128] ![1, 128] inb_S1x512_S1x128_0_128)))
      (k0_pay36 (View.ld x5 (Rect.unit ![1, 0, 0] ![1, 128, 128] inb_S4x128x128_S1x128x128_1_0_0))) (ix2 r d)
    = duBlock i x0 x4 x5 x7 xs0 (ix2 r ⟨128 + d.val, by omega⟩) := by
  refine (win _ _ _ r d (by omega) (sum4 _ _)).trans ?_
  pointwise [duBlock, row]
  simp only [w1, dm1, grp1]
  rfl

theorem du2 : k0_pay54 (F := Ideal) xs0
      (k0_pay49 (k0_pay43 (k0_pay13 x0 x4)) (View.ld x7 (Rect.unit ![0, 256] ![1, 128] inb_S1x512_S1x128_0_256))
        (View.ld x5 (Rect.unit ![2, 0, 0] ![1, 128, 128] inb_S4x128x128_S1x128x128_2_0_0)))
      (k0_pay50 (k0_pay43 (k0_pay13 x0 x4)) (View.ld x7 (Rect.unit ![0, 256] ![1, 128] inb_S1x512_S1x128_0_256))
        (View.ld x5 (Rect.unit ![2, 0, 0] ![1, 128, 128] inb_S4x128x128_S1x128x128_2_0_0)))
      (k0_pay51 (pos i)) (ix2 r d)
    = duBlock i x0 x4 x5 x7 xs0 (ix2 r ⟨256 + d.val, by omega⟩) := by
  refine (win _ _ _ r d (by omega) (sum8 _ _)).trans ?_
  pointwise [duBlock, row]
  simp only [w2, dm2, grp2]
  rfl

theorem du3 : k0_pay2 (F := Ideal) xs0
      (k0_pay62 (k0_pay56 (k0_pay13 x0 x4)) (View.ld x7 (Rect.unit ![0, 384] ![1, 128] inb_S1x512_S1x128_0_384))
        (View.ld x5 (Rect.unit ![3, 0, 0] ![1, 128, 128] inb_S4x128x128_S1x128x128_3_0_0)))
      (k0_pay63 (pos i) (k0_pay56 (k0_pay13 x0 x4)) (View.ld x7 (Rect.unit ![0, 384] ![1, 128] inb_S1x512_S1x128_0_384))
        (View.ld x5 (Rect.unit ![3, 0, 0] ![1, 128, 128] inb_S4x128x128_S1x128x128_3_0_0))) (ix2 r d)
    = duBlock i x0 x4 x5 x7 xs0 (ix2 r ⟨384 + d.val, by omega⟩) := by
  refine (win _ _ _ r d (by omega) (sum16 _ _)).trans ?_
  pointwise [duBlock, row]
  simp only [w3, dm3, grp3]
  rfl

end Stored

end Cert.Pool
-- ==== Proof.PoolTail.lean ====
/- What a later grid point of the pool kernel leaves of the pooled gradient, and what it carries to the next point. -/
module

public import proofs.«01_k».proof.Proof.PoolWindow

@[expose] public section

set_option maxRecDepth 16384

noncomputable section

open Idealize.ShloMosaic Idealize.ShloMosaic.TcCoe Idealize.SL.Sem

namespace Cert.Pool

open Cert.KernelIdeal Cert.KernelIdeal.Gen

/-! The weights of the block's first 16 tokens, group by group. -/

section Heads

variable (q : Fin 16) (d : Fin 128) (i : grid0.Coords) (x0 : Vec Ideal S1024x1024 .f32) (x4 : Vec Ideal S1024x1024 .bf16)
  (x5 : Vec Ideal S4x128x128 .bf16) (x7 : Vec Ideal S1x512 .f32)

theorem hd0 : k0_pay26 (F := Ideal) (pos i) (k0_pay21 (k0_pay13 x0 x4) (View.ld x7 (Rect.unit ![0, 0] ![1, 128] inb_S1x512_S1x128_0_0)))
      (View.ld x5 (Rect.unit ![0, 0, 0] ![1, 128, 128] inb_S4x128x128_S1x128x128_0_0_0)) (ix2 q d)
    = headBlock i x0 x4 x5 x7 (ix2 q ⟨d.val, by omega⟩) := by
  have h := w0 i x0 x4 x5 x7 ⟨q.val, by omega⟩ d
  pointwise [k0_pay26, headBlock]
  exact h

theorem hd1 : k0_pay39 (F := Ideal) (pos i) (k0_pay34 (k0_pay13 x0 x4) (View.ld x7 (Rect.unit ![0, 128] ![1, 128] inb_S1x512_S1x128_0_128)))
      (k0_pay36 (View.ld x5 (Rect.unit ![1, 0, 0] ![1, 128, 128] inb_S4x128x128_S1x128x128_1_0_0))) (ix2 q d)
    = headBlock i x0 x4 x5 x7 (ix2 q ⟨128 + d.val, by omega⟩) := by
  have h := w1 i x0 x4 x5 x7 ⟨q.val, by omega⟩ d
  pointwise [k0_pay39, headBlock]
  exact h

theorem hd2 : k0_pay53 (F := Ideal)
      (k0_pay49 (k0_pay43 (k0_pay13 x0 x4)) (View.ld x7 (Rect.unit ![0, 256] ![1, 128] inb_S1x512_S1x128_0_256))
        (View.ld x5 (Rect.unit ![2, 0, 0] ![1, 128, 128] inb_S4x128x128_S1x128x128_2_0_0)))
      (k0_pay50 (k0_pay43 (k0_pay13 x0 x4)) (View.ld x7 (Rect.unit ![0, 256] ![1, 128] inb_S1x512_S1x128_0_256))
        (View.ld x5 (Rect.unit ![2, 0, 0] ![1, 128, 128] inb_S4x128x128_S1x128x128_2_0_0)))
      (k0_pay51 (pos i)) (ix2 q d)
    = headBlock i x0 x4 x5 x7 (ix2 q ⟨256 + d.val, by omega⟩) := by
  have h := w2 i x0 x4 x5 x7 ⟨q.val, by omega⟩ d
  pointwise [k0_pay53, headBlock]
  exact h

theorem hd3 : k0_pay1 (F := Ideal) (k0_pay64 (pos i) (k0_pay56 (k0_pay13 x0 x4)) (View.ld x7 (Rect.unit ![0, 384] ![1, 128] inb_S1x512_S1x128_0_384))
        (View.ld x5 (Rect.unit ![3, 0, 0] ![1, 128, 128] inb_S4x128x128_S1x128x128_3_0_0))) (ix2 q d)
    = headBlock i x0 x4 x5 x7 (ix2 q ⟨384 + d.val, by omega⟩) := by
  have h := w3 i x0 x4 x5 x7 ⟨q.val, by omega⟩ d
  pointwise [k0_pay1, k0_pay64, headBlock]
  exact h

end Heads

variable (c : Dev nD) (i : grid0.Coords) (arg1 : Memref sig .tc .vmem S1024x1024 .f32) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .bf16) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x1024 .f32) (harg11 : arg11.IsWhole) (arg12 : Memref sig .tc .vmem S4x128x128 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S16x512 .f32) (harg15 : arg15.IsWhole)
variable (x0 : Vec Ideal S1024x1024 .f32) (x1 : Vec Ideal S1024x512 .bf16) (x2 : Vec Ideal S1024x512 .bf16) (x3 : Vec Ideal S1024x512 .bf16) (x4 : Vec Ideal S1024x1024 .bf16) (x5 : Vec Ideal S4x128x128 .bf16) (x6 : Vec Ideal S1x512 .f32) (x7 : Vec Ideal S1x512 .f32) (xo10 : Vec Ideal S1024x1024 .f32) (xo11 : Vec Ideal S4x128x128 .f32) (xo12 : Vec Ideal S1x512 .f32) (xo13 : Vec Ideal S1x512 .f32) (xs0 : Vec Ideal S16x512 .f32)

theorem du_B (hcB : ¬cond0_0 i) : out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hcB x0 x1 x2 x3 x4 x5 x6 x7 xo10 xo11 xo12 xo13 xs0 = duBlock i x0 x4 x5 x7 xs0 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hcB x0 x1 x2 x3 x4 x5 x6 x7 xo10 xo11 xo12 xo13 xs0)]
  funext y
  refine canon_of (e := .bf16) (duBlock i x0 x4 x5 x7 xs0) _ ?_ y (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hcB x0 x1 x2 x3 x4 x5 x6 x7 xo10 xo11 xo12 xo13 xs0 y)
  unfold kernelRun0_B
  dsimp only
  sl_unfold_words
  simp only [View.readAt_eq_ld, harg1.read_unread, harg2.read_unread, harg3.read_unread, harg4.read_unread, harg5.read_unread, harg6.read_unread, harg7.read_unread, harg8.read_unread, harg11.read_unread, harg12.read_unread, harg13.read_unread, harg14.read_unread, harg15.read_unread]
  simp only [View.ld_unit_zero (S := S1024x1024) hz2, View.ld_unit_zero (S := S16x512) hz2]
  refine ⟨fun z => ?_, fun z => ?_, fun z => ?_, fun z => ?_, trivial⟩ <;> idx_vars z
  · exact (du3 _ _ i x0 x4 x5 x7 xs0).trans (by pointwise [emb_idx])
  · exact (du2 _ _ i x0 x4 x5 x7 xs0).trans (by pointwise [emb_idx])
  · exact (du1 _ _ i x0 x4 x5 x7 xs0).trans (by pointwise [emb_idx])
  · exact (du0 _ _ i x0 x4 x5 x7 xs0).trans (by pointwise [emb_idx])

theorem head_B (hcB : ¬cond0_0 i) : sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hcB x0 x1 x2 x3 x4 x5 x6 x7 xo10 xo11 xo12 xo13 xs0 = headBlock i x0 x4 x5 x7 := by
  unfold sout0_B_0
  funext y
  rw [View.read_writes_junk_eq_canon]
  unfold kernelRun0_B
  dsimp only
  sl_unfold_words
  simp only [View.readAt_eq_ld, harg1.read_unread, harg2.read_unread, harg3.read_unread, harg4.read_unread, harg5.read_unread, harg6.read_unread, harg7.read_unread, harg8.read_unread, harg11.read_unread, harg12.read_unread, harg13.read_unread, harg14.read_unread, harg15.read_unread]
  simp only [View.ld_unit_zero (S := S1024x1024) hz2]
  refine canon_of (e := .f32) (headBlock i x0 x4 x5 x7) _ ?_ y (View.cover_of_tiledL (s := S16x512) _ S16x128.size (by sl_kernel_rfl) y)
  refine ⟨fun z => ?_, fun z => ?_, fun z => ?_, fun z => ?_, trivial⟩ <;> idx_vars z
  · exact (hd3 _ _ i x0 x4 x5 x7).trans (by pointwise [emb_idx])
  · exact (hd2 _ _ i x0 x4 x5 x7).trans (by pointwise [emb_idx])
  · exact (hd1 _ _ i x0 x4 x5 x7).trans (by pointwise [emb_idx])
  · exact (hd0 _ _ i x0 x4 x5 x7).trans (by pointwise [emb_idx])

end Cert.Pool
-- ==== Proof.PoolFirst.lean ====
/- What the first grid point of the pool kernel leaves in each of its buffers: the later points' formulas, started from zero. -/
module

public import proofs.«01_k».proof.Proof.PoolTail

@[expose] public section

set_option maxRecDepth 16384

noncomputable section

open Idealize.ShloMosaic Idealize.ShloMosaic.TcCoe Idealize.SL.Sem

namespace Cert.Pool

open Cert.KernelIdeal Cert.KernelIdeal.Gen

/-- Stores that are blocks of `G` and cover it, over an earlier fill, leave `G`. -/
theorem canon_over {S : Shape} {e : EltTy} (G : S.Idx → Elt Ideal e) (L : List (View.Piece (Elt Ideal) S e)) (z : View.Piece (Elt Ideal) S e)
    (h : View.PiecesOf G L) (size : Fin S.rank → ℕ) (hc : View.Piece.tiledL L size = true) : View.canon (L ++ [z]) = G :=
  funext fun y => View.canon_append_of_piecesOf G [z] L h y (View.cover_of_tiledL L size hc y)

variable (c : Dev nD) (i : grid0.Coords) (arg1 : Memref sig .tc .vmem S1024x1024 .f32) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x1024 .bf16) (harg5 : arg5.IsWhole) (arg6 : Memref sig .tc .vmem S4x128x128 .bf16) (harg6 : arg6.IsWhole) (arg7 : Memref sig .tc .vmem S1x512 .f32) (harg7 : arg7.IsWhole) (arg8 : Memref sig .tc .vmem S1x512 .f32) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S1024x1024 .f32) (harg11 : arg11.IsWhole) (arg12 : Memref sig .tc .vmem S4x128x128 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S16x512 .f32) (harg15 : arg15.IsWhole)
variable (x0 : Vec Ideal S1024x1024 .f32) (x1 : Vec Ideal S1024x512 .bf16) (x2 : Vec Ideal S1024x512 .bf16) (x3 : Vec Ideal S1024x512 .bf16) (x4 : Vec Ideal S1024x1024 .bf16) (x5 : Vec Ideal S4x128x128 .bf16) (x6 : Vec Ideal S1x512 .f32) (x7 : Vec Ideal S1x512 .f32)

theorem db_A (hcA : cond0_0 i) : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hcA x0 x1 x2 x3 x4 x5 x6 x7 = dbStep x0 x4 x7 fun _ => 0 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hcA x0 x1 x2 x3 x4 x5 x6 x7)]
  unfold kernelRun0_A
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg8.read_unread, harg11.read_unread, harg12.read_unread, harg13.read_unread, harg14.read_unread, harg15.read_unread]
  simp only [View.ld_unit_zero (S := S1024x1024) hz2]
  refine canon_over (e := .f32) (dbStep x0 x4 x7 fun _ => 0) [_, _, _, _] _ ?_ S1x128.size (by sl_kernel_rfl)
  refine ⟨fun z => ?_, fun z => ?_, fun z => ?_, fun z => ?_, trivial⟩ <;> idx_vars z <;>
    pointwise [k0_pay59, k0_pay58, k0_pay56, k0_pay46, k0_pay45, k0_pay43, k0_pay33, k0_pay32, k0_pay30, k0_pay20, k0_pay19,
      k0_pay17, k0_pay13, k0_pay11, k0_pay8, k0_pay6, dbStep, dpre, dy, emb_idx]

theorem ds_A (hcA : cond0_0 i) : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hcA x0 x1 x2 x3 x4 x5 x6 x7 = dsStep x0 x3 x4 x5 x6 fun _ => 0 := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hcA x0 x1 x2 x3 x4 x5 x6 x7)]
  unfold kernelRun0_A
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg8.read_unread, harg11.read_unread, harg12.read_unread, harg13.read_unread, harg14.read_unread, harg15.read_unread]
  simp only [View.ld_unit_zero (S := S1024x1024) hz2]
  refine canon_over (e := .f32) (dsStep x0 x3 x4 x5 x6 fun _ => 0) [_, _, _, _] _ ?_ S1x128.size (by sl_kernel_rfl)
  refine ⟨fun z => ?_, fun z => ?_, fun z => ?_, fun z => ?_, trivial⟩ <;> idx_vars z <;>
    pointwise [k0_pay57, k0_pay56, k0_pay55, k0_pay44, k0_pay43, k0_pay42, k0_pay41, k0_pay31, k0_pay30, k0_pay29, k0_pay28,
      k0_pay18, k0_pay17, k0_pay16, k0_pay13, k0_pay11, k0_pay8, k0_pay7, dsStep, pre, dy, emb_idx] <;>
    simp only [grp0, grp1, grp2, grp3, lane0, lane1, lane2, lane3, Nat.reduceMul, zero_add, Fin.eta] <;> rfl

theorem dwp_A (hcA : cond0_0 i) : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hcA x0 x1 x2 x3 x4 x5 x6 x7 = dwpStep x0 x3 x4 x7 fun _ => 0 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hcA x0 x1 x2 x3 x4 x5 x6 x7)]
  unfold kernelRun0_A
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg8.read_unread, harg11.read_unread, harg12.read_unread, harg13.read_unread, harg14.read_unread, harg15.read_unread]
  simp only [View.ld_unit_zero (S := S1024x1024) hz2]
  refine canon_over (e := .f32) (dwpStep x0 x3 x4 x7 fun _ => 0) [_, _, _, _] _ ?_ S1x128x128.size (by sl_kernel_rfl)
  refine ⟨fun z => ?_, fun z => ?_, fun z => ?_, fun z => ?_, trivial⟩ <;> idx_vars z <;>
    pointwise [k0_pay61, k0_pay60, k0_pay58, k0_pay56, k0_pay55, k0_pay48, k0_pay47, k0_pay45, k0_pay43, k0_pay41, k0_pay35, k0_pay34, k0_pay32,
      k0_pay30, k0_pay28, k0_pay23, k0_pay22, k0_pay21, k0_pay19, k0_pay17, k0_pay16, k0_pay13, k0_pay11, k0_pay8, k0_pay5, dwpStep, dpre, dy, emb_idx]

theorem dwo_A (hcA : cond0_0 i) : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hcA x0 x1 x2 x3 x4 x5 x6 x7 = dwoStep x0 x1 x2 fun _ => 0 := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hcA x0 x1 x2 x3 x4 x5 x6 x7)]
  unfold kernelRun0_A
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg8.read_unread, harg11.read_unread, harg12.read_unread, harg13.read_unread, harg14.read_unread, harg15.read_unread]
  simp only [View.ld_unit_zero (S := S1024x1024) hz2]
  refine canon_over (e := .f32) (dwoStep x0 x1 x2 fun _ => 0) [_, _] _ ?_ S512x1024.size (by sl_kernel_rfl)
  refine ⟨fun z => ?_, fun z => ?_, trivial⟩ <;> idx_vars z <;>
    pointwise [k0_pay10, k0_pay9, k0_pay8, k0_pay4, dwoStep, emb_idx]

theorem dattn_A (hcA : cond0_0 i) : out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hcA x0 x1 x2 x3 x4 x5 x6 x7 = dattn x0 x4 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hcA x0 x1 x2 x3 x4 x5 x6 x7)]
  funext y
  refine canon_of (e := .bf16) (dattn x0 x4) _ ?_ y (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 hcA x0 x1 x2 x3 x4 x5 x6 x7 y)
  unfold kernelRun0_A
  dsimp only
  sl_unfold_words
  simp only [View.readAt_eq_ld, harg1.read_unread, harg2.read_unread, harg3.read_unread, harg4.read_unread, harg5.read_unread, harg6.read_unread, harg7.read_unread, harg8.read_unread, harg11.read_unread, harg12.read_unread, harg13.read_unread, harg14.read_unread, harg15.read_unread]
  simp only [View.ld_unit_zero (S := S1024x1024) hz2]
  refine ⟨fun z => ?_, trivial⟩ <;> idx_vars z <;> pointwise [k0_pay12, k0_pay11, k0_pay8, dattn, emb_idx]

/-- Nothing is carried into the first point. -/
theorem zeros : k0_pay3 (F := Ideal) = fun _ => 0 := by
  funext z
  idx_vars z
  pointwise [k0_pay3]

theorem du_A (hcA : cond0_0 i) : out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hcA x0 x1 x2 x3 x4 x5 x6 x7 = duBlock i x0 x4 x5 x7 fun _ => 0 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hcA x0 x1 x2 x3 x4 x5 x6 x7)]
  funext y
  refine canon_of (e := .bf16) (duBlock i x0 x4 x5 x7 fun _ => 0) _ ?_ y (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hcA x0 x1 x2 x3 x4 x5 x6 x7 y)
  unfold kernelRun0_A
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg8.read_unread, harg11.read_unread, harg12.read_unread, harg13.read_unread, harg14.read_unread, harg15.read_unread]
  simp only [View.ld_unit_zero (S := S1024x1024) hz2, View.ld_unit_zero (S := S16x512) hz2, zeros]
  refine ⟨fun z => ?_, fun z => ?_, fun z => ?_, fun z => ?_, trivial⟩ <;> idx_vars z
  · exact (du3 _ _ i x0 x4 x5 x7 _).trans (by pointwise [emb_idx])
  · exact (du2 _ _ i x0 x4 x5 x7 _).trans (by pointwise [emb_idx])
  · exact (du1 _ _ i x0 x4 x5 x7 _).trans (by pointwise [emb_idx])
  · exact (du0 _ _ i x0 x4 x5 x7 _).trans (by pointwise [emb_idx])

theorem head_A (hcA : cond0_0 i) : sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hcA x0 x1 x2 x3 x4 x5 x6 x7 = headBlock i x0 x4 x5 x7 := by
  unfold sout0_A_0
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, harg11.read_unread, harg12.read_unread, harg13.read_unread, harg14.read_unread, harg15.read_unread]
  simp only [View.ld_unit_zero (S := S1024x1024) hz2]
  refine canon_over (e := .f32) (headBlock i x0 x4 x5 x7) [_, _, _, _] _ ?_ S16x128.size (by sl_kernel_rfl)
  refine ⟨fun z => ?_, fun z => ?_, fun z => ?_, fun z => ?_, trivial⟩ <;> idx_vars z
  · exact (hd3 _ _ i x0 x4 x5 x7).trans (by pointwise [emb_idx])
  · exact (hd2 _ _ i x0 x4 x5 x7).trans (by pointwise [emb_idx])
  · exact (hd1 _ _ i x0 x4 x5 x7).trans (by pointwise [emb_idx])
  · exact (hd0 _ _ i x0 x4 x5 x7).trans (by pointwise [emb_idx])

end Cert.Pool
-- ==== Proof.PoolAcc.lean ====
/- What the pool kernel's buffers hold after each grid point, and what its result arrays hold at the end.

   The grid walks the blocks of tokens from the last to the first: point `t` holds the tokens `tok t r`.  The blockwise
   results are the point's formulas; the four parameter gradients are sums of the points' terms; the carried weights are
   those of the point before, which are the following tokens'. -/
module

public import proofs.«01_k».proof.Proof.PoolFirst
public import proofs.«01_k».proof.Proof.Gen.KernelIdeal.Value
public import Idealize.ShloMosaic.Lib.Pipeline.ValueKit

@[expose] public section

set_option maxRecDepth 16384

noncomputable section

open Idealize.ShloMosaic Idealize.ShloMosaic.TcCoe Idealize.SL.Sem

namespace Cert.Pool

open Cert.KernelIdeal Cert.KernelIdeal.Gen

variable (m : (ℓ : Loc nD τ sig) → Buf (Elt Ideal) ℓ) (c : Dev nD)

/-! ## After each point -/

section Run

variable (t : Fin cfg0.N)

/-! The blocks a point reads. -/

abbrev X0 : Vec Ideal S1024x1024 .f32 := iblk m c 0 t
abbrev X1 : Vec Ideal S1024x512 .bf16 := iblk m c 1 t
abbrev X2 : Vec Ideal S1024x512 .bf16 := iblk m c 2 t
abbrev X3 : Vec Ideal S1024x512 .bf16 := iblk m c 3 t
abbrev X4 : Vec Ideal S1024x1024 .bf16 := iblk m c 4 t
abbrev X5 : Vec Ideal S4x128x128 .bf16 := iblk m c 5 t
abbrev X6 : Vec Ideal S1x512 .f32 := iblk m c 6 t
abbrev X7 : Vec Ideal S1x512 .f32 := iblk m c 7 t

/-- A step from nothing and a step over a sum differ by the sum. -/
def Steps {S : Shape} (f : (S.Idx → EReal) → S.Idx → EReal) : Prop := ∀ a y, f a y = a y + f (fun _ => 0) y

/-- The sum over the points up to `n`. -/
def upTo {S : Shape} (f : Fin cfg0.N → (S.Idx → EReal) → S.Idx → EReal) (n : ℕ) (h : n < cfg0.N) : S.Idx → EReal :=
  fun y => ∑ t : Fin (n + 1), f ⟨t.val, by omega⟩ (fun _ => 0) y

theorem upTo_zero {S : Shape} (f : Fin cfg0.N → (S.Idx → EReal) → S.Idx → EReal) (h : 0 < cfg0.N) :
    f ⟨0, h⟩ (fun _ => 0) = upTo f 0 h := by
  funext y
  exact (Fin.sum_univ_one (fun t : Fin 1 => f ⟨t.val, by omega⟩ (fun _ => 0) y)).symm

theorem upTo_succ {S : Shape} (f : Fin cfg0.N → (S.Idx → EReal) → S.Idx → EReal) (hf : ∀ t, Steps (f t)) (n : ℕ) (h : n + 1 < cfg0.N) :
    f ⟨n + 1, h⟩ (upTo f n (by omega)) = upTo f (n + 1) h := by
  funext y
  rw [hf]
  unfold upTo
  rw [Fin.sum_univ_castSucc (n := n + 1)]
  rfl

/-- What a point finds carried: nothing at the first, then the head of the point before. -/
def carry : (n : ℕ) → n < cfg0.N → Vec Ideal S16x512 .f32
  | 0, _ => fun _ => 0
  | n + 1, h => headBlock (grid0.coords ⟨n, Nat.lt_of_succ_lt h⟩) (X0 m c ⟨n, Nat.lt_of_succ_lt h⟩) (X4 m c ⟨n, Nat.lt_of_succ_lt h⟩) (X5 m c ⟨n, Nat.lt_of_succ_lt h⟩) (X7 m c ⟨n, Nat.lt_of_succ_lt h⟩)

def dwo (t : Fin cfg0.N) (a : S1024x1024.Idx → EReal) : S1024x1024.Idx → EReal := dwoStep (X0 m c t) (X1 m c t) (X2 m c t) a
def dwp (t : Fin cfg0.N) (a : S4x128x128.Idx → EReal) : S4x128x128.Idx → EReal := dwpStep (X0 m c t) (X3 m c t) (X4 m c t) (X7 m c t) a
def db (t : Fin cfg0.N) (a : S1x512.Idx → EReal) : S1x512.Idx → EReal := dbStep (X0 m c t) (X4 m c t) (X7 m c t) a
def ds (t : Fin cfg0.N) (a : S1x512.Idx → EReal) : S1x512.Idx → EReal := dsStep (X0 m c t) (X3 m c t) (X4 m c t) (X5 m c t) (X6 m c t) a

theorem dwo_steps (t : Fin cfg0.N) : Steps (dwo m c t) := fun a y => by simp only [dwo, dwoStep, zero_add]
theorem dwp_steps (t : Fin cfg0.N) : Steps (dwp m c t) := fun a y => by simp only [dwp, dwpStep, zero_add]
theorem db_steps (t : Fin cfg0.N) : Steps (db m c t) := fun a y => by simp only [db, dbStep, zero_add]
theorem ds_steps (t : Fin cfg0.N) : Steps (ds m c t) := fun a y => by simp only [ds, dsStep, zero_add]

/-- What the buffers hold after point `n`. -/
theorem outs_eq : ∀ (n : ℕ) (h : n < cfg0.N), outsAt0 m c n h =
    (dattn (X0 m c ⟨n, h⟩) (X4 m c ⟨n, h⟩),
      duBlock (grid0.coords ⟨n, h⟩) (X0 m c ⟨n, h⟩) (X4 m c ⟨n, h⟩) (X5 m c ⟨n, h⟩) (X7 m c ⟨n, h⟩) (carry m c n h),
      upTo (dwo m c) n h, upTo (dwp m c) n h, upTo (db m c) n h, upTo (ds m c) n h,
      headBlock (grid0.coords ⟨n, h⟩) (X0 m c ⟨n, h⟩) (X4 m c ⟨n, h⟩) (X5 m c ⟨n, h⟩) (X7 m c ⟨n, h⟩))
  | 0, h => by
    refine (outsAt0_A m c ⟨0, h⟩ rfl).trans ?_
    rw [dattn_A, du_A, dwo_A, dwp_A, db_A, ds_A, head_A]
    exact congr (congrArg Prod.mk rfl) (congr (congrArg Prod.mk rfl) (congr (congrArg Prod.mk (upTo_zero (dwo m c) h))
      (congr (congrArg Prod.mk (upTo_zero (dwp m c) h)) (congr (congrArg Prod.mk (upTo_zero (db m c) h))
        (congr (congrArg Prod.mk (upTo_zero (ds m c) h)) rfl)))))
  | n + 1, h => by
    have hN : cfg0.N = 8 := N_0
    have hB : ¬(⟨n + 1, h⟩ : Fin cfg0.N).val % 8 = 0 := by dsimp only; omega
    refine (outsAt0_B m c ⟨n + 1, h⟩ hB).trans ?_
    rw [dattn_B, du_B, dwo_B, dwp_B, db_B, ds_B, head_B]
    simp only [Nat.add_sub_cancel, outs_eq n (by omega)]
    exact congr (congrArg Prod.mk rfl) (congr (congrArg Prod.mk rfl) (congr (congrArg Prod.mk (upTo_succ _ (dwo_steps m c) n h))
      (congr (congrArg Prod.mk (upTo_succ _ (dwp_steps m c) n h)) (congr (congrArg Prod.mk (upTo_succ _ (db_steps m c) n h))
        (congr (congrArg Prod.mk (upTo_succ _ (ds_steps m c) n h)) rfl)))))

end Run

/-! ## The blocks within the arrays -/

/-- The token at row `r` of point `t`. -/
def tok (t : Fin cfg0.N) (r : Fin 1024) : Fin 8192 := ⟨(7 - t.val) * 1024 + r.val, by omega⟩

theorem index_rows : ∀ t : Fin grid0.N, win0_0.index t = ![7 - t.val, 0] ∧ win0_1.index t = ![7 - t.val, 0]
    ∧ win0_2.index t = ![7 - t.val, 0] ∧ win0_3.index t = ![7 - t.val, 0] ∧ win0_8.index t = ![7 - t.val, 0] ∧ win0_9.index t = ![7 - t.val, 0]
    ∧ win0_4.index t = ![0, 0] ∧ win0_5.index t = ![0, 0, 0] ∧ win0_6.index t = ![0, 0] ∧ win0_7.index t = ![0, 0] := by
  decide +kernel

theorem coords_val : ∀ t : Fin grid0.N, (grid0.coords t 0).val = t.val := by decide +kernel

variable (t : Fin cfg0.N)

theorem X0_apply (r : Fin 1024) (k : Fin 1024) : X0 m c t (ix2 r k) = V m c main_arg0 (ix2 (tok t r) k) := by
  show iblk m c 0 t _ = _
  blk_ext [iblk, index_rows t, tok]

theorem X1_apply (r : Fin 1024) (k : Fin 512) : X1 m c t (ix2 r k) = V m c main_v52 (ix2 (tok t r) k) := by
  show iblk m c 1 t _ = _
  blk_ext [iblk, index_rows t, tok]

theorem X2_apply (r : Fin 1024) (k : Fin 512) : X2 m c t (ix2 r k) = V m c main_v53 (ix2 (tok t r) k) := by
  show iblk m c 2 t _ = _
  blk_ext [iblk, index_rows t, tok]

theorem X3_apply (r : Fin 1024) (k : Fin 512) : X3 m c t (ix2 r k) = V m c main_v55 (ix2 (tok t r) k) := by
  show iblk m c 3 t _ = _
  blk_ext [iblk, index_rows t, tok]

theorem X4_apply (a b : Fin 1024) : X4 m c t (ix2 a b) = V m c main_v56 (ix2 a b) := by
  show iblk m c 4 t _ = _
  blk_ext [iblk, index_rows t]

theorem X5_apply (g : Fin 4) (a b : Fin 128) : X5 m c t (ix3 g a b) = V m c main_v57 (ix3 g a b) := by
  show iblk m c 5 t _ = _
  blk_ext [iblk, index_rows t]

theorem X6_apply (j : Fin 512) : X6 m c t (ix2 0 j) = V m c main_v58 (ix2 0 j) := by
  show iblk m c 6 t _ = _
  blk_ext [iblk, index_rows t]

theorem X7_apply (j : Fin 512) : X7 m c t (ix2 0 j) = V m c main_v59 (ix2 0 j) := by
  show iblk m c 7 t _ = _
  blk_ext [iblk, index_rows t]

end Cert.Pool
-- ==== Proof.PoolFormulas.lean ====
/- The gradients that the pool kernel computes, as formulas over the whole arrays.

   `ct` is the gradient of the block's output, `wo` the output weights, `mx` the windowed means, `wp` the pooling matrices,
   `b` the bias and `sc` the scale.  A column `j` of the 512 belongs to group `j / 128`, whose window has `2 ^ (j/128 + 1)`
   tokens. -/
module

public import proofs.«01_k».proof.Proof.PoolFirst

@[expose] public section

noncomputable section

open Idealize.ShloMosaic Idealize.ShloMosaic.TcCoe Idealize.SL.Sem

namespace Cert.Pool

open Cert.KernelIdeal

variable (ct : S8192x1024.Idx → EReal) (at' : S8192x512.Idx → EReal) (pl mx : S8192x512.Idx → EReal) (wo : S1024x1024.Idx → EReal)
  (wp : S4x128x128.Idx → EReal) (b sc : S1x512.Idx → EReal)

/-- The gradient of the concatenated row. -/
def gcat (T : Fin 8192) (a : Fin 1024) : EReal := ∑ k : Fin 1024, ct (ix2 T k) * wo (ix2 a k)

/-- The gradient of its pooled half. -/
def gdy (T : Fin 8192) (j : Fin 512) : EReal := gcat ct wo T ⟨512 + j.val, by omega⟩

/-- The gradient before the scale. -/
def gdpre (T : Fin 8192) (j : Fin 512) : EReal := gdy ct wo T j * sc (ix2 0 j)

/-- The pooling projection before the scale. -/
def gpre (T : Fin 8192) (j : Fin 512) : EReal :=
  ∑ c : Fin 128, mx (ix2 T ⟨128 * (j.val / 128) + c.val, by omega⟩) * wp (ix3 ⟨j.val / 128, by omega⟩ c ⟨j.val % 128, by omega⟩)
    + b (ix2 0 j)

/-- The gradient of the windowed means less the token. -/
def gdmix (T : Fin 8192) (j : Fin 512) : EReal :=
  ∑ d : Fin 128, gdpre ct wo sc T ⟨128 * (j.val / 128) + d.val, by omega⟩
    * wp (ix3 ⟨j.val / 128, by omega⟩ ⟨j.val % 128, by omega⟩ d)

/-- The number of tokens in the window that ends at `T`. -/
def size (T : Fin 8192) (j : Fin 512) : ℕ := min (T.val + 1) (2 ^ (j.val / 128 + 1))

/-- What each token of the window that ends at `T` receives. -/
def gwt (T : Fin 8192) (j : Fin 512) : EReal := Ideal.div (gdmix ct wo wp sc T j) ((size T j : ℝ) : EReal)

/-- The gradient of the attention half. -/
def gAttn : S8192x512.Idx → EReal := fun y => gcat ct wo (y 0) ⟨(y 1).val, by have h : (y 1).val < 512 := (y 1).isLt; omega⟩

/-- The gradient of the pooled branch's input: what the windows that hold the token send it, less the token's own. -/
def gDu : S8192x512.Idx → EReal := fun y =>
  (∑ s ∈ Finset.range (2 ^ ((y 1).val / 128 + 1)), if h : (y 0).val + s < 8192 then gwt ct wo wp sc ⟨(y 0).val + s, h⟩ (y 1) else 0)
    - gdmix ct wo wp sc (y 0) (y 1)

/-- The gradient of the output weights. -/
def gWo : S1024x1024.Idx → EReal := fun y =>
  ∑ T : Fin 8192, (if h : (y 0).val < 512 then at' (ix2 T ⟨(y 0).val, h⟩)
    else pl (ix2 T ⟨(y 0).val - 512, by have h0 : (y 0).val < 1024 := (y 0).isLt; omega⟩)) * ct (ix2 T (y 1))

/-- The gradient of the pooling matrices. -/
def gWp : S4x128x128.Idx → EReal := fun y =>
  ∑ T : Fin 8192, mx (ix2 T ⟨128 * (y 0).val + (y 1).val, by have h0 : (y 0).val < 4 := (y 0).isLt; have h1 : (y 1).val < 128 := (y 1).isLt; omega⟩)
    * gdpre ct wo sc T ⟨128 * (y 0).val + (y 2).val, by have h0 : (y 0).val < 4 := (y 0).isLt; have h1 : (y 2).val < 128 := (y 2).isLt; omega⟩

/-- The gradient of the bias. -/
def gB : S1x512.Idx → EReal := fun y => ∑ T : Fin 8192, gdpre ct wo sc T (y 1)

/-- The gradient of the scale. -/
def gS : S1x512.Idx → EReal := fun y => ∑ T : Fin 8192, gdy ct wo T (y 1) * gpre mx wp b T (y 1)

end Cert.Pool
-- ==== Proof.PoolArrays.lean ====
/- The pool kernel's six result arrays at the end, as the formulas over the whole arrays. -/
module

public import proofs.«01_k».proof.Proof.PoolAcc
public import proofs.«01_k».proof.Proof.PoolFormulas

@[expose] public section

set_option maxRecDepth 16384

noncomputable section

open Idealize.ShloMosaic Idealize.ShloMosaic.TcCoe Idealize.SL.Sem

namespace Cert.Pool

open Cert.KernelIdeal Cert.KernelIdeal.Gen

variable (m : (ℓ : Loc nD τ sig) → Buf (Elt Ideal) ℓ) (c : Dev nD)

/-! ## A point's formulas are the array's -/

section Point

variable (t : Fin cfg0.N) (r : Fin 1024) (j : Fin 512)

theorem dy_eq : dy (X0 m c t) (X4 m c t) r j = gdy (V m c main_arg0) (V m c main_v56) (tok t r) j := by
  simp only [dy, gdy, gcat, X0_apply, X4_apply]

theorem dpre_eq : dpre (X0 m c t) (X4 m c t) (X7 m c t) r j
    = gdpre (V m c main_arg0) (V m c main_v56) (V m c main_v59) (tok t r) j := by
  simp only [dpre, gdpre, dy_eq, X7_apply]

theorem pre_eq : pre (X3 m c t) (X5 m c t) (X6 m c t) r j
    = gpre (V m c main_v55) (V m c main_v57) (V m c main_v58) (tok t r) j := by
  simp only [pre, gpre, X3_apply, X5_apply, X6_apply]

theorem dmix_eq : dmix (X0 m c t) (X4 m c t) (X5 m c t) (X7 m c t) r j
    = gdmix (V m c main_arg0) (V m c main_v56) (V m c main_v57) (V m c main_v59) (tok t r) j := by
  simp only [dmix, gdmix, dpre_eq, X5_apply]

theorem wt_eq : wt (grid0.coords t) (X0 m c t) (X4 m c t) (X5 m c t) (X7 m c t) r j
    = gwt (V m c main_arg0) (V m c main_v56) (V m c main_v57) (V m c main_v59) (tok t r) j := by
  simp only [wt, gwt, dmix_eq, coords_val, size, tok]

end Point

/-- A sum over the points of sums over a point's rows is the sum over the tokens. -/
theorem sum_tokens (f : Fin 8192 → EReal) (h : 7 < cfg0.N) :
    ∑ t : Fin (7 + 1), ∑ r : Fin 1024, f (tok ⟨t.val, by omega⟩ r) = ∑ T : Fin 8192, f T := by
  rw [← Equiv.sum_comp (finProdFinEquiv : Fin 8 × Fin 1024 ≃ Fin 8192) f, Fintype.sum_prod_type,
    ← Equiv.sum_comp (Fin.revPerm : Fin 8 ≃ Fin 8)]
  refine Finset.sum_congr rfl fun t _ => Finset.sum_congr rfl fun r _ => congrArg f (Fin.ext ?_)
  show (7 - (Fin.rev t).val) * 1024 + r.val = r.val + 1024 * t.val
  rw [Fin.val_rev]
  omega

theorem lt7 : 7 < cfg0.N := by rw [show cfg0.N = 8 from N_0]; omega

theorem upTo_wo : upTo (dwo m c) 7 lt7 = gWo (V m c main_arg0) (V m c main_v52) (V m c main_v53) := by
  funext y
  refine Eq.trans ?_ (sum_tokens _ lt7)
  exact Finset.sum_congr rfl fun t _ => by
    simp only [dwo, dwoStep, X1_apply, X2_apply, zero_add]
    exact Finset.sum_congr rfl fun r _ => congrArg (_ * ·) (X0_apply m c _ r (y 1))

theorem upTo_wp : upTo (dwp m c) 7 lt7 = gWp (V m c main_arg0) (V m c main_v55) (V m c main_v56) (V m c main_v59) := by
  funext y
  refine Eq.trans ?_ (sum_tokens _ lt7)
  exact Finset.sum_congr rfl fun t _ => by simp only [dwp, dwpStep, X3_apply, dpre_eq, zero_add]

theorem upTo_b : upTo (db m c) 7 lt7 = gB (V m c main_arg0) (V m c main_v56) (V m c main_v59) := by
  funext y
  refine Eq.trans ?_ (sum_tokens _ lt7)
  exact Finset.sum_congr rfl fun t _ =>
    (zero_add _).trans (Finset.sum_congr rfl fun r _ => dpre_eq m c _ r (y 1))

theorem upTo_s : upTo (ds m c) 7 lt7
    = gS (V m c main_arg0) (V m c main_v55) (V m c main_v56) (V m c main_v57) (V m c main_v58) := by
  funext y
  refine Eq.trans ?_ (sum_tokens _ lt7)
  exact Finset.sum_congr rfl fun t _ =>
    (zero_add _).trans (Finset.sum_congr rfl fun r _ => congrArg₂ (· * ·) (dy_eq m c _ r (y 1)) (pre_eq m c _ r (y 1)))

/-- The weights that follow a point's row, its own and the carried ones, are those of the following tokens. -/
theorem ext_eq : ∀ (n : ℕ) (h : n < cfg0.N) (j : Fin 512) (q : ℕ) (hq : q < 1040),
    ext (fun r => wt (grid0.coords ⟨n, h⟩) (X0 m c ⟨n, h⟩) (X4 m c ⟨n, h⟩) (X5 m c ⟨n, h⟩) (X7 m c ⟨n, h⟩) r j)
        (fun r => carry m c n h (ix2 r j)) q
      = if h : (7 - n) * 1024 + q < 8192 then
          gwt (V m c main_arg0) (V m c main_v56) (V m c main_v57) (V m c main_v59) ⟨(7 - n) * 1024 + q, h⟩ j else 0 := by
  intro n h j q hq
  have hn : n < 8 := by have : cfg0.N = 8 := N_0; omega
  unfold ext
  by_cases h1 : q < 1024
  · rw [dif_pos h1, dif_pos (show (7 - n) * 1024 + q < 8192 by omega)]
    exact wt_eq m c ⟨n, h⟩ ⟨q, h1⟩ j
  · rw [dif_neg h1, dif_pos (show q - 1024 < 16 by omega)]
    match n, h with
    | 0, h => rw [dif_neg (show ¬(7 - 0) * 1024 + q < 8192 by omega)]; rfl
    | k + 1, h =>
      rw [dif_pos (show (7 - (k + 1)) * 1024 + q < 8192 by omega)]
      refine (wt_eq m c ⟨k, by omega⟩ ⟨q - 1024, by omega⟩ j).trans ?_
      refine congrArg (fun T => gwt _ _ _ _ T j) (Fin.ext ?_)
      show (7 - k) * 1024 + (q - 1024) = (7 - (k + 1)) * 1024 + q
      omega

theorem width_le (j : Fin 512) : 2 ^ (j.val / 128 + 1) ≤ 16 :=
  (Nat.pow_le_pow_right (by omega) (by omega : j.val / 128 + 1 ≤ 4)).trans (by norm_num)

/-! ## The arrays -/

theorem place8 (t : Fin cfg0.N) (y : S1024x512.Idx) : (win0_8.blk t).view.emb y = ix2 (tok t (y 0)) (y 1) := by
  blk_ext [index_rows t, tok]

theorem place9 (t : Fin cfg0.N) (y : S1024x512.Idx) : (win0_9.blk t).view.emb y = ix2 (tok t (y 0)) (y 1) := by
  blk_ext [index_rows t, tok]

theorem final8 : (dats m 0 c).arrAt 8 cfg0.N = gAttn (V m c main_arg0) (V m c main_v56) := by
  refine (dats m 0 c).arrAt_eq_of_covers 8 _ (by decide +kernel) fun t hf y => ?_
  blk_simp
  rw [after0_8, outs_eq]
  refine Eq.trans ?_ (congrArg (gAttn (V m c main_arg0) (V m c main_v56)) (place8 t y)).symm
  show dattn (X0 m c t) (X4 m c t) y = _
  unfold dattn gAttn gcat
  exact Finset.sum_congr rfl fun k _ => congrArg₂ (· * ·) (X0_apply m c t (y 0) k) (X4_apply m c t _ k)

theorem final9 : (dats m 0 c).arrAt 9 cfg0.N = gDu (V m c main_arg0) (V m c main_v56) (V m c main_v57) (V m c main_v59) := by
  refine (dats m 0 c).arrAt_eq_of_covers 9 _ (by decide +kernel) fun t hf y => ?_
  blk_simp
  rw [after0_9, outs_eq]
  refine Eq.trans ?_ (congrArg (gDu (V m c main_arg0) (V m c main_v56) (V m c main_v57) (V m c main_v59)) (place9 t y)).symm
  refine congrArg₂ (· - ·) (Finset.sum_congr rfl fun s hs => ?_) (dmix_eq m c t (y 0) (y 1))
  have h0 : (y 0).val < 1024 := (y 0).isLt
  have hw : 2 ^ ((y 1).val / 128 + 1) ≤ 16 := width_le (y 1)
  have hs' : s < 2 ^ ((y 1).val / 128 + 1) := Finset.mem_range.mp hs
  refine (ext_eq m c t.val t.isLt (y 1) ((y 0).val + s) (by omega)).trans ?_
  simp only [← add_assoc]
  rfl

theorem final10 : (dats m 0 c).arrAt 10 cfg0.N = gWo (V m c main_arg0) (V m c main_v52) (V m c main_v53) := by
  refine (dats m 0 c).arrAt_eq_of_after_last 10 t0_7 (by decide +kernel) _ fun j => ?_
  blk_simp
  rw [after0_10, outs_eq]
  exact congrFun (upTo_wo m c) j

theorem final11 : (dats m 0 c).arrAt 11 cfg0.N = gWp (V m c main_arg0) (V m c main_v55) (V m c main_v56) (V m c main_v59) := by
  refine (dats m 0 c).arrAt_eq_of_after_last 11 t0_7 (by decide +kernel) _ fun j => ?_
  blk_simp
  rw [after0_11, outs_eq]
  exact congrFun (upTo_wp m c) j

theorem final12 : (dats m 0 c).arrAt 12 cfg0.N = gB (V m c main_arg0) (V m c main_v56) (V m c main_v59) := by
  refine (dats m 0 c).arrAt_eq_of_after_last 12 t0_7 (by decide +kernel) _ fun j => ?_
  blk_simp
  rw [after0_12, outs_eq]
  exact congrFun (upTo_b m c) j

theorem final13 : (dats m 0 c).arrAt 13 cfg0.N
    = gS (V m c main_arg0) (V m c main_v55) (V m c main_v56) (V m c main_v57) (V m c main_v58) := by
  refine (dats m 0 c).arrAt_eq_of_after_last 13 t0_7 (by decide +kernel) _ fun j => ?_
  blk_simp
  rw [after0_13, outs_eq]
  exact congrFun (upTo_s m c) j

end Cert.Pool
-- ==== Proof.PoolRef.lean ====
/- The pool reference's results, stage by stage, and their entries. -/
module

public import proofs.«01_k».proof.Proof.PoolFormulas
public import proofs.«01_k».proof.Proof.Gen.ReferenceIdeal.Run

@[expose] public section

set_option maxRecDepth 16384

noncomputable section

open Idealize.ShloMosaic Idealize.ShloMosaic.TcCoe Idealize.SL.Sem

namespace Cert.Pool.Ref

open Cert.ReferenceIdeal Cert.ReferenceIdeal.Gen

/-! ## The stages -/

/-- One more than each token's position. -/
def next : IVec S8192x4 32 :=
  broadcastInDim S8192x4 ![0, 1] bcast_S8192x1_S8192x4_0_1 (addi (broadcastInDim S8192x1 ![0] bcast_S8192_S8192x1_0 (iotaInDim S8192 32 0))
    (broadcastInDim S8192x1 ![] bcast_S_S8192x1 (constantI S_ 32 1#32)))

/-- The first token of each token's window, per group. -/
def start : IVec S8192x4 32 :=
  maxsi (subi next (broadcastInDim S8192x4 ![0, 1] bcast_S1x4_S8192x4_0_1 (broadcastInDim S1x4 ![1] bcast_S4_S1x4_1 (fun i => lit0 (S4.rowMajor i)))))
    (broadcastInDim S8192x4 ![] bcast_S_S8192x4 (constantI S_ 32 0#32))

/-- The first tokens and the groups, as a pair of indices. -/
def places : IVec S8192x4x2 32 :=
  concatenate S8192x4x2 2 [⟨S8192x4x1, broadcastInDim S8192x4x1 ![0, 1] bcast_S8192x4_S8192x4x1_0_1
      (select (cmpi .slt start (broadcastInDim S8192x4 ![] bcast_S_S8192x4 (constantI S_ 32 0#32)))
        (addi start (broadcastInDim S8192x4 ![] bcast_S_S8192x4 (constantI S_ 32 8193#32))) start)⟩,
    ⟨S8192x4x1, broadcastInDim S8192x4x1 ![0, 1] bcast_S8192x4_S8192x4x1_0_1 (broadcastInDim S8192x4 ![0, 1] bcast_S1x4_S8192x4_0_1
      (select (cmpi .slt (broadcastInDim S1x4 ![1] bcast_S4_S1x4_1 (iotaInDim S4 32 0)) (broadcastInDim S1x4 ![] bcast_S_S1x4 (constantI S_ 32 0#32)))
        (addi (broadcastInDim S1x4 ![1] bcast_S4_S1x4_1 (iotaInDim S4 32 0)) (broadcastInDim S1x4 ![] bcast_S_S1x4 (constantI S_ 32 4#32)))
        (broadcastInDim S1x4 ![1] bcast_S4_S1x4_1 (iotaInDim S4 32 0))))⟩] concatenates_S8192x4x1_S8192x4x1_S8192x4x2_d2

/-- The number of tokens in each window. -/
def count : FVec Ideal S8192x4x128 .f32 :=
  broadcastInDim S8192x4x128 ![0, 1, 2] bcast_S8192x4x1_S8192x4x128_0_1_2 (broadcastInDim S8192x4x1 ![0, 1] bcast_S8192x4_S8192x4x1_0_1
    (sitofp .f32 (subi next start)))

/-- The running sums of the pooled branch's input, from nothing. -/
def sums (u : FVec Ideal S8192x512 .f32) : FVec Ideal S8193x4x128 .f32 :=
  concatenate S8193x4x128 0 [⟨S1x4x128, broadcastInDim S1x4x128 ![] bcast_S_S1x4x128 (constant S_ .f32 0x00000000#32)⟩,
    ⟨S8192x4x128, Host.reduceWindowAdd ![8192, 1, 1] ![1, 1, 1] ![8191, 0, 0] ![0, 0, 0] (shapeCast _ u shapeCasts_S8192x512_S8192x4x128)
      (broadcastInDim S_ ![] bcast_S_S_ (constant S_ .f32 0x00000000#32)) reduceWindows_S8192x4x128_S8192x4x128_w8192s1p8191_0_w1s1p0_0_w1s1p0_0 h_S_⟩]
    concatenates_S1x4x128_S8192x4x128_S8193x4x128_d0

/-- The windowed means less the token: what both programs compute before the call. -/
def mix (u : FVec Ideal S8192x512 .f32) : FVec Ideal S8192x4x128 .f32 :=
  subf (Host.divf (subf (extractStridedSlice S8192x4x128 ![1, 0, 0] (sums u) slices_S8193x4x128_S8192x4x128_1_0_0)
    (Host.gather gather_S8193x4x128_S8192x4x2_S8192x4x128_2_01_n_n_01_2_11128 (sums u) places)) count)
    (shapeCast _ u shapeCasts_S8192x512_S8192x4x128)

/-- The pooling projection before the scale. -/
def pre (u : FVec Ideal S8192x512 .f32) (wp : FVec Ideal S4x128x128 .f32) (b : FVec Ideal S4x128 .f32) : FVec Ideal S8192x4x128 .f32 :=
  addf (transpose S8192x4x128 [2, 0, 1] (Host.dotGeneral dot_S4x128x128_S8192x4x128_S4x128x8192_1_2_2_0_0_1 none wp (mix u))
      transposes_S4x128x8192_S8192x4x128_2_0_1)
    (broadcastInDim S8192x4x128 ![0, 1, 2] bcast_S1x4x128_S8192x4x128_0_1_2 (broadcastInDim S1x4x128 ![1, 2] bcast_S4x128_S1x4x128_1_2 b))

/-- A row of 512 over every token. -/
def rows (sc : FVec Ideal S4x128 .f32) : FVec Ideal S8192x4x128 .f32 :=
  broadcastInDim S8192x4x128 ![0, 1, 2] bcast_S1x4x128_S8192x4x128_0_1_2 (broadcastInDim S1x4x128 ![1, 2] bcast_S4x128_S1x4x128_1_2 sc)

/-- The pooled branch. -/
def pooled (u : FVec Ideal S8192x512 .f32) (wp : FVec Ideal S4x128x128 .f32) (b sc : FVec Ideal S4x128 .f32) : FVec Ideal S8192x512 .f32 :=
  shapeCast _ (mulf (pre u wp b) (rows sc)) shapeCasts_S8192x4x128_S8192x512

/-- The gradient of the concatenated row. -/
def dcat (ct : FVec Ideal S8192x1024 .f32) (wo : FVec Ideal S1024x1024 .f32) : FVec Ideal S8192x1024 .f32 :=
  Host.dotGeneral dot_S8192x1024_S1024x1024_S8192x1024_1_1_0_0_n_n none ct wo

/-- The gradient of its pooled half. -/
def dy (ct : FVec Ideal S8192x1024 .f32) (wo : FVec Ideal S1024x1024 .f32) : FVec Ideal S8192x4x128 .f32 :=
  shapeCast _ (extractStridedSlice S8192x512 ![0, 512] (dcat ct wo) slices_S8192x1024_S8192x512_0_512) shapeCasts_S8192x512_S8192x4x128

/-- The gradient before the scale. -/
def dpre (ct : FVec Ideal S8192x1024 .f32) (wo : FVec Ideal S1024x1024 .f32) (sc : FVec Ideal S4x128 .f32) : FVec Ideal S8192x4x128 .f32 :=
  mulf (dy ct wo) (rows sc)

/-- The gradient of the windowed means less the token. -/
def dmix (ct : FVec Ideal S8192x1024 .f32) (wo : FVec Ideal S1024x1024 .f32) (wp : FVec Ideal S4x128x128 .f32) (sc : FVec Ideal S4x128 .f32) :
    FVec Ideal S8192x4x128 .f32 :=
  transpose S8192x4x128 [1, 0, 2] (Host.dotGeneral dot_S4x128x8192_S4x128x128_S4x8192x128_1_2_2_1_0_0 none
    (transpose S4x128x8192 [1, 2, 0] (dpre ct wo sc) transposes_S8192x4x128_S4x128x8192_1_2_0) wp) transposes_S4x8192x128_S8192x4x128_1_0_2

/-- What the running sums receive. -/
def dsums (W : FVec Ideal S8192x4x128 .f32) : FVec Ideal S8193x4x128 .f32 :=
  addf (Host.scatterAdd scatter_S8193x4x128_S8192x4x2_S8192x4x128_2_01_01_2
      (broadcastInDim S8193x4x128 ![] bcast_S_S8193x4x128 (constant S_ .f32 0x00000000#32)) places (Host.negf W))
    (pad S8193x4x128 ![1, 0, 0] ![0, 0, 0] ![0, 0, 0] W (constant S_ .f32 0x00000000#32) pads_S8192x4x128_S8193x4x128_100_000_000 h_S_)

/-- The sums from each token on. -/
def tails (D : FVec Ideal S8193x4x128 .f32) : FVec Ideal S8192x4x128 .f32 :=
  Host.reduceWindowAdd ![8192, 1, 1] ![1, 1, 1] ![0, 0, 0] ![8191, 0, 0]
    (extractStridedSlice S8192x4x128 ![1, 0, 0] D slices_S8193x4x128_S8192x4x128_1_0_0)
    (broadcastInDim S_ ![] bcast_S_S_ (constant S_ .f32 0x00000000#32)) reduceWindows_S8192x4x128_S8192x4x128_w8192s1p0_8191_w1s1p0_0_w1s1p0_0 h_S_

/-- The sum over the tokens, as a row of 512. -/
def total (v : FVec Ideal S8192x4x128 .f32) : FVec Ideal S1x512 .f32 :=
  shapeCast _ (Host.reduceAdd (shapeCast _ (Host.reduceAdd v (constant S_ .f32 0x00000000#32) reducesTo_S8192x4x128_S4x128_d0 h_S_)
      shapeCasts_S4x128_S1x4x128) (constant S_ .f32 0x00000000#32) reducesTo_S1x4x128_S4x128_d0 h_S_) shapeCasts_S4x128_S1x512

/-! ## The results are made of the stages -/

section Results

variable (m : (ℓ : Loc nD τ sig) → Buf (Elt Ideal) ℓ) (c : Dev nD)

abbrev ct : FVec Ideal S8192x1024 .f32 := m ((c.tc : Thread nD τ).loc main_arg0)
abbrev attn : FVec Ideal S8192x512 .f32 := m ((c.tc : Thread nD τ).loc main_arg1)
abbrev u : FVec Ideal S8192x512 .f32 := m ((c.tc : Thread nD τ).loc main_arg2)
abbrev wp : FVec Ideal S4x128x128 .f32 := m ((c.tc : Thread nD τ).loc main_arg3)
abbrev b : FVec Ideal S4x128 .f32 := m ((c.tc : Thread nD τ).loc main_arg4)
abbrev sc : FVec Ideal S4x128 .f32 := m ((c.tc : Thread nD τ).loc main_arg5)
abbrev wo : FVec Ideal S1024x1024 .f32 := m ((c.tc : Thread nD τ).loc main_arg6)

theorem out5 : Value.res_out5 m c = total (mulf (pre (u m c) (wp m c) (b m c)) (dy (ct m c) (wo m c))) := rfl

theorem out3 : Value.res_out3 m c = transpose S4x128x128 [0, 2, 1] (Host.dotGeneral dot_S4x128x8192_S8192x4x128_S4x128x128_2_0_1_2_0_1 none
    (transpose S4x128x8192 [1, 2, 0] (dpre (ct m c) (wo m c) (sc m c)) transposes_S8192x4x128_S4x128x8192_1_2_0) (mix (u m c)))
    transposes_S4x128x128_S4x128x128_0_2_1 := rfl

theorem out2 : Value.res_out2 m c = transpose S1024x1024 [1, 0] (Host.dotGeneral dot_S8192x1024_S8192x1024_S1024x1024_0_0_1_1_n_n none (ct m c)
    (concatenate S8192x1024 1 [⟨S8192x512, attn m c⟩, ⟨S8192x512, pooled (u m c) (wp m c) (b m c) (sc m c)⟩]
      concatenates_S8192x512_S8192x512_S8192x1024_d1)) transposes_S1024x1024_S1024x1024_1_0 := rfl

theorem out1 : Value.res_out1 m c = truncf .bf16 (shapeCast _ (addf (Host.negf (dmix (ct m c) (wo m c) (wp m c) (sc m c)))
    (tails (dsums (Host.divf (dmix (ct m c) (wo m c) (wp m c) (sc m c)) count)))) shapeCasts_S8192x4x128_S8192x512) bitsLt_bf16_f32 := rfl

end Results

end Cert.Pool.Ref
-- ==== Proof.PoolRefAt.lean ====
/- The entries of the pool reference's stages. -/
module

public import proofs.«01_k».proof.Proof.PoolRef
public import Idealize.ShloMosaic.Lib.Routing.OpsPair

@[expose] public section

set_option maxRecDepth 16384

noncomputable section

open Idealize.ShloMosaic Idealize.ShloMosaic.TcCoe Idealize.SL.Sem

namespace Cert.Pool.Ref

open Cert.ReferenceIdeal Cert.ReferenceIdeal.Gen

/-! ## Columns -/

/-- The column of a group and a place in it. -/
def col (g : Fin 4) (l : Fin 128) : Fin 512 := ⟨128 * g.val + l.val, by omega⟩

theorem col_div (g : Fin 4) (l : Fin 128) : (col g l).val / 128 = g.val := by show (128 * g.val + l.val) / 128 = _; omega
theorem col_mod (g : Fin 4) (l : Fin 128) : (col g l).val % 128 = l.val := by show (128 * g.val + l.val) % 128 = _; omega

theorem eq_col (j : Fin 512) : j = col ⟨j.val / 128, by omega⟩ ⟨j.val % 128, by omega⟩ :=
  Fin.ext (by show j.val = 128 * (j.val / 128) + j.val % 128; omega)

/-- An array by groups as a matrix. -/
def flat (v : FVec Ideal S8192x4x128 .f32) : FVec Ideal S8192x512 .f32 := shapeCast _ v shapeCasts_S8192x4x128_S8192x512

/-- A row by groups as a row of 512. -/
def flatRow (v : FVec Ideal S4x128 .f32) : FVec Ideal S1x512 .f32 := shapeCast _ v shapeCasts_S4x128_S1x512

theorem flat_col (v : FVec Ideal S8192x4x128 .f32) (T : Fin 8192) (g : Fin 4) (l : Fin 128) : flat v (ix2 T (col g l)) = v (ix3 T g l) := by
  pointwise [flat]
  simp only [col_div, col_mod]

theorem flatRow_col (v : FVec Ideal S4x128 .f32) (g : Fin 4) (l : Fin 128) : flatRow v (ix2 0 (col g l)) = v (ix2 g l) := by
  pointwise [flatRow]
  simp only [col_div, col_mod]

/-! ## The float stages -/

section Entries

variable (ct : FVec Ideal S8192x1024 .f32) (wo : FVec Ideal S1024x1024 .f32) (u : FVec Ideal S8192x512 .f32) (wp : FVec Ideal S4x128x128 .f32)
  (b sc : FVec Ideal S4x128 .f32) (T : Fin 8192) (g : Fin 4) (l : Fin 128)

theorem dcat_apply (a : Fin 1024) : dcat ct wo (ix2 T a) = gcat ct wo T a := by
  pointwise [dcat, gcat]

theorem dy_apply : dy ct wo (ix3 T g l) = gdy ct wo T (col g l) := by
  pointwise [dy, gdy]
  rw [dcat_apply]
  exact congrArg (gcat ct wo T) (Fin.ext (by show 512 + (g.val * 128 + l.val) = 512 + (128 * g.val + l.val); omega))

theorem dpre_apply : dpre ct wo sc (ix3 T g l) = gdpre ct wo (flatRow sc) T (col g l) := by
  unfold gdpre
  rw [flatRow_col]
  pointwise [dpre, rows]
  rw [dy_apply]

theorem dmix_apply : dmix ct wo wp sc (ix3 T g l) = gdmix ct wo wp (flatRow sc) T (col g l) := by
  simp only [gdmix, col_div, col_mod]
  pointwise [dmix]
  exact Finset.sum_congr rfl fun d _ => congrArg (· * _) (dpre_apply ct wo sc T g d)

theorem pre_apply : pre u wp b (ix3 T g l) = gpre (flat (mix u)) wp (flatRow b) T (col g l) := by
  unfold gpre
  rw [flatRow_col]
  simp only [col_div, col_mod]
  pointwise [pre]
  exact congrArg (· + _) (Finset.sum_congr rfl fun d _ => (mul_comm _ _).trans (congrArg (· * _) (flat_col (mix u) T g d).symm))

theorem total_col (v : FVec Ideal S8192x4x128 .f32) : total v (ix2 0 (col g l)) = ∑ T : Fin 8192, v (ix3 T g l) := by
  pointwise [total]
  simp only [col_div, col_mod, Fin.sum_univ_one]

end Entries

/-! ## The windows -/

/-- The first token of the window that ends at `T`. -/
def startN (T : Fin 8192) (g : Fin 4) : ℕ := T.val + 1 - 2 ^ (g.val + 1)

theorem startN_le (T : Fin 8192) (g : Fin 4) : startN T g ≤ T.val := by
  have hw : 0 < 2 ^ (g.val + 1) := by positivity
  unfold startN
  omega

theorem size_word (g : Fin 4) : lit0 (S4.rowMajor (ix1 g)) = BitVec.ofNat 32 (2 ^ (g.val + 1)) := by
  fin_cases g <;> rfl

theorem small_toInt (n : ℕ) (h : n < 2 ^ 31) : (BitVec.ofNat 32 n).toInt = n := by
  rw [BitVec.toInt_eq_toNat_of_lt] <;> rw [BitVec.toNat_ofNat] <;> omega

/-- The larger of a small difference and zero, in words. -/
theorem max_word (n s : ℕ) (hn : n < 8192) (hs : s ≤ 16) :
    IntOp.maxsi (IntOp.subi (IntOp.addi (BitVec.ofNat 32 n) 1#32) (BitVec.ofNat 32 s)) 0#32 = BitVec.ofNat 32 (n + 1 - s) := by
  have e : IntOp.subi (IntOp.addi (BitVec.ofNat 32 n) 1#32) (BitVec.ofNat 32 s) = BitVec.ofInt 32 ((n : ℤ) + 1 - s) := by
    apply BitVec.eq_of_toInt_eq
    simp only [IntOp.subi, IntOp.addi, BitVec.toInt_sub, BitVec.toInt_add, BitVec.toInt_ofInt, small_toInt n (by omega),
      small_toInt s (by omega), show (1#32).toInt = 1 from rfl]
    simp only [Int.bmod]
    omega
  have e' : (BitVec.ofInt 32 ((n : ℤ) + 1 - s)).toInt = (n : ℤ) + 1 - s := by
    rw [BitVec.toInt_ofInt]
    simp only [Int.bmod]
    omega
  have z : (BitVec.ofNat 32 (n + 1 - s)).toInt = ((n + 1 - s : ℕ) : ℤ) := small_toInt _ (by omega)
  rw [e]
  apply BitVec.eq_of_toInt_eq
  rw [z]
  unfold IntOp.maxsi
  split <;> rename_i h <;> simp only [BitVec.slt, BitVec.sle, decide_eq_true_eq, e', show (0#32).toInt = 0 from rfl] at h ⊢ <;> omega

theorem width_le (g : Fin 4) : 2 ^ (g.val + 1) ≤ 16 := (Nat.pow_le_pow_right (by omega) (by omega : g.val + 1 ≤ 4)).trans (by norm_num)

theorem start_word (T : Fin 8192) (g : Fin 4) :
    IntOp.maxsi (IntOp.subi (IntOp.addi (BitVec.ofNat 32 T.val) 1#32) (lit0 (S4.rowMajor (ix1 g)))) 0#32 = BitVec.ofNat 32 (startN T g) := by
  rw [size_word]
  exact max_word T.val _ T.isLt (width_le g)

theorem count_apply (T : Fin 8192) (g : Fin 4) (l : Fin 128) : count (ix3 T g l) = ((size T (col g l) : ℝ) : EReal) := by
  pointwise [count, next, start]
  rw [start_word]
  show ((BitVec.toInt (IntOp.subi (IntOp.addi (BitVec.ofNat 32 T.val) 1#32) (BitVec.ofNat 32 (startN T g))) : ℝ) : EReal) = _
  have h := T.isLt
  have hw : 0 < 2 ^ (g.val + 1) := Nat.pos_of_ne_zero (by positivity)
  have e : (IntOp.subi (IntOp.addi (BitVec.ofNat 32 T.val) 1#32) (BitVec.ofNat 32 (startN T g))).toInt = (size T (col g l) : ℤ) := by
    have h1 := small_toInt T.val (by omega)
    have h2 := small_toInt (startN T g) (by have := startN_le T g; omega)
    simp only [IntOp.subi, IntOp.addi, BitVec.toInt_sub, BitVec.toInt_add, h1, h2, show (1#32).toInt = 1 from rfl, size, col_div]
    have hst : startN T g = T.val + 1 - 2 ^ (g.val + 1) := rfl
    generalize startN T g = st at *
    generalize 2 ^ (g.val + 1) = s at *
    simp only [Int.bmod]
    omega
  rw [e]
  simp

theorem places_fst (T : Fin 8192) (g : Fin 4) : (places (ix3 T g 0)).toInt = startN T g := by
  pointwise [places, next, start]
  rw [start_word]
  have h := T.isLt
  have hs : (BitVec.ofNat 32 (startN T g)).toInt = startN T g := small_toInt _ (by have := startN_le T g; omega)
  have hc : IntOp.cmpi CmpIPredicate.slt (BitVec.ofNat 32 (startN T g)) 0#32 = 0#1 := by
    show BitVec.ofBool ((BitVec.ofNat 32 (startN T g)).slt 0#32) = 0#1
    rw [BitVec.slt, hs, show (0#32).toInt = 0 from rfl, decide_eq_false (by omega)]
    rfl
  rw [hc]
  exact hs

theorem places_snd (T : Fin 8192) (g : Fin 4) : (places (ix3 T g 1)).toInt = g.val := by
  pointwise [places, next, start]
  fin_cases g <;> rfl

abbrev D := scatter_S8193x4x128_S8192x4x2_S8192x4x128_2_01_01_2

theorem start_at0 (idx : IVec S8192x4x2 32) (T : Fin 8192) (g : Fin 4) (l : Fin 128) : D.start (ix3 T g l) idx 0 = (idx (ix3 T g 0)).toInt := by
  unfold ScatterDims.start
  rw [dif_pos (by decide)]
  congr 2
  funext a
  apply Fin.ext
  match a with
  | ⟨0, _⟩ => rfl
  | ⟨1, _⟩ => rfl
  | ⟨2, _⟩ => rfl

theorem start_at1 (idx : IVec S8192x4x2 32) (T : Fin 8192) (g : Fin 4) (l : Fin 128) : D.start (ix3 T g l) idx 1 = (idx (ix3 T g 1)).toInt := by
  unfold ScatterDims.start
  rw [dif_pos (by decide)]
  congr 2
  funext a
  apply Fin.ext
  match a with
  | ⟨0, _⟩ => rfl
  | ⟨1, _⟩ => rfl
  | ⟨2, _⟩ => rfl

theorem start_at2 (idx : IVec S8192x4x2 32) (T : Fin 8192) (g : Fin 4) (l : Fin 128) : D.start (ix3 T g l) idx 2 = 0 := by
  unfold ScatterDims.start
  rw [dif_neg (by decide)]

theorem window_at0 (T : Fin 8192) (g : Fin 4) (l : Fin 128) : D.window (ix3 T g l) 0 = 0 := by
  unfold ScatterDims.window
  rw [dif_neg (by decide)]

theorem window_at1 (T : Fin 8192) (g : Fin 4) (l : Fin 128) : D.window (ix3 T g l) 1 = 0 := by
  unfold ScatterDims.window
  rw [dif_neg (by decide)]

theorem window_at2 (T : Fin 8192) (g : Fin 4) (l : Fin 128) : D.window (ix3 T g l) 2 = l.val := by
  unfold ScatterDims.window
  rw [dif_pos (by decide)]
  rfl

/-! ## The scatter and the running sums -/

/-- An update lands at the token its first index says, in its own group and place. -/
theorem lands (T : Fin 8192) (g : Fin 4) (l : Fin 128) (q : Fin 8193) (g' : Fin 4) (l' : Fin 128) :
    D.resultIdx? (ix3 T g l) places = some (ix3 q g' l') ↔ startN T g = q.val ∧ g = g' ∧ l = l' := by
  rw [Routing.resultIdx?_eq_some]
  constructor
  · intro h
    have e0 : D.start (ix3 T g l) places 0 + (D.window (ix3 T g l) 0 : ℤ) = q.val := h 0
    have e1 : D.start (ix3 T g l) places 1 + (D.window (ix3 T g l) 1 : ℤ) = g'.val := h 1
    have e2 : D.start (ix3 T g l) places 2 + (D.window (ix3 T g l) 2 : ℤ) = l'.val := h 2
    rw [start_at0, window_at0, places_fst] at e0
    rw [start_at1, window_at1, places_snd] at e1
    rw [start_at2, window_at2] at e2
    exact ⟨by omega, Fin.ext (by omega), Fin.ext (by omega)⟩
  · rintro ⟨e, rfl, rfl⟩ a
    match a with
    | ⟨0, _⟩ =>
      show D.start (ix3 T g l) places 0 + (D.window (ix3 T g l) 0 : ℤ) = q.val
      rw [start_at0, window_at0, places_fst]
      omega
    | ⟨1, _⟩ =>
      show D.start (ix3 T g l) places 1 + (D.window (ix3 T g l) 1 : ℤ) = g.val
      rw [start_at1, window_at1, places_snd]
      omega
    | ⟨2, _⟩ =>
      show D.start (ix3 T g l) places 2 + (D.window (ix3 T g l) 2 : ℤ) = l.val
      rw [start_at2, window_at2]
      omega

/-- What the running sum up to token `t`, `t` included, receives. -/
theorem dsums_apply (W : FVec Ideal S8192x4x128 .f32) (t : Fin 8192) (g : Fin 4) (l : Fin 128) :
    dsums W (ix3 ⟨t.val + 1, by omega⟩ g l)
      = ∑ T ∈ Finset.univ.filter (fun T : Fin 8192 => startN T g = t.val + 1), -W (ix3 T g l) + W (ix3 t g l) := by
  have hs : Host.scatterAdd D (broadcastInDim S8193x4x128 ![] bcast_S_S8193x4x128 (constant (F := Ideal) S_ .f32 0x00000000#32)) places (Host.negf W)
      (ix3 ⟨t.val + 1, by omega⟩ g l) = ∑ T ∈ Finset.univ.filter (fun T : Fin 8192 => startN T g = t.val + 1), -W (ix3 T g l) := by
    show Ideal.hostScatterAdd D _ places (Host.negf W) _ = _
    unfold Ideal.hostScatterAdd
    pointwise []
    refine (Finset.sum_nbij (fun T => ix3 T g l) ?_ ?_ ?_ ?_).symm
    · intro T hT
      exact Finset.mem_filter.mpr ⟨Finset.mem_univ _, (lands T g l _ g l).mpr ⟨(Finset.mem_filter.mp hT).2, rfl, rfl⟩⟩
    · intro T _ T' _ h
      exact congrFun h 0
    · intro i hi
      have h := (Finset.mem_filter.mp hi).2
      have e : i = ix3 (i 0) (i 1) (i 2) := ValueIdx.eq_ix3 i
      rw [e] at h
      have h := (lands _ _ _ _ _ _).mp h
      refine ⟨i 0, Finset.mem_filter.mpr ⟨Finset.mem_univ _, ?_⟩, ?_⟩
      · rw [← h.2.1]
        exact h.1
      · show ix3 (i 0) g l = i
        rw [← h.2.1, ← h.2.2]
        exact e.symm
    · intro T _
      rfl
  unfold dsums
  rw [ValueIdx.addf_apply, hs]
  congr 1
  pointwise []
  rw [dif_pos (show t.val + 1 - 1 < 8192 by omega)]
  exact congrArg (fun t => W (ix3 t g l)) (Fin.ext (Nat.add_sub_cancel t.val 1))

theorem numel_line : (⟨3, ![8192, 1, 1]⟩ : Shape).numel = 8192 := by decide

/-- Position `n` of a line of 8192 is its index `(n, 0, 0)`. -/
theorem symm_line (n : Fin (⟨3, ![8192, 1, 1]⟩ : Shape).numel) :
    (⟨3, ![8192, 1, 1]⟩ : Shape).rowMajor.symm n = ix3 (n.cast numel_line) (0 : Fin 1) (0 : Fin 1) := by
  rw [Equiv.symm_apply_eq]
  apply Fin.ext
  rw [Shape.rowMajor_val_three]
  show n.val = (n.val * 1 + 0) * 1 + 0
  omega

theorem foldl_sum {ι : Type} (L : List ι) (f : ι → EReal) (v : EReal) : L.foldl (fun r a => r + f a) v = v + (L.map f).sum := by
  induction L generalizing v with
  | nil => simp
  | cons a L ih => rw [List.foldl_cons, ih, List.map_cons, List.sum_cons, add_assoc]

/-- A window of the whole height, open at the end, sums what follows. -/
theorem window_tail (x : S8192x4x128.Idx → EReal) (v : EReal)
    (h : S8192x4x128.ReduceWindows ![8192, 1, 1] ![1, 1, 1] ![0, 0, 0] ![8191, 0, 0] S8192x4x128) (T : Fin 8192) (g : Fin 4) (l : Fin 128) :
    Ideal.hostReduceWindowAdd ![8192, 1, 1] ![1, 1, 1] ![0, 0, 0] ![8191, 0, 0] h x v (ix3 T g l)
      = v + ∑ n : Fin 8192, if h : T.val + n.val < 8192 then x (ix3 ⟨T.val + n.val, h⟩ g l) else v := by
  unfold Ideal.hostReduceWindowAdd Host.reduceWindow
  dsimp only
  rw [foldl_sum, ← Fin.sum_univ_def]
  refine congrArg (v + ·) (Fintype.sum_equiv (finCongr numel_line) _ _ fun n => ?_)
  have hw0 : ((⟨3, ![8192, 1, 1]⟩ : Shape).rowMajor.symm n 0).val = n.val := by rw [symm_line]; rfl
  have hw1 : ((⟨3, ![8192, 1, 1]⟩ : Shape).rowMajor.symm n 1).val = 0 := by rw [symm_line]; rfl
  have hw2 : ((⟨3, ![8192, 1, 1]⟩ : Shape).rowMajor.symm n 2).val = 0 := by rw [symm_line]; rfl
  have hn : (finCongr numel_line n).val = n.val := rfl
  rw [hn]
  split
  · next hin =>
    have h0 := (hin 0).2
    change T.val * 1 + ((⟨3, ![8192, 1, 1]⟩ : Shape).rowMajor.symm n 0).val - 0 < 8192 at h0
    rw [hw0] at h0
    rw [dif_pos (by omega)]
    refine congrArg x (funext fun a => Fin.ext ?_)
    match a with
    | ⟨0, _⟩ =>
      show T.val * 1 + ((⟨3, ![8192, 1, 1]⟩ : Shape).rowMajor.symm n 0).val - 0 = T.val + n.val
      rw [hw0]
      omega
    | ⟨1, _⟩ =>
      show g.val * 1 + ((⟨3, ![8192, 1, 1]⟩ : Shape).rowMajor.symm n 1).val - 0 = g.val
      rw [hw1]
      omega
    | ⟨2, _⟩ =>
      show l.val * 1 + ((⟨3, ![8192, 1, 1]⟩ : Shape).rowMajor.symm n 2).val - 0 = l.val
      rw [hw2]
      omega
  · next hin =>
    rw [dif_neg fun hle => hin fun a => by
      match a with
      | ⟨0, _⟩ =>
        show 0 ≤ T.val * 1 + ((⟨3, ![8192, 1, 1]⟩ : Shape).rowMajor.symm n 0).val
          ∧ T.val * 1 + ((⟨3, ![8192, 1, 1]⟩ : Shape).rowMajor.symm n 0).val - 0 < 8192
        rw [hw0]
        omega
      | ⟨1, _⟩ =>
        show 0 ≤ g.val * 1 + ((⟨3, ![8192, 1, 1]⟩ : Shape).rowMajor.symm n 1).val
          ∧ g.val * 1 + ((⟨3, ![8192, 1, 1]⟩ : Shape).rowMajor.symm n 1).val - 0 < 4
        rw [hw1]
        omega
      | ⟨2, _⟩ =>
        show 0 ≤ l.val * 1 + ((⟨3, ![8192, 1, 1]⟩ : Shape).rowMajor.symm n 2).val
          ∧ l.val * 1 + ((⟨3, ![8192, 1, 1]⟩ : Shape).rowMajor.symm n 2).val - 0 < 128
        rw [hw2]
        omega]

/-- The sums from each token on. -/
theorem tails_apply (V : FVec Ideal S8193x4x128 .f32) (T : Fin 8192) (g : Fin 4) (l : Fin 128) :
    tails V (ix3 T g l) = ∑ n : Fin 8192, if h : T.val + n.val < 8192 then V (ix3 ⟨T.val + n.val + 1, by omega⟩ g l) else 0 := by
  unfold tails Host.reduceWindowAdd
  rw [Ideal.hostReduceWindowAdd_def, window_tail]
  have hz : broadcastInDim S_ ![] bcast_S_S_ (constant (F := Ideal) S_ FTy.f32 0#32) (Shape.Idx.first h_S_) = (0 : EReal) := by
    rw [show Shape.Idx.first h_S_ = ix0 from funext fun a => a.elim0]
    pointwise []
  rw [hz, zero_add]
  refine Finset.sum_congr rfl fun n _ => ?_
  by_cases h : T.val + n.val < 8192
  · rw [dif_pos h, dif_pos h]
    pointwise []
    exact congrArg (fun t => V (ix3 t g l)) (Fin.ext (Nat.add_comm _ _))
  · rw [dif_neg h, dif_neg h]

end Cert.Pool.Ref
-- ==== Proof.Finite.lean ====
/- Numbers that are finite: sums and products of them are, and a finite quotient is. -/
module

public import Idealize.ShloMosaic.PureOps.Ideal
public import Mathlib.Data.EReal.Inv
public import Idealize.ShloMosaic.Lib.ReduceAll
public import Idealize.ShloMosaic.Lib.StableHlo

@[expose] public section

noncomputable section

open Idealize.ShloMosaic Idealize.ShloMosaic.TcCoe Idealize.SL.Sem

namespace Cert

/-- An extended real that is a real number. -/
def IsReal (x : EReal) : Prop := ∃ r : ℝ, x = (r : EReal)

namespace IsReal

theorem coe (r : ℝ) : IsReal (r : EReal) := ⟨r, rfl⟩
theorem zero : IsReal 0 := ⟨0, rfl⟩
theorem add {x y : EReal} (hx : IsReal x) (hy : IsReal y) : IsReal (x + y) := by
  obtain ⟨a, rfl⟩ := hx; obtain ⟨b, rfl⟩ := hy; exact ⟨a + b, (EReal.coe_add a b).symm⟩
theorem mul {x y : EReal} (hx : IsReal x) (hy : IsReal y) : IsReal (x * y) := by
  obtain ⟨a, rfl⟩ := hx; obtain ⟨b, rfl⟩ := hy; exact ⟨a * b, (EReal.coe_mul a b).symm⟩
theorem sub {x y : EReal} (hx : IsReal x) (hy : IsReal y) : IsReal (x - y) := by
  obtain ⟨a, rfl⟩ := hx; obtain ⟨b, rfl⟩ := hy; exact ⟨a - b, (EReal.coe_sub a b).symm⟩
theorem sum {ι : Type} (s : Finset ι) (f : ι → EReal) (h : ∀ i ∈ s, IsReal (f i)) : IsReal (∑ i ∈ s, f i) :=
  Finset.sum_induction f IsReal (fun _ _ => add) zero h
theorem of_abs_lt {x : EReal} (h : max x (-x) < ⊤) : IsReal x := by
  induction x with
  | bot => simp at h
  | top => simp at h
  | coe r => exact ⟨r, rfl⟩

end IsReal

/-- The real of a sum is the sum of the reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- What a precondition says of an array whose absolute values it compares with infinity. -/
theorem finite_of_all {S O U : Shape} {dims : List (Fin S.rank)} (v B : FVec Ideal S .f32) (init : IVec U 1) (h : S.ReducesTo dims O) (hu : 0 < U.numel)
    [Subsingleton O.Idx] (j : O.Idx) (hB : ∀ i, B i = ⊤) (e : Host.reduce IntOp.andi (cmpf .olt (Host.absf v) B) init h hu j = 1#1) (i : S.Idx) :
    IsReal (v i) := by
  have h1 := Host.reduce_andi_all _ _ h hu j e i
  have h2 : Ideal.cmp .olt (max (v i) (-v i)) (B i) = 1#1 := h1
  rw [hB] at h2
  refine IsReal.of_abs_lt ?_
  have h3 : BitVec.ofBool (decide (max (v i) (-v i) < ⊤)) = 1#1 := h2
  by_contra hn
  rw [decide_eq_false hn] at h3
  exact absurd h3 (by decide)

/-- The printed infinity. -/
theorem inf_eq (S : Shape) (i : S.Idx) : (constant S .f32 0x7F800000#32 : FVec Ideal S .f32) i = ⊤ := by
  show Ideal.ofBits .f32 0x7F800000#32 = ⊤
  simp [Ideal.ofBits, Ideal.ieee]

end Cert
-- ==== Proof.PoolRefDu.lean ====
/- The pool reference's six results are the formulas.

   Five are sums read off the stages.  The sixth, the gradient of the pooled branch's input, is found by the reference from
   differences of running sums: a window that ends at `t` sends its weight to every token from its first on, and takes it
   back from `t + 1` on.  For finite weights that leaves the weights of the windows that hold the token. -/
module

public import proofs.«01_k».proof.Proof.PoolRefAt
public import proofs.«01_k».proof.Proof.Finite

@[expose] public section

set_option maxRecDepth 16384

noncomputable section

open Idealize.ShloMosaic Idealize.ShloMosaic.TcCoe Idealize.SL.Sem

namespace Cert.Pool.Ref

open Cert.ReferenceIdeal Cert.ReferenceIdeal.Gen

/-! ## The windows that hold a token -/

section Windows

variable (W : FVec Ideal S8192x4x128 .f32) (g : Fin 4) (l : Fin 128)

/-- The weights, nothing past the last token. -/
def past (q : ℕ) : EReal := if h : q < 8192 then W (ix3 ⟨q, h⟩ g l) else 0

/-- The running sum up to a token receives its weight and returns that of the window that starts after it. -/
theorem dsums_past (t : Fin 8192) : dsums W (ix3 ⟨t.val + 1, by omega⟩ g l) = -past W g l (t.val + 2 ^ (g.val + 1)) + past W g l t.val := by
  have hw : 0 < 2 ^ (g.val + 1) := by positivity
  rw [dsums_apply]
  congr 1
  · by_cases h : t.val + 2 ^ (g.val + 1) < 8192
    · rw [show Finset.univ.filter (fun T : Fin 8192 => startN T g = t.val + 1) = {⟨t.val + 2 ^ (g.val + 1), h⟩} from
        Finset.ext fun T => by
          rw [Finset.mem_filter, Finset.mem_singleton, Fin.ext_iff]
          unfold startN
          dsimp only
          simp only [Finset.mem_univ, true_and]
          omega, Finset.sum_singleton, past, dif_pos h]
    · rw [show Finset.univ.filter (fun T : Fin 8192 => startN T g = t.val + 1) = ∅ from
        Finset.ext fun T => by
          rw [Finset.mem_filter]
          unfold startN
          simp only [Finset.mem_univ, true_and, Finset.notMem_empty, iff_false]
          omega, Finset.sum_empty, past, dif_neg h, neg_zero]
  · rw [past, dif_pos t.isLt]

/-- A sum of differences at a distance is the difference of its ends. -/
theorem sum_apart (f : ℕ → ℝ) (N z : ℕ) (hf : ∀ n, N ≤ n → f n = 0) :
    ∑ n ∈ Finset.range N, (-f (n + z) + f n) = ∑ s ∈ Finset.range z, f s := by
  have e1 := Finset.sum_range_add f z N
  have e2 := Finset.sum_range_add f N z
  rw [add_comm N z] at e2
  have e3 : ∑ x ∈ Finset.range z, f (N + x) = 0 := Finset.sum_eq_zero fun x _ => hf _ (by omega)
  rw [Finset.sum_add_distrib, Finset.sum_neg_distrib, Finset.sum_congr rfl fun n _ => congrArg f (add_comm n z)]
  linarith

/-- For finite weights, a token receives those of the windows that hold it. -/
theorem tails_dsums (hW : ∀ T, ∃ r : ℝ, W (ix3 T g l) = (r : EReal)) (T : Fin 8192) :
    tails (dsums W) (ix3 T g l) = ∑ s ∈ Finset.range (2 ^ (g.val + 1)), past W g l (T.val + s) := by
  choose r hr using hW
  have hp : ∀ q, past W g l q = ((if h : q < 8192 then r ⟨q, h⟩ else 0 : ℝ) : EReal) := fun q => by
    unfold past
    split
    · exact hr _
    · rfl
  rw [tails_apply]
  have hw : 0 < 2 ^ (g.val + 1) := by positivity
  let f : ℕ → ℝ := fun n => if h : T.val + n < 8192 then r ⟨T.val + n, h⟩ else 0
  have h0 : ∀ n : Fin 8192, (if h : T.val + n.val < 8192 then dsums W (ix3 ⟨T.val + n.val + 1, by omega⟩ g l) else 0)
      = (fun n : ℕ => ((-f (n + 2 ^ (g.val + 1)) + f n : ℝ) : EReal)) n.val := fun n => by
    dsimp only
    rw [EReal.coe_add, EReal.coe_neg]
    by_cases h : T.val + n.val < 8192
    · rw [dif_pos h]
      refine (dsums_past W g l ⟨T.val + n.val, h⟩).trans ?_
      rw [hp, hp]
      simp only [add_assoc, f]
    · rw [dif_neg h]
      simp only [f]
      rw [dif_neg h, dif_neg (by omega)]
      simp
  rw [Finset.sum_congr rfl fun n _ => h0 n, Fin.sum_univ_eq_sum_range (fun n : ℕ => ((-f (n + 2 ^ (g.val + 1)) + f n : ℝ) : EReal)) 8192,
    ← coe_sum, sum_apart f 8192 _ (fun n hn => dif_neg (by omega)), coe_sum]
  exact Finset.sum_congr rfl fun s _ => (hp _).symm

end Windows

/-! ## The six results -/

section Results

variable (m : (ℓ : Loc nD τ sig) → Buf (Elt Ideal) ℓ) (c : Dev nD)

theorem out0_eq : truncf .bf16 (extractStridedSlice S8192x512 ![0, 0] (dcat (ct m c) (wo m c)) slices_S8192x1024_S8192x512_0_0) bitsLt_bf16_f32
    = gAttn (ct m c) (wo m c) := by
  funext y
  idx_vars y
  pointwise [gAttn]
  exact dcat_apply _ _ _ _

/-- Every entry of an array is finite. -/
abbrev AllReal {S : Shape} (v : S.Idx → EReal) : Prop := ∀ i, IsReal (v i)

theorem gdmix_real (hct : AllReal (ct m c)) (hwo : AllReal (wo m c)) (hwp : AllReal (wp m c)) (hsc : AllReal (sc m c)) (T : Fin 8192) (j : Fin 512) :
    IsReal (gdmix (ct m c) (wo m c) (wp m c) (flatRow (sc m c)) T j) := by
  have hdy (T : Fin 8192) (j : Fin 512) : IsReal (gdy (ct m c) (wo m c) T j) :=
    by unfold gdy gcat; exact IsReal.sum _ _ fun k _ => IsReal.mul (hct _) (hwo _)
  have hpre (T : Fin 8192) (j : Fin 512) : IsReal (gdpre (ct m c) (wo m c) (flatRow (sc m c)) T j) := IsReal.mul (hdy _ _) (hsc _)
  unfold gdmix
  exact IsReal.sum _ _ fun d _ => IsReal.mul (hpre _ _) (hwp _)

theorem out1_eq (hct : AllReal (ct m c)) (hwo : AllReal (wo m c)) (hwp : AllReal (wp m c)) (hsc : AllReal (sc m c)) :
    Value.res_out1 m c = gDu (ct m c) (wo m c) (wp m c) (flatRow (sc m c)) := by
  rw [out1]
  funext y
  obtain ⟨T, j, rfl⟩ : ∃ T j, y = ix2 T j := ⟨y 0, y 1, ValueIdx.eq_ix2 y⟩
  rw [eq_col j]
  generalize (⟨j.val / 128, _⟩ : Fin 4) = g
  generalize (⟨j.val % 128, _⟩ : Fin 128) = l
  have hd : ∀ T, Host.divf (dmix (ct m c) (wo m c) (wp m c) (sc m c)) count (ix3 T g l)
      = gwt (ct m c) (wo m c) (wp m c) (flatRow (sc m c)) T (col g l) := fun T => by
    show Ideal.div (dmix (ct m c) (wo m c) (wp m c) (sc m c) (ix3 T g l)) (count (ix3 T g l)) = _
    rw [dmix_apply, count_apply]
    rfl
  refine (flat_col _ T g l).trans ?_
  show -dmix (ct m c) (wo m c) (wp m c) (sc m c) (ix3 T g l) + tails _ (ix3 T g l) = _
  rw [dmix_apply, tails_dsums _ g l (fun T => ?_), add_comm, ← sub_eq_add_neg]
  · unfold gDu
    dsimp only
    refine congrArg (· - _) ?_
    show _ = ∑ s ∈ Finset.range (2 ^ ((col g l).val / 128 + 1)), _
    rw [col_div]
    refine Finset.sum_congr rfl fun s _ => ?_
    unfold past
    simp only [hd]
    rfl
  · rw [hd]
    unfold gwt
    obtain ⟨r, hr⟩ := gdmix_real m c hct hwo hwp hsc T (col g l)
    rw [hr, Ideal.div_coe]
    · exact IsReal.mul ⟨_, rfl⟩ ⟨_, rfl⟩
    · have h : 0 < size T (col g l) := Nat.lt_min.mpr ⟨by omega, by positivity⟩
      exact_mod_cast h.ne'

theorem out2_eq : Value.res_out2 m c
    = gWo (ct m c) (attn m c) (pooled (u m c) (wp m c) (b m c) (sc m c)) := by
  rw [out2]
  funext y
  idx_vars y
  pointwise [gWo]
  exact Finset.sum_congr rfl fun T _ => mul_comm _ _

theorem out3_eq : Value.res_out3 m c = gWp (ct m c) (flat (mix (u m c))) (wo m c) (flatRow (sc m c)) := by
  rw [out3]
  funext y
  idx_vars y
  pointwise [gWp]
  exact Finset.sum_congr rfl fun T _ => (mul_comm _ _).trans (congrArg₂ (· * ·) (flat_col _ T _ _).symm (dpre_apply _ _ _ T _ _))

theorem out4_eq : total (dpre (ct m c) (wo m c) (sc m c)) = gB (ct m c) (wo m c) (flatRow (sc m c)) := by
  funext y
  obtain ⟨z, j, rfl⟩ : ∃ z j, y = ix2 z j := ⟨y 0, y 1, ValueIdx.eq_ix2 y⟩
  obtain rfl : z = 0 := Subsingleton.elim _ _
  rw [eq_col j, total_col]
  exact Finset.sum_congr rfl fun T _ => dpre_apply _ _ _ _ _ _

theorem out5_eq : Value.res_out5 m c = gS (ct m c) (flat (mix (u m c))) (wo m c) (wp m c) (flatRow (b m c)) := by
  rw [out5]
  funext y
  obtain ⟨z, j, rfl⟩ : ∃ z j, y = ix2 z j := ⟨y 0, y 1, ValueIdx.eq_ix2 y⟩
  obtain rfl : z = 0 := Subsingleton.elim _ _
  rw [eq_col j, total_col]
  exact Finset.sum_congr rfl fun T _ => (mul_comm _ _).trans (congrArg₂ (· * ·) (dy_apply _ _ _ _ _) (pre_apply _ _ _ _ _ _))

end Results

end Cert.Pool.Ref
-- ==== Proof.Pool.lean ====
/- The pool call: what the kernel reads, in the reference's words, and the value claim. -/
module

public import proofs.«01_k».proof.Proof.PoolArrays
public import proofs.«01_k».proof.Proof.PoolRefDu
public import proofs.«01_k».proof.Proof.Gen.Pre_finite
public import proofs.«01_k».proof.Defs

@[expose] public section

set_option maxRecDepth 16384

noncomputable section

open Idealize.ShloMosaic Idealize.ShloMosaic.TcCoe Idealize.SL.Sem

namespace Cert.Pool

open Cert.KernelIdeal Cert.KernelIdeal.Gen

variable (m : (ℓ : Loc nD τ sig) → Buf (Elt Ideal) ℓ) (c : Dev nD)

theorem widths_eq : (lit0 : Fin 4 → BitVec 32) = Cert.ReferenceIdeal.lit0 := by
  funext i; fin_cases i <;> rfl

theorem V_v52 : V m c main_v52 = m ((c : Thread nD τ).loc main_arg1) := by entry_read; rfl
set_option maxHeartbeats 1000000 in
theorem V_v55 : V m c main_v55 = Ref.flat (Ref.mix (m ((c : Thread nD τ).loc main_arg2))) := by
  unfold V
  simp only [hostOps0, hostOps0_1, hostOps0_2, List.flatten_cons, List.flatten_nil, List.cons_append, List.nil_append, List.append_nil]
  entry_read
  rw [widths_eq]
  unfold Ref.flat Ref.mix Ref.sums Ref.count Ref.places Ref.start Ref.next
  rfl

set_option maxHeartbeats 1000000 in
theorem V_v53 : V m c main_v53 = Ref.pooled (m ((c : Thread nD τ).loc main_arg2)) (m ((c : Thread nD τ).loc main_arg3))
    (m ((c : Thread nD τ).loc main_arg4)) (m ((c : Thread nD τ).loc main_arg5)) := by
  unfold V
  simp only [hostOps0, hostOps0_1, hostOps0_2, List.flatten_cons, List.flatten_nil, List.cons_append, List.nil_append, List.append_nil]
  entry_read
  rw [widths_eq]
  unfold Ref.pooled Ref.pre Ref.mix Ref.sums Ref.count Ref.places Ref.start Ref.next
  rfl

theorem V_v56 : V m c main_v56 = m ((c : Thread nD τ).loc main_arg6) := by entry_read; rfl
theorem V_v57 : V m c main_v57 = m ((c : Thread nD τ).loc main_arg3) := by entry_read; rfl
theorem V_v58 : V m c main_v58 = Ref.flatRow (m ((c : Thread nD τ).loc main_arg4)) := by entry_read; rfl
theorem V_v59 : V m c main_v59 = Ref.flatRow (m ((c : Thread nD τ).loc main_arg5)) := by entry_read; rfl
theorem V_arg0 : V m c main_arg0 = m ((c : Thread nD τ).loc main_arg0) := by entry_read; try rfl

/-- What the precondition says of the four arrays it reads. -/
theorem finite_args (h : Cert.Pre_KernelIdeal_finite m) :
    (∀ i, IsReal (m ((c : Thread nD τ).loc main_arg0) i)) ∧ (∀ i, IsReal (m ((c : Thread nD τ).loc main_arg3) i))
      ∧ (∀ i, IsReal (m ((c : Thread nD τ).loc main_arg5) i)) ∧ (∀ i, IsReal (m ((c : Thread nD τ).loc main_arg6) i)) := by
  have h0 := congrFun (h c) ix0
  dsimp only [Cert.Pre_finite.fn, Cert.Pre_finite.fn_part1] at h0
  obtain ⟨h1, e6⟩ := IntOp.andi_eq_one.1 h0
  obtain ⟨h2, e5⟩ := IntOp.andi_eq_one.1 h1
  obtain ⟨h3, e3⟩ := IntOp.andi_eq_one.1 h2
  obtain ⟨_, e0⟩ := IntOp.andi_eq_one.1 h3
  exact ⟨finite_of_all _ _ _ _ _ _ (fun _ => inf_eq _ _) e0, finite_of_all _ _ _ _ _ _ (fun _ => inf_eq _ _) e3,
    finite_of_all _ _ _ _ _ _ (fun _ => inf_eq _ _) e5, finite_of_all _ _ _ _ _ _ (fun _ => inf_eq _ _) e6⟩

section Agree

variable (m' : (ℓ : Loc Cert.ReferenceIdeal.nD Cert.ReferenceIdeal.τ Cert.ReferenceIdeal.sig) → Buf (Elt Ideal) ℓ)

/-- The two programs are given the same arrays. -/
structure Agree : Prop where
  ct : m ((c : Thread nD τ).loc main_arg0) = Ref.ct m' c
  attn : m ((c : Thread nD τ).loc main_arg1) = Ref.attn m' c
  u : m ((c : Thread nD τ).loc main_arg2) = Ref.u m' c
  wp : m ((c : Thread nD τ).loc main_arg3) = Ref.wp m' c
  b : m ((c : Thread nD τ).loc main_arg4) = Ref.b m' c
  sc : m ((c : Thread nD τ).loc main_arg5) = Ref.sc m' c
  wo : m ((c : Thread nD τ).loc main_arg6) = Ref.wo m' c

variable {m c m'} (A : Agree m c m')
include A

theorem at0 : V m c main_arg0 = Ref.ct m' c := (V_arg0 m c).trans A.ct
theorem at52 : V m c main_v52 = Ref.attn m' c := (V_v52 m c).trans A.attn
theorem at53 : V m c main_v53 = Ref.pooled (Ref.u m' c) (Ref.wp m' c) (Ref.b m' c) (Ref.sc m' c) :=
  (V_v53 m c).trans (by rw [A.u, A.wp, A.b, A.sc])
theorem at55 : V m c main_v55 = Ref.flat (Ref.mix (Ref.u m' c)) := (V_v55 m c).trans (by rw [A.u])
theorem at56 : V m c main_v56 = Ref.wo m' c := (V_v56 m c).trans A.wo
theorem at57 : V m c main_v57 = Ref.wp m' c := (V_v57 m c).trans A.wp
theorem at58 : V m c main_v58 = Ref.flatRow (Ref.b m' c) := (V_v58 m c).trans (by rw [A.b])
theorem at59 : V m c main_v59 = Ref.flatRow (Ref.sc m' c) := (V_v59 m c).trans (by rw [A.sc])

theorem same0 : (dats m 0 c).arrAt 8 cfg0.N = gAttn (Ref.ct m' c) (Ref.wo m' c) := by
  rw [final8, at0 A, at56 A]
theorem same1 : (dats m 0 c).arrAt 9 cfg0.N = gDu (Ref.ct m' c) (Ref.wo m' c) (Ref.wp m' c) (Ref.flatRow (Ref.sc m' c)) := by
  rw [final9, at0 A, at56 A, at57 A, at59 A]
theorem same2 : (dats m 0 c).arrAt 10 cfg0.N = gWo (Ref.ct m' c) (Ref.attn m' c)
    (Ref.pooled (Ref.u m' c) (Ref.wp m' c) (Ref.b m' c) (Ref.sc m' c)) := by
  rw [final10, at0 A, at52 A, at53 A]
theorem same3 : (dats m 0 c).arrAt 11 cfg0.N = gWp (Ref.ct m' c) (Ref.flat (Ref.mix (Ref.u m' c))) (Ref.wo m' c)
    (Ref.flatRow (Ref.sc m' c)) := by
  rw [final11, at0 A, at55 A, at56 A, at59 A]
theorem same4 : (dats m 0 c).arrAt 12 cfg0.N = gB (Ref.ct m' c) (Ref.wo m' c) (Ref.flatRow (Ref.sc m' c)) := by
  rw [final12, at0 A, at56 A, at59 A]
theorem same5 : (dats m 0 c).arrAt 13 cfg0.N = gS (Ref.ct m' c) (Ref.flat (Ref.mix (Ref.u m' c))) (Ref.wo m' c) (Ref.wp m' c)
    (Ref.flatRow (Ref.b m' c)) := by
  rw [final13, at0 A, at55 A, at56 A, at57 A, at58 A]

end Agree

section Same

variable {m c} {m' : (ℓ : Loc Cert.ReferenceIdeal.nD Cert.ReferenceIdeal.τ Cert.ReferenceIdeal.sig) → Buf (Elt Ideal) ℓ}

theorem res1 (A : Agree m c m') (h : Cert.Pre_KernelIdeal_finite m) : Cert.ReferenceIdeal.Value.res_out1 m' c = (dats m 0 c).arrAt 9 cfg0.N := by
  obtain ⟨f0, f3, f5, f6⟩ := finite_args m c h
  rw [A.ct] at f0
  rw [A.wp] at f3
  rw [A.sc] at f5
  rw [A.wo] at f6
  exact (Ref.out1_eq m' c f0 f6 f3 f5).trans (same1 A).symm

theorem res4 (A : Agree m c m') : Ref.total (Ref.dpre (Ref.ct m' c) (Ref.wo m' c) (Ref.sc m' c)) = (dats m 0 c).arrAt 12 cfg0.N := by
  rw [Ref.out4_eq, same4 A]
theorem res2 (A : Agree m c m') : Cert.ReferenceIdeal.Value.res_out2 m' c = (dats m 0 c).arrAt 10 cfg0.N := by
  rw [Ref.out2_eq, same2 A]
theorem res3 (A : Agree m c m') : Cert.ReferenceIdeal.Value.res_out3 m' c = (dats m 0 c).arrAt 11 cfg0.N := by
  rw [Ref.out3_eq, same3 A]
theorem res5 (A : Agree m c m') : Cert.ReferenceIdeal.Value.res_out5 m' c = (dats m 0 c).arrAt 13 cfg0.N := by
  rw [Ref.out5_eq, same5 A]

end Same

/-- The pool call computes the gradients. -/
theorem algebraic : Cert.algebraic_KernelIdeal_ReferenceIdeal_pre_finite := by
  intro m ρ m' ρ' hpre hagree
  refine ⟨fun c => (dats m 0 c).arrAt 8 cfg0.N, fun c => (dats m 0 c).arrAt 9 cfg0.N, fun c => (dats m 0 c).arrAt 10 cfg0.N,
    fun c => (dats m 0 c).arrAt 11 cfg0.N, fun c => (dats m 0 c).arrAt 12 cfg0.N, fun c => (dats m 0 c).arrAt 13 cfg0.N,
    Cert.KernelIdeal.Value.run_blocks m ρ, (θ_run _ _ _).mono (fun r hr c => ?_) (Cert.ReferenceIdeal.Value.run m' ρ')⟩
  obtain ⟨a0, a1, a2, a3, a4, a5, a6⟩ := hagree c
  have A : Agree m c m' := ⟨a0.symm, a1.symm, a2.symm, a3.symm, a4.symm, a5.symm, a6.symm⟩
  obtain ⟨h0, h1, h2, h3, h4, h5, hk⟩ := hr c
  refine ⟨h0.trans ?_, h1.trans ?_, h2.trans ?_, h3.trans ?_, h4.trans ?_, h5.trans ?_, hk⟩
  · exact (Ref.out0_eq m' c).trans (same0 A).symm
  · exact res1 A hpre
  · exact res2 A
  · exact res3 A
  · exact res4 A
  · exact res5 A

end Cert.Pool
-- ==== Proof.FfnHidden.lean ====
/- What one grid point of the feed-forward kernel leaves in each of its buffers, as plain formulas of the blocks it reads.

   A grid point holds 256 tokens `r`.  `x0` is the block of the output gradient, `x1` and `x2` the gate and the up
   projection, `x3` the input of the normalization, `x4` the down weights, `x5` and `x6` the transposed gate and up
   weights, `x7` the scale of the normalization.  Column `k` runs over the 2816 columns of the hidden layer. -/
module

public import proofs.«01_k».proof.Proof.Gen.Kernel2Ideal.Frame
public import Idealize.ShloMosaic.Lib.Pipeline.Value
public import Idealize.ShloMosaic.Lib.Pipeline.ReadBack
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.Ffn

open Cert.Kernel2Ideal Cert.Kernel2Ideal.Gen

/-! ## The formulas -/

section Formulas

variable (x0 : Vec Ideal S256x1024 .f32) (x1 x2 : Vec Ideal S256x2816 .bf16) (x3 : Vec Ideal S256x1024 .f32)
  (x4 x5 x6 : Vec Ideal S2816x1024 .bf16) (x7 : Vec Ideal S1x1024 .f32)

/-- The gradient of the activation. -/
def dact (r : Fin 256) (k : Fin 2816) : EReal := ∑ j : Fin 1024, x0 (ix2 r j) * x4 (ix2 k j)

/-- The gradient of the up projection. -/
def dup : Vec Ideal S256x2816 .bf16 := fun y =>
  dact x0 x4 (y 0) (y 1) * (x1 (ix2 (y 0) (y 1)) * Ideal.logistic (x1 (ix2 (y 0) (y 1))))

/-- The gradient of the gate. -/
def dgate : Vec Ideal S256x2816 .bf16 := fun y =>
  dact x0 x4 (y 0) (y 1) * x2 (ix2 (y 0) (y 1)) * (Ideal.logistic (x1 (ix2 (y 0) (y 1)))
    + x1 (ix2 (y 0) (y 1)) * Ideal.logistic (x1 (ix2 (y 0) (y 1))) * (Ideal.ofBits .f32 0x3F800000#32 - Ideal.logistic (x1 (ix2 (y 0) (y 1)))))

end Formulas

/-! ## Reading a piece list -/

theorem emb_idx {s : Shape} (r : Rect s) (x : r.shape.Idx) : r.emb x = r.toLoadRect.idx x := rfl

theorem hz2 : (![0, 0] : Fin 2 → Nat) = fun _ => 0 := funext fun a => by fin_cases a <;> rfl

/-- Stores that are blocks of `G` and tile the buffer read back whole as `G`. -/
theorem read_whole (G : Vec Ideal S256x2816 .bf16) (L : List (View.Piece (Elt Ideal) S256x2816 .bf16)) (v : View sig .tc .vmem S256x2816 .bf16)
    (h : View.PiecesOf G L) (size : Fin 2 → ℕ) (hc : View.Piece.tiledL L size = true) :
    v.readCov L (Rect.unit ![0, 0] ![256, 2816] inb_S256x2816_S256x2816_0_0).toLoadRect = G := by
  rw [View.readCov_eq_canon']
  funext x
  refine (View.canon_apply_of_pieces G L h.mem _ (View.cover_of_tiledL L size hc _)).trans ?_
  idx_vars x
  pointwise []

/-! ## The two gradients of the hidden layer, stored 256 columns at a time -/

section Hidden

variable (x0 : Vec Ideal S256x1024 .f32) (x1 x2 : Vec Ideal S256x2816 .bf16) (x4 : Vec Ideal S2816x1024 .bf16)

/-- The eleven stores of the gate's gradient. -/
def gateStores : List (View.Piece (Elt Ideal) S256x2816 .bf16) :=
  [⟨Rect.unit ![0, 2560] ![256, 256] inb_S256x2816_S256x256_0_2560,
      k0_pay124
        (k0_pay108 (k0_pay7 (View.ld x0 (Rect.unit ![0, 0] ![256, 1024] inb_S256x1024_S256x1024_0_0)))
          (View.ld x4 (Rect.unit ![2560, 0] ![256, 1024] inb_S2816x1024_S256x1024_2560_0)))
        (View.ld x1 (Rect.unit ![0, 2560] ![256, 256] inb_S256x2816_S256x256_0_2560))
        (View.ld x2 (Rect.unit ![0, 2560] ![256, 256] inb_S256x2816_S256x256_0_2560))⟩,
    ⟨Rect.unit ![0, 2304] ![256, 256] inb_S256x2816_S256x256_0_2304,
      k0_pay115
        (k0_pay97 (k0_pay7 (View.ld x0 (Rect.unit ![0, 0] ![256, 1024] inb_S256x1024_S256x1024_0_0)))
          (View.ld x4 (Rect.unit ![2304, 0] ![256, 1024] inb_S2816x1024_S256x1024_2304_0)))
        (View.ld x1 (Rect.unit ![0, 2304] ![256, 256] inb_S256x2816_S256x256_0_2304))
        (View.ld x2 (Rect.unit ![0, 2304] ![256, 256] inb_S256x2816_S256x256_0_2304))⟩,
    ⟨Rect.unit ![0, 2048] ![256, 256] inb_S256x2816_S256x256_0_2048,
      k0_pay104
        (k0_pay87 (k0_pay7 (View.ld x0 (Rect.unit ![0, 0] ![256, 1024] inb_S256x1024_S256x1024_0_0)))
          (View.ld x4 (Rect.unit ![2048, 0] ![256, 1024] inb_S2816x1024_S256x1024_2048_0)))
        (View.ld x1 (Rect.unit ![0, 2048] ![256, 256] inb_S256x2816_S256x256_0_2048))
        (View.ld x2 (Rect.unit ![0, 2048] ![256, 256] inb_S256x2816_S256x256_0_2048))⟩,
    ⟨Rect.unit ![0, 1792] ![256, 256] inb_S256x2816_S256x256_0_1792,
      k0_pay94
        (k0_pay77 (k0_pay7 (View.ld x0 (Rect.unit ![0, 0] ![256, 1024] inb_S256x1024_S256x1024_0_0)))
          (View.ld x4 (Rect.unit ![1792, 0] ![256, 1024] inb_S2816x1024_S256x1024_1792_0)))
        (View.ld x1 (Rect.unit ![0, 1792] ![256, 256] inb_S256x2816_S256x256_0_1792))
        (View.ld x2 (Rect.unit ![0, 1792] ![256, 256] inb_S256x2816_S256x256_0_1792))⟩,
    ⟨Rect.unit ![0, 1536] ![256, 256] inb_S256x2816_S256x256_0_1536,
      k0_pay84
        (k0_pay66 (k0_pay7 (View.ld x0 (Rect.unit ![0, 0] ![256, 1024] inb_S256x1024_S256x1024_0_0)))
          (View.ld x4 (Rect.unit ![1536, 0] ![256, 1024] inb_S2816x1024_S256x1024_1536_0)))
        (View.ld x1 (Rect.unit ![0, 1536] ![256, 256] inb_S256x2816_S256x256_0_1536))
        (View.ld x2 (Rect.unit ![0, 1536] ![256, 256] inb_S256x2816_S256x256_0_1536))⟩,
    ⟨Rect.unit ![0, 1280] ![256, 256] inb_S256x2816_S256x256_0_1280,
      k0_pay73
        (k0_pay56 (k0_pay7 (View.ld x0 (Rect.unit ![0, 0] ![256, 1024] inb_S256x1024_S256x1024_0_0)))
          (k0_pay55 (View.ld x4 (Rect.unit ![1280, 0] ![256, 1024] inb_S2816x1024_S256x1024_1280_0))))
        (View.ld x1 (Rect.unit ![0, 1280] ![256, 256] inb_S256x2816_S256x256_0_1280))
        (View.ld x2 (Rect.unit ![0, 1280] ![256, 256] inb_S256x2816_S256x256_0_1280))⟩,
    ⟨Rect.unit ![0, 1024] ![256, 256] inb_S256x2816_S256x256_0_1024,
      k0_pay63
        (k0_pay45 (k0_pay7 (View.ld x0 (Rect.unit ![0, 0] ![256, 1024] inb_S256x1024_S256x1024_0_0)))
          (View.ld x4 (Rect.unit ![1024, 0] ![256, 1024] inb_S2816x1024_S256x1024_1024_0)))
        (View.ld x1 (Rect.unit ![0, 1024] ![256, 256] inb_S256x2816_S256x256_0_1024))
        (View.ld x2 (Rect.unit ![0, 1024] ![256, 256] inb_S256x2816_S256x256_0_1024))⟩,
    ⟨Rect.unit ![0, 768] ![256, 256] inb_S256x2816_S256x256_0_768,
      k0_pay52
        (k0_pay35 (k0_pay7 (View.ld x0 (Rect.unit ![0, 0] ![256, 1024] inb_S256x1024_S256x1024_0_0)))
          (View.ld x4 (Rect.unit ![768, 0] ![256, 1024] inb_S2816x1024_S256x1024_768_0)))
        (View.ld x1 (Rect.unit ![0, 768] ![256, 256] inb_S256x2816_S256x256_0_768))
        (View.ld x2 (Rect.unit ![0, 768] ![256, 256] inb_S256x2816_S256x256_0_768))⟩,
    ⟨Rect.unit ![0, 512] ![256, 256] inb_S256x2816_S256x256_0_512,
      k0_pay42
        (k0_pay24 (k0_pay7 (View.ld x0 (Rect.unit ![0, 0] ![256, 1024] inb_S256x1024_S256x1024_0_0)))
          (View.ld x4 (Rect.unit ![512, 0] ![256, 1024] inb_S2816x1024_S256x1024_512_0)))
        (k0_pay36 (View.ld x1 (Rect.unit ![0, 512] ![256, 256] inb_S256x2816_S256x256_0_512)))
        (View.ld x2 (Rect.unit ![0, 512] ![256, 256] inb_S256x2816_S256x256_0_512))⟩,
    ⟨Rect.unit ![0, 256] ![256, 256] inb_S256x2816_S256x256_0_256,
      k0_pay32
        (k0_pay13 (View.ld x0 (Rect.unit ![0, 0] ![256, 1024] inb_S256x1024_S256x1024_0_0))
          (View.ld x4 (Rect.unit ![256, 0] ![256, 1024] inb_S2816x1024_S256x1024_256_0)))
        (k0_pay25 (View.ld x1 (Rect.unit ![0, 256] ![256, 256] inb_S256x2816_S256x256_0_256)))
        (k0_pay26 (View.ld x2 (Rect.unit ![0, 256] ![256, 256] inb_S256x2816_S256x256_0_256)))⟩,
    ⟨Rect.unit ![0, 0] ![256, 256] inb_S256x2816_S256x256_0_0,
      k0_pay21
        (k0_pay12 (View.ld x0 (Rect.unit ![0, 0] ![256, 1024] inb_S256x1024_S256x1024_0_0))
          (View.ld x4 (Rect.unit ![0, 0] ![256, 1024] inb_S2816x1024_S256x1024_0_0)))
        (k0_pay15 (View.ld x2 (Rect.unit ![0, 0] ![256, 256] inb_S256x2816_S256x256_0_0)))
        (k0_pay16 (View.ld x1 (Rect.unit ![0, 0] ![256, 256] inb_S256x2816_S256x256_0_0)))
        (k0_pay17 (View.ld x1 (Rect.unit ![0, 0] ![256, 256] inb_S256x2816_S256x256_0_0)))⟩]

/-- The eleven stores of the up projection's gradient. -/
def upStores : List (View.Piece (Elt Ideal) S256x2816 .bf16) :=
  [⟨Rect.unit ![0, 2560] ![256, 256] inb_S256x2816_S256x256_0_2560,
      k0_pay123
        (k0_pay108 (k0_pay7 (View.ld x0 (Rect.unit ![0, 0] ![256, 1024] inb_S256x1024_S256x1024_0_0)))
          (View.ld x4 (Rect.unit ![2560, 0] ![256, 1024] inb_S2816x1024_S256x1024_2560_0)))
        (View.ld x1 (Rect.unit ![0, 2560] ![256, 256] inb_S256x2816_S256x256_0_2560))⟩,
    ⟨Rect.unit ![0, 2304] ![256, 256] inb_S256x2816_S256x256_0_2304,
      k0_pay114
        (k0_pay97 (k0_pay7 (View.ld x0 (Rect.unit ![0, 0] ![256, 1024] inb_S256x1024_S256x1024_0_0)))
          (View.ld x4 (Rect.unit ![2304, 0] ![256, 1024] inb_S2816x1024_S256x1024_2304_0)))
        (View.ld x1 (Rect.unit ![0, 2304] ![256, 256] inb_S256x2816_S256x256_0_2304))⟩,
    ⟨Rect.unit ![0, 2048] ![256, 256] inb_S256x2816_S256x256_0_2048,
      k0_pay103
        (k0_pay87 (k0_pay7 (View.ld x0 (Rect.unit ![0, 0] ![256, 1024] inb_S256x1024_S256x1024_0_0)))
          (View.ld x4 (Rect.unit ![2048, 0] ![256, 1024] inb_S2816x1024_S256x1024_2048_0)))
        (View.ld x1 (Rect.unit ![0, 2048] ![256, 256] inb_S256x2816_S256x256_0_2048))⟩,
    ⟨Rect.unit ![0, 1792] ![256, 256] inb_S256x2816_S256x256_0_1792,
      k0_pay93
        (k0_pay77 (k0_pay7 (View.ld x0 (Rect.unit ![0, 0] ![256, 1024] inb_S256x1024_S256x1024_0_0)))
          (View.ld x4 (Rect.unit ![1792, 0] ![256, 1024] inb_S2816x1024_S256x1024_1792_0)))
        (View.ld x1 (Rect.unit ![0, 1792] ![256, 256] inb_S256x2816_S256x256_0_1792))⟩,
    ⟨Rect.unit ![0, 1536] ![256, 256] inb_S256x2816_S256x256_0_1536,
      k0_pay83
        (k0_pay66 (k0_pay7 (View.ld x0 (Rect.unit ![0, 0] ![256, 1024] inb_S256x1024_S256x1024_0_0)))
          (View.ld x4 (Rect.unit ![1536, 0] ![256, 1024] inb_S2816x1024_S256x1024_1536_0)))
        (View.ld x1 (Rect.unit ![0, 1536] ![256, 256] inb_S256x2816_S256x256_0_1536))⟩,
    ⟨Rect.unit ![0, 1280] ![256, 256] inb_S256x2816_S256x256_0_1280,
      k0_pay72
        (k0_pay56 (k0_pay7 (View.ld x0 (Rect.unit ![0, 0] ![256, 1024] inb_S256x1024_S256x1024_0_0)))
          (k0_pay55 (View.ld x4 (Rect.unit ![1280, 0] ![256, 1024] inb_S2816x1024_S256x1024_1280_0))))
        (View.ld x1 (Rect.unit ![0, 1280] ![256, 256] inb_S256x2816_S256x256_0_1280))⟩,
    ⟨Rect.unit ![0, 1024] ![256, 256] inb_S256x2816_S256x256_0_1024,
      k0_pay62
        (k0_pay45 (k0_pay7 (View.ld x0 (Rect.unit ![0, 0] ![256, 1024] inb_S256x1024_S256x1024_0_0)))
          (View.ld x4 (Rect.unit ![1024, 0] ![256, 1024] inb_S2816x1024_S256x1024_1024_0)))
        (View.ld x1 (Rect.unit ![0, 1024] ![256, 256] inb_S256x2816_S256x256_0_1024))⟩,
    ⟨Rect.unit ![0, 768] ![256, 256] inb_S256x2816_S256x256_0_768,
      k0_pay51
        (k0_pay35 (k0_pay7 (View.ld x0 (Rect.unit ![0, 0] ![256, 1024] inb_S256x1024_S256x1024_0_0)))
          (View.ld x4 (Rect.unit ![768, 0] ![256, 1024] inb_S2816x1024_S256x1024_768_0)))
        (View.ld x1 (Rect.unit ![0, 768] ![256, 256] inb_S256x2816_S256x256_0_768))⟩,
    ⟨Rect.unit ![0, 512] ![256, 256] inb_S256x2816_S256x256_0_512,
      k0_pay41
        (k0_pay24 (k0_pay7 (View.ld x0 (Rect.unit ![0, 0] ![256, 1024] inb_S256x1024_S256x1024_0_0)))
          (View.ld x4 (Rect.unit ![512, 0] ![256, 1024] inb_S2816x1024_S256x1024_512_0)))
        (k0_pay36 (View.ld x1 (Rect.unit ![0, 512] ![256, 256] inb_S256x2816_S256x256_0_512)))⟩,
    ⟨Rect.unit ![0, 256] ![256, 256] inb_S256x2816_S256x256_0_256,
      k0_pay31
        (k0_pay13 (View.ld x0 (Rect.unit ![0, 0] ![256, 1024] inb_S256x1024_S256x1024_0_0))
          (View.ld x4 (Rect.unit ![256, 0] ![256, 1024] inb_S2816x1024_S256x1024_256_0)))
        (k0_pay25 (View.ld x1 (Rect.unit ![0, 256] ![256, 256] inb_S256x2816_S256x256_0_256)))⟩,
    ⟨Rect.unit ![0, 0] ![256, 256] inb_S256x2816_S256x256_0_0,
      k0_pay20
        (k0_pay18 (View.ld x0 (Rect.unit ![0, 0] ![256, 1024] inb_S256x1024_S256x1024_0_0))
          (View.ld x4 (Rect.unit ![0, 0] ![256, 1024] inb_S2816x1024_S256x1024_0_0))
          (View.ld x1 (Rect.unit ![0, 0] ![256, 256] inb_S256x2816_S256x256_0_0)))⟩]

theorem gate_pieces : View.PiecesOf (dgate x0 x1 x2 x4) (gateStores x0 x1 x2 x4) := by
  refine ⟨fun x => ?_, fun x => ?_, fun x => ?_, fun x => ?_, fun x => ?_, fun x => ?_, fun x => ?_, fun x => ?_, fun x => ?_, fun x => ?_, fun x => ?_, trivial⟩ <;> idx_vars x <;>
    pointwise [k0_pay7, k0_pay12, k0_pay13, k0_pay14, k0_pay15, k0_pay16, k0_pay17, k0_pay19, k0_pay21, k0_pay24,
      k0_pay25, k0_pay26, k0_pay27, k0_pay28, k0_pay30, k0_pay32, k0_pay35, k0_pay36, k0_pay37, k0_pay38,
      k0_pay40, k0_pay42, k0_pay45, k0_pay46, k0_pay47, k0_pay48, k0_pay50, k0_pay52, k0_pay55, k0_pay56,
      k0_pay57, k0_pay58, k0_pay59, k0_pay61, k0_pay63, k0_pay66, k0_pay67, k0_pay68, k0_pay69, k0_pay71,
      k0_pay73, k0_pay77, k0_pay78, k0_pay79, k0_pay80, k0_pay82, k0_pay84, k0_pay87, k0_pay88, k0_pay89,
      k0_pay90, k0_pay92, k0_pay94, k0_pay97, k0_pay98, k0_pay99, k0_pay100, k0_pay102, k0_pay104, k0_pay108,
      k0_pay109, k0_pay110, k0_pay111, k0_pay113, k0_pay115, k0_pay118, k0_pay119, k0_pay120, k0_pay122,
      k0_pay124, dgate, dact, emb_idx]

theorem up_pieces : View.PiecesOf (dup x0 x1 x4) (upStores x0 x1 x4) := by
  refine ⟨fun x => ?_, fun x => ?_, fun x => ?_, fun x => ?_, fun x => ?_, fun x => ?_, fun x => ?_, fun x => ?_, fun x => ?_, fun x => ?_, fun x => ?_, trivial⟩ <;> idx_vars x <;>
    pointwise [k0_pay7, k0_pay12, k0_pay13, k0_pay14, k0_pay16, k0_pay17, k0_pay18, k0_pay20, k0_pay24, k0_pay25,
      k0_pay27, k0_pay28, k0_pay29, k0_pay31, k0_pay35, k0_pay36, k0_pay37, k0_pay38, k0_pay39, k0_pay41,
      k0_pay45, k0_pay46, k0_pay47, k0_pay48, k0_pay49, k0_pay51, k0_pay55, k0_pay56, k0_pay57, k0_pay58,
      k0_pay59, k0_pay60, k0_pay62, k0_pay66, k0_pay67, k0_pay68, k0_pay69, k0_pay70, k0_pay72, k0_pay77,
      k0_pay78, k0_pay79, k0_pay80, k0_pay81, k0_pay83, k0_pay87, k0_pay88, k0_pay89, k0_pay90, k0_pay91,
      k0_pay93, k0_pay97, k0_pay98, k0_pay99, k0_pay100, k0_pay101, k0_pay103, k0_pay108, k0_pay109, k0_pay110,
      k0_pay111, k0_pay112, k0_pay114, k0_pay118, k0_pay119, k0_pay120, k0_pay121, k0_pay123, dup, dact, emb_idx]

/-- Reading the gate's gradient back whole. -/
theorem gate_read (v : View sig .tc .vmem S256x2816 .bf16) : v.readCov (gateStores x0 x1 x2 x4) (Rect.unit ![0, 0] ![256, 2816] inb_S256x2816_S256x2816_0_0).toLoadRect = dgate x0 x1 x2 x4 :=
  read_whole _ _ v (gate_pieces x0 x1 x2 x4) S256x256.size (by sl_kernel_rfl)

/-- Reading the up projection's gradient back whole. -/
theorem up_read (v : View sig .tc .vmem S256x2816 .bf16) : v.readCov (upStores x0 x1 x4) (Rect.unit ![0, 0] ![256, 2816] inb_S256x2816_S256x2816_0_0).toLoadRect = dup x0 x1 x4 :=
  read_whole _ _ v (up_pieces x0 x1 x4) S256x256.size (by sl_kernel_rfl)

end Hidden

end Cert.Ffn
-- ==== Proof.Rms.lean ====
/- The normalization by the root mean square of a row of 1024 entries, and its gradient, as formulas of one row. -/
module

public import Idealize.ShloMosaic.Lib.Pointwise

@[expose] public section

noncomputable section

open Idealize.ShloMosaic

namespace Cert.Rms

/-- What divides the sum of squares, and what is added to the mean before the root. -/
def width : EReal := Ideal.ofBits .f32 0x44800000#32
def eps : EReal := Ideal.ofBits .f32 0x3727C5AC#32

/-- One over the root mean square of a row. -/
def scale (x : Fin 1024 → EReal) : EReal := Ideal.rsqrt (Ideal.div (∑ k, x k * x k) width + eps)

/-- The normalized row. -/
def norm (x : Fin 1024 → EReal) (j : Fin 1024) : EReal := x j * scale x

/-- The gradient of a row from the gradient `dh` of its normalization times `g`. -/
def back (x g dh : Fin 1024 → EReal) (j : Fin 1024) : EReal :=
  scale x * (dh j * g j - norm x j * Ideal.div (∑ k, dh k * g k * norm x k) width)

end Cert.Rms
-- ==== Proof.FfnStep.lean ====
/- What a grid point of the feed-forward kernel leaves in its outputs and in its two running sums of the weight gradients, as formulas of the blocks it reads. -/
module

public import proofs.«01_k».proof.Proof.FfnHidden
public import proofs.«01_k».proof.Proof.Rms

@[expose] public section

set_option maxRecDepth 16384

noncomputable section

open Idealize.ShloMosaic Idealize.ShloMosaic.TcCoe Idealize.SL.Sem

namespace Cert.Ffn

open Cert.Kernel2Ideal Cert.Kernel2Ideal.Gen

/-! ## The formulas -/

section Formulas

variable (x0 : Vec Ideal S256x1024 .f32) (x1 x2 : Vec Ideal S256x2816 .bf16) (x3 : Vec Ideal S256x1024 .f32)
  (x4 x5 x6 : Vec Ideal S2816x1024 .bf16) (x7 : Vec Ideal S1x1024 .f32)

/-- Row `r` of the block. -/
def row (x : Vec Ideal S256x1024 .f32) (r : Fin 256) (j : Fin 1024) : EReal := x (ix2 r j)

/-- The gradient of the normalized and scaled row. -/
def dh (r : Fin 256) (j : Fin 1024) : EReal :=
  ∑ k : Fin 2816, dgate x0 x1 x2 x4 (ix2 r k) * x5 (ix2 k j) + ∑ k : Fin 2816, dup x0 x1 x4 (ix2 r k) * x6 (ix2 k j)

/-- The gradient of the input. -/
def dx : Vec Ideal S256x1024 .f32 := fun y =>
  x0 (ix2 (y 0) (y 1)) + Rms.back (row x3 (y 0)) (fun k => x7 (ix2 0 k)) (dh x0 x1 x2 x4 x5 x6 (y 0)) (y 1)

/-- The running sum of the gradient of the scale, one point further. -/
def dgStep (acc : Vec Ideal S1x1024 .f32) : Vec Ideal S1x1024 .f32 := fun y =>
  acc y + ∑ r, dh x0 x1 x2 x4 x5 x6 r (y 1) * Rms.norm (row x3 r) (y 1)

/-- The running sum of the gradient of the bias, one point further. -/
def dbStep (acc : Vec Ideal S1x1024 .f32) : Vec Ideal S1x1024 .f32 := fun y =>
  acc y + ∑ r, dx x0 x1 x2 x3 x4 x5 x6 x7 (ix2 r (y 1))

/-- The running sum of the gradient of the transposed gate weights, one point further. -/
def dwgStep (acc : Vec Ideal S2816x1024 .f32) : Vec Ideal S2816x1024 .f32 := fun y =>
  acc y + ∑ r, dgate x0 x1 x2 x4 (ix2 r (y 0)) * (Rms.norm (row x3 r) (y 1) * x7 (ix2 0 (y 1)))

/-- The running sum of the gradient of the transposed up weights, one point further. -/
def dwuStep (acc : Vec Ideal S2816x1024 .f32) : Vec Ideal S2816x1024 .f32 := fun y =>
  acc y + ∑ r, dup x0 x1 x4 (ix2 r (y 0)) * (Rms.norm (row x3 r) (y 1) * x7 (ix2 0 (y 1)))

end Formulas

/-! ## Reading a piece list -/

/-- Stores that are blocks of `G` and tile it leave `G`. -/
theorem canon_tiled {S : Shape} {e : EltTy} (G : S.Idx → Elt Ideal e) (L : List (View.Piece (Elt Ideal) S e))
    (h : View.PiecesOf G L) (size : Fin S.rank → ℕ) (hc : View.Piece.tiledL L size = true) : View.canon L = G :=
  funext fun y => View.canon_apply_of_pieces G L h.mem y (View.cover_of_tiledL L size hc y)

/-- Stores that are blocks of `G` and tile it, over an earlier fill, leave `G`. -/
theorem canon_over {S : Shape} {e : EltTy} (G : S.Idx → Elt Ideal e) (L : List (View.Piece (Elt Ideal) S e)) (z : View.Piece (Elt Ideal) S e)
    (h : View.PiecesOf G L) (size : Fin S.rank → ℕ) (hc : View.Piece.tiledL L size = true) : View.canon (L ++ [z]) = G :=
  funext fun y => View.canon_append_of_piecesOf G [z] L h y (View.cover_of_tiledL L size hc y)

/-! ## The later points -/

section Points

variable (c : Dev nD) (i : grid0.Coords) (arg1 : Memref sig .tc .vmem S256x1024 .f32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x1024 .f32) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S1x1024 .f32) (harg11 : arg11.IsWhole) (arg14 : Memref sig .tc .vmem S256x2816 .bf16) (harg14 : arg14.IsWhole) (arg15 : Memref sig .tc .vmem S256x2816 .bf16) (harg15 : arg15.IsWhole) (arg16 : Memref sig .tc .vmem S2816x1024 .f32) (harg16 : arg16.IsWhole) (arg17 : Memref sig .tc .vmem S2816x1024 .f32) (harg17 : arg17.IsWhole)
variable (x0 : Vec Ideal S256x1024 .f32) (x1 x2 : Vec Ideal S256x2816 .bf16) (x3 : Vec Ideal S256x1024 .f32) (x4 x5 x6 : Vec Ideal S2816x1024 .bf16) (x7 : Vec Ideal S1x1024 .f32)
  (xo9 xo10 : Vec Ideal S1x1024 .f32) (xs2 xs3 : Vec Ideal S2816x1024 .f32) (fw0 : HbBuf0 (F := Ideal) c hbM0_0) (fw1 : HbBuf0 (F := Ideal) c hbM0_1)

theorem dx_B (hc0 : ¬cond0_0 i) (hc1 : ¬cond0_1 i) :
    out0_B_8 (F := Ideal) c i arg1 harg1 arg2 harg2 arg3 harg3 arg4 harg4 arg5 harg5 arg6 harg6 arg7 harg7 arg8 harg8 arg9 harg9 arg10 harg10 arg11 harg11 arg14 harg14 arg15 harg15 arg16 harg16 arg17 harg17 hc0 hc1 x0 x1 x2 x3 x4 x5 x6 x7 xo9 xo10 xs2 xs3 fw0 fw1 = dx x0 x1 x2 x3 x4 x5 x6 x7 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg14 harg14 arg15 harg15 arg16 harg16 arg17 harg17 hc0 hc1 x0 x1 x2 x3 x4 x5 x6 x7 xo9 xo10 xs2 xs3 fw0 fw1)]
  unfold kernelRun0_B
  dsimp only
  sl_unfold_words
  simp only [View.readAt_eq_ld, harg1.read_unread, harg2.read_unread, harg3.read_unread, harg4.read_unread, harg5.read_unread, harg6.read_unread, harg7.read_unread, harg8.read_unread, harg10.read_unread, harg11.read_unread, harg16.read_unread, harg17.read_unread]
  have hg := gate_read x0 x1 x2 x4 arg14.view
  have hu := up_read x0 x1 x4 arg15.view
  unfold gateStores at hg
  unfold upStores at hu
  rw [hg, hu]
  refine canon_tiled (dx x0 x1 x2 x3 x4 x5 x6 x7) _ ?_ S256x1024.size (by sl_kernel_rfl)
  refine ⟨fun z => ?_, trivial⟩
  idx_vars z
  pointwise [k0_pay1, k0_pay2, k0_pay3, k0_pay4, k0_pay8, k0_pay9, k0_pay10, k0_pay128, k0_pay129, k0_pay130, dx, dx, dh, Rms.back, Rms.norm, Rms.scale, Rms.width, Rms.eps, row, emb_idx]

theorem dg_B (hc0 : ¬cond0_0 i) (hc1 : ¬cond0_1 i) :
    out0_B_9 (F := Ideal) c i arg1 harg1 arg2 harg2 arg3 harg3 arg4 harg4 arg5 harg5 arg6 harg6 arg7 harg7 arg8 harg8 arg9 harg9 arg10 harg10 arg11 harg11 arg14 harg14 arg15 harg15 arg16 harg16 arg17 harg17 hc0 hc1 x0 x1 x2 x3 x4 x5 x6 x7 xo9 xo10 xs2 xs3 fw0 fw1 = dgStep x0 x1 x2 x3 x4 x5 x6 xo9 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg14 harg14 arg15 harg15 arg16 harg16 arg17 harg17 hc0 hc1 x0 x1 x2 x3 x4 x5 x6 x7 xo9 xo10 xs2 xs3 fw0 fw1)]
  unfold kernelRun0_B
  dsimp only
  sl_unfold_words
  simp only [View.readAt_eq_ld, harg1.read_unread, harg2.read_unread, harg3.read_unread, harg4.read_unread, harg5.read_unread, harg6.read_unread, harg7.read_unread, harg8.read_unread, harg10.read_unread, harg11.read_unread, harg16.read_unread, harg17.read_unread]
  have hg := gate_read x0 x1 x2 x4 arg14.view
  have hu := up_read x0 x1 x4 arg15.view
  unfold gateStores at hg
  unfold upStores at hu
  rw [hg, hu]
  refine canon_tiled (dgStep x0 x1 x2 x3 x4 x5 x6 xo9) _ ?_ S1x1024.size (by sl_kernel_rfl)
  refine ⟨fun z => ?_, trivial⟩
  idx_vars z
  pointwise [k0_pay1, k0_pay2, k0_pay3, k0_pay4, k0_pay8, k0_pay9, k0_pay10, k0_pay128, k0_pay129, k0_pay130, dgStep, dx, dh, Rms.back, Rms.norm, Rms.scale, Rms.width, Rms.eps, row, emb_idx]

theorem db_B (hc0 : ¬cond0_0 i) (hc1 : ¬cond0_1 i) :
    out0_B_10 (F := Ideal) c i arg1 harg1 arg2 harg2 arg3 harg3 arg4 harg4 arg5 harg5 arg6 harg6 arg7 harg7 arg8 harg8 arg9 harg9 arg10 harg10 arg11 harg11 arg14 harg14 arg15 harg15 arg16 harg16 arg17 harg17 hc0 hc1 x0 x1 x2 x3 x4 x5 x6 x7 xo9 xo10 xs2 xs3 fw0 fw1 = dbStep x0 x1 x2 x3 x4 x5 x6 x7 xo10 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg14 harg14 arg15 harg15 arg16 harg16 arg17 harg17 hc0 hc1 x0 x1 x2 x3 x4 x5 x6 x7 xo9 xo10 xs2 xs3 fw0 fw1)]
  unfold kernelRun0_B
  dsimp only
  sl_unfold_words
  simp only [View.readAt_eq_ld, harg1.read_unread, harg2.read_unread, harg3.read_unread, harg4.read_unread, harg5.read_unread, harg6.read_unread, harg7.read_unread, harg8.read_unread, harg10.read_unread, harg11.read_unread, harg16.read_unread, harg17.read_unread]
  have hg := gate_read x0 x1 x2 x4 arg14.view
  have hu := up_read x0 x1 x4 arg15.view
  unfold gateStores at hg
  unfold upStores at hu
  rw [hg, hu]
  refine canon_tiled (dbStep x0 x1 x2 x3 x4 x5 x6 x7 xo10) _ ?_ S1x1024.size (by sl_kernel_rfl)
  refine ⟨fun z => ?_, trivial⟩
  idx_vars z
  pointwise [k0_pay1, k0_pay2, k0_pay3, k0_pay4, k0_pay8, k0_pay9, k0_pay10, k0_pay128, k0_pay129, k0_pay130, dbStep, dx, dh, Rms.back, Rms.norm, Rms.scale, Rms.width, Rms.eps, row, emb_idx]

theorem dwg_B (hc0 : ¬cond0_0 i) (hc1 : ¬cond0_1 i) :
    sout0_B_2 (F := Ideal) c i arg1 harg1 arg2 harg2 arg3 harg3 arg4 harg4 arg5 harg5 arg6 harg6 arg7 harg7 arg8 harg8 arg9 harg9 arg10 harg10 arg11 harg11 arg14 harg14 arg15 harg15 arg16 harg16 arg17 harg17 hc0 hc1 x0 x1 x2 x3 x4 x5 x6 x7 xo9 xo10 xs2 xs3 fw0 fw1 = dwgStep x0 x1 x2 x3 x4 x7 xs2 := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 arg11 harg11 arg14 harg14 arg15 harg15 arg16 harg16 arg17 harg17 hc0 hc1 x0 x1 x2 x3 x4 x5 x6 x7 xo9 xo10 xs2 xs3 fw0 fw1)]
  unfold kernelRun0_B
  dsimp only
  sl_unfold_words
  simp only [View.readAt_eq_ld, harg1.read_unread, harg2.read_unread, harg3.read_unread, harg4.read_unread, harg5.read_unread, harg6.read_unread, harg7.read_unread, harg8.read_unread, harg10.read_unread, harg11.read_unread, harg16.read_unread, harg17.read_unread]
  refine canon_tiled (dwgStep x0 x1 x2 x3 x4 x7 xs2) _ ?_ S256x1024.size (by sl_kernel_rfl)
  refine ⟨fun z => ?_, fun z => ?_, fun z => ?_, fun z => ?_, fun z => ?_, fun z => ?_, fun z => ?_, fun z => ?_, fun z => ?_, fun z => ?_, fun z => ?_, trivial⟩ <;> idx_vars z <;>
    pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88, k0_pay89, k0_pay90, k0_pay91,
      k0_pay92, k0_pay93, k0_pay94, k0_pay95, k0_pay96, k0_pay97, k0_pay98, k0_pay99, k0_pay100, k0_pay101,
      k0_pay102, k0_pay103, k0_pay104, k0_pay105, k0_pay106, k0_pay107, k0_pay108, k0_pay109, k0_pay110,
      k0_pay111, k0_pay112, k0_pay113, k0_pay114, k0_pay115, k0_pay116, k0_pay117, k0_pay118, k0_pay119,
      k0_pay120, k0_pay121, k0_pay122, k0_pay123, k0_pay124, k0_pay125, k0_pay126, k0_pay127, k0_pay128,
      k0_pay129, k0_pay130, dwgStep, dgate, dup, dact, Rms.norm, Rms.scale, Rms.width, Rms.eps, row, emb_idx]

theorem dwu_B (hc0 : ¬cond0_0 i) (hc1 : ¬cond0_1 i) :
    sout0_B_3 (F := Ideal) c i arg1 harg1 arg2 harg2 arg3 harg3 arg4 harg4 arg5 harg5 arg6 harg6 arg7 harg7 arg8 harg8 arg9 harg9 arg10 harg10 arg11 harg11 arg14 harg14 arg15 harg15 arg16 harg16 arg17 harg17 hc0 hc1 x0 x1 x2 x3 x4 x5 x6 x7 xo9 xo10 xs2 xs3 fw0 fw1 = dwuStep x0 x1 x3 x4 x7 xs3 := by
  unfold sout0_B_3
  rw [View.read_writes_eq_canon _ _ _ (scover0_B_3 c i arg1 harg1 arg2 harg2 arg3 harg3 arg4 harg4 arg5 harg5 arg6 harg6 arg7 harg7 arg8 harg8 arg9 harg9 arg10 harg10 arg11 harg11 arg14 harg14 arg15 harg15 arg16 harg16 arg17 harg17 hc0 hc1 x0 x1 x2 x3 x4 x5 x6 x7 xo9 xo10 xs2 xs3 fw0 fw1)]
  unfold kernelRun0_B
  dsimp only
  sl_unfold_words
  simp only [View.readAt_eq_ld, harg1.read_unread, harg2.read_unread, harg3.read_unread, harg4.read_unread, harg5.read_unread, harg6.read_unread, harg7.read_unread, harg8.read_unread, harg10.read_unread, harg11.read_unread, harg16.read_unread, harg17.read_unread]
  refine canon_tiled (dwuStep x0 x1 x3 x4 x7 xs3) _ ?_ S256x1024.size (by sl_kernel_rfl)
  refine ⟨fun z => ?_, fun z => ?_, fun z => ?_, fun z => ?_, fun z => ?_, fun z => ?_, fun z => ?_, fun z => ?_, fun z => ?_, fun z => ?_, fun z => ?_, trivial⟩ <;> idx_vars z <;>
    pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88, k0_pay89, k0_pay90, k0_pay91,
      k0_pay92, k0_pay93, k0_pay94, k0_pay95, k0_pay96, k0_pay97, k0_pay98, k0_pay99, k0_pay100, k0_pay101,
      k0_pay102, k0_pay103, k0_pay104, k0_pay105, k0_pay106, k0_pay107, k0_pay108, k0_pay109, k0_pay110,
      k0_pay111, k0_pay112, k0_pay113, k0_pay114, k0_pay115, k0_pay116, k0_pay117, k0_pay118, k0_pay119,
      k0_pay120, k0_pay121, k0_pay122, k0_pay123, k0_pay124, k0_pay125, k0_pay126, k0_pay127, k0_pay128,
      k0_pay129, k0_pay130, dwuStep, dgate, dup, dact, Rms.norm, Rms.scale, Rms.width, Rms.eps, row, emb_idx]

end Points

end Cert.Ffn
-- ==== Proof.FfnFirst.lean ====
/- The first grid point of the feed-forward kernel: the same formulas with nothing summed yet. -/
module

public import proofs.«01_k».proof.Proof.FfnStep

@[expose] public section

set_option maxRecDepth 16384

noncomputable section

open Idealize.ShloMosaic Idealize.ShloMosaic.TcCoe Idealize.SL.Sem

namespace Cert.Ffn

open Cert.Kernel2Ideal Cert.Kernel2Ideal.Gen

section Points

variable (c : Dev nD) (i : grid0.Coords) (arg1 : Memref sig .tc .vmem S256x1024 .f32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x1024 .f32) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S1x1024 .f32) (harg11 : arg11.IsWhole) (arg14 : Memref sig .tc .vmem S256x2816 .bf16) (harg14 : arg14.IsWhole) (arg15 : Memref sig .tc .vmem S256x2816 .bf16) (harg15 : arg15.IsWhole) (arg16 : Memref sig .tc .vmem S2816x1024 .f32) (harg16 : arg16.IsWhole) (arg17 : Memref sig .tc .vmem S2816x1024 .f32) (harg17 : arg17.IsWhole)
variable (x0 : Vec Ideal S256x1024 .f32) (x1 x2 : Vec Ideal S256x2816 .bf16) (x3 : Vec Ideal S256x1024 .f32) (x4 x5 x6 : Vec Ideal S2816x1024 .bf16) (x7 : Vec Ideal S1x1024 .f32)
  (xo9 xo10 : Vec Ideal S1x1024 .f32) (xs2 xs3 : Vec Ideal S2816x1024 .f32) (fw0 : HbBuf0 (F := Ideal) c hbM0_0) (fw1 : HbBuf0 (F := Ideal) c hbM0_1)

theorem dx_A (hc0 : cond0_0 i) (hc1 : ¬cond0_1 i) :
    out0_A_8 (F := Ideal) c i arg1 harg1 arg2 harg2 arg3 harg3 arg4 harg4 arg5 harg5 arg6 harg6 arg7 harg7 arg8 harg8 arg9 harg9 arg10 harg10 arg11 harg11 arg14 harg14 arg15 harg15 arg16 harg16 arg17 harg17 hc0 hc1 x0 x1 x2 x3 x4 x5 x6 x7 fw0 fw1 = dx x0 x1 x2 x3 x4 x5 x6 x7 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg14 harg14 arg15 harg15 arg16 harg16 arg17 harg17 hc0 hc1 x0 x1 x2 x3 x4 x5 x6 x7 fw0 fw1)]
  unfold kernelRun0_A
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg8.read_unread, harg10.read_unread, harg11.read_unread, harg16.read_unread, harg17.read_unread]
  have hg := gate_read x0 x1 x2 x4 arg14.view
  have hu := up_read x0 x1 x4 arg15.view
  unfold gateStores at hg
  unfold upStores at hu
  rw [hg, hu]
  refine canon_tiled (dx x0 x1 x2 x3 x4 x5 x6 x7) _ ?_ S256x1024.size (by sl_kernel_rfl)
  refine ⟨fun z => ?_, trivial⟩
  idx_vars z
  pointwise [k0_pay1, k0_pay2, k0_pay3, k0_pay4, k0_pay8, k0_pay9, k0_pay10, k0_pay128, k0_pay129, k0_pay130, dx, dx, dh, Rms.back, Rms.norm, Rms.scale, Rms.width, Rms.eps, row, emb_idx]

theorem dg_A (hc0 : cond0_0 i) (hc1 : ¬cond0_1 i) :
    out0_A_9 (F := Ideal) c i arg1 harg1 arg2 harg2 arg3 harg3 arg4 harg4 arg5 harg5 arg6 harg6 arg7 harg7 arg8 harg8 arg9 harg9 arg10 harg10 arg11 harg11 arg14 harg14 arg15 harg15 arg16 harg16 arg17 harg17 hc0 hc1 x0 x1 x2 x3 x4 x5 x6 x7 fw0 fw1 = dgStep x0 x1 x2 x3 x4 x5 x6 (fun _ => 0) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg14 harg14 arg15 harg15 arg16 harg16 arg17 harg17 hc0 hc1 x0 x1 x2 x3 x4 x5 x6 x7 fw0 fw1)]
  unfold kernelRun0_A
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg8.read_unread, harg10.read_unread, harg11.read_unread, harg16.read_unread, harg17.read_unread]
  have hg := gate_read x0 x1 x2 x4 arg14.view
  have hu := up_read x0 x1 x4 arg15.view
  unfold gateStores at hg
  unfold upStores at hu
  rw [hg, hu]
  refine canon_over (dgStep x0 x1 x2 x3 x4 x5 x6 (fun _ => 0)) [_] _ ?_ S1x1024.size (by sl_kernel_rfl)
  refine ⟨fun z => ?_, trivial⟩
  idx_vars z
  pointwise [k0_pay1, k0_pay2, k0_pay3, k0_pay4, k0_pay8, k0_pay9, k0_pay10, k0_pay128, k0_pay129, k0_pay130, dgStep, dx, dh, Rms.back, Rms.norm, Rms.scale, Rms.width, Rms.eps, row, emb_idx]

theorem db_A (hc0 : cond0_0 i) (hc1 : ¬cond0_1 i) :
    out0_A_10 (F := Ideal) c i arg1 harg1 arg2 harg2 arg3 harg3 arg4 harg4 arg5 harg5 arg6 harg6 arg7 harg7 arg8 harg8 arg9 harg9 arg10 harg10 arg11 harg11 arg14 harg14 arg15 harg15 arg16 harg16 arg17 harg17 hc0 hc1 x0 x1 x2 x3 x4 x5 x6 x7 fw0 fw1 = dbStep x0 x1 x2 x3 x4 x5 x6 x7 (fun _ => 0) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg14 harg14 arg15 harg15 arg16 harg16 arg17 harg17 hc0 hc1 x0 x1 x2 x3 x4 x5 x6 x7 fw0 fw1)]
  unfold kernelRun0_A
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg8.read_unread, harg10.read_unread, harg11.read_unread, harg16.read_unread, harg17.read_unread]
  have hg := gate_read x0 x1 x2 x4 arg14.view
  have hu := up_read x0 x1 x4 arg15.view
  unfold gateStores at hg
  unfold upStores at hu
  rw [hg, hu]
  refine canon_over (dbStep x0 x1 x2 x3 x4 x5 x6 x7 (fun _ => 0)) [_] _ ?_ S1x1024.size (by sl_kernel_rfl)
  refine ⟨fun z => ?_, trivial⟩
  idx_vars z
  pointwise [k0_pay1, k0_pay2, k0_pay3, k0_pay4, k0_pay8, k0_pay9, k0_pay10, k0_pay128, k0_pay129, k0_pay130, dbStep, dx, dh, Rms.back, Rms.norm, Rms.scale, Rms.width, Rms.eps, row, emb_idx]

theorem dwg_A (hc0 : cond0_0 i) (hc1 : ¬cond0_1 i) :
    sout0_A_2 (F := Ideal) c i arg1 harg1 arg2 harg2 arg3 harg3 arg4 harg4 arg5 harg5 arg6 harg6 arg7 harg7 arg8 harg8 arg9 harg9 arg10 harg10 arg11 harg11 arg14 harg14 arg15 harg15 arg16 harg16 arg17 harg17 hc0 hc1 x0 x1 x2 x3 x4 x5 x6 x7 fw0 fw1 = dwgStep x0 x1 x2 x3 x4 x7 (fun _ => 0) := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg14 harg14 arg15 harg15 arg16 harg16 arg17 harg17 hc0 hc1 x0 x1 x2 x3 x4 x5 x6 x7 fw0 fw1)]
  unfold kernelRun0_A
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg8.read_unread, harg10.read_unread, harg11.read_unread, harg16.read_unread, harg17.read_unread]
  refine canon_over (dwgStep x0 x1 x2 x3 x4 x7 (fun _ => 0)) [_, _, _, _, _, _, _, _, _, _, _] _ ?_ S256x1024.size (by sl_kernel_rfl)
  refine ⟨fun z => ?_, fun z => ?_, fun z => ?_, fun z => ?_, fun z => ?_, fun z => ?_, fun z => ?_, fun z => ?_, fun z => ?_, fun z => ?_, fun z => ?_, trivial⟩ <;> idx_vars z <;>
    pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88, k0_pay89, k0_pay90, k0_pay91,
      k0_pay92, k0_pay93, k0_pay94, k0_pay95, k0_pay96, k0_pay97, k0_pay98, k0_pay99, k0_pay100, k0_pay101,
      k0_pay102, k0_pay103, k0_pay104, k0_pay105, k0_pay106, k0_pay107, k0_pay108, k0_pay109, k0_pay110,
      k0_pay111, k0_pay112, k0_pay113, k0_pay114, k0_pay115, k0_pay116, k0_pay117, k0_pay118, k0_pay119,
      k0_pay120, k0_pay121, k0_pay122, k0_pay123, k0_pay124, k0_pay125, k0_pay126, k0_pay127, k0_pay128,
      k0_pay129, k0_pay130, dwgStep, dgate, dup, dact, Rms.norm, Rms.scale, Rms.width, Rms.eps, row, emb_idx]

theorem dwu_A (hc0 : cond0_0 i) (hc1 : ¬cond0_1 i) :
    sout0_A_3 (F := Ideal) c i arg1 harg1 arg2 harg2 arg3 harg3 arg4 harg4 arg5 harg5 arg6 harg6 arg7 harg7 arg8 harg8 arg9 harg9 arg10 harg10 arg11 harg11 arg14 harg14 arg15 harg15 arg16 harg16 arg17 harg17 hc0 hc1 x0 x1 x2 x3 x4 x5 x6 x7 fw0 fw1 = dwuStep x0 x1 x3 x4 x7 (fun _ => 0) := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 arg14 harg14 arg15 harg15 arg16 harg16 arg17 harg17 hc0 hc1 x0 x1 x2 x3 x4 x5 x6 x7 fw0 fw1)]
  unfold kernelRun0_A
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg8.read_unread, harg10.read_unread, harg11.read_unread, harg16.read_unread, harg17.read_unread]
  refine canon_over (dwuStep x0 x1 x3 x4 x7 (fun _ => 0)) [_, _, _, _, _, _, _, _, _, _, _] _ ?_ S256x1024.size (by sl_kernel_rfl)
  refine ⟨fun z => ?_, fun z => ?_, fun z => ?_, fun z => ?_, fun z => ?_, fun z => ?_, fun z => ?_, fun z => ?_, fun z => ?_, fun z => ?_, fun z => ?_, trivial⟩ <;> idx_vars z <;>
    pointwise [k0_pay1, k0_pay2, k0_pay3, k0_pay4, k0_pay5, k0_pay6, k0_pay7, k0_pay8, k0_pay9, k0_pay10, k0_pay11,
      k0_pay12, k0_pay13, k0_pay14, k0_pay15, k0_pay16, k0_pay17, k0_pay18, k0_pay19, k0_pay20, k0_pay21,
      k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51,
      k0_pay52, k0_pay53, k0_pay54, k0_pay55, k0_pay56, k0_pay57, k0_pay58, k0_pay59, k0_pay60, k0_pay61,
      k0_pay62, k0_pay63, k0_pay64, k0_pay65, k0_pay66, k0_pay67, k0_pay68, k0_pay69, k0_pay70, k0_pay71,
      k0_pay72, k0_pay73, k0_pay74, k0_pay75, k0_pay76, k0_pay77, k0_pay78, k0_pay79, k0_pay80, k0_pay81,
      k0_pay82, k0_pay83, k0_pay84, k0_pay85, k0_pay86, k0_pay87, k0_pay88, k0_pay89, k0_pay90, k0_pay91,
      k0_pay92, k0_pay93, k0_pay94, k0_pay95, k0_pay96, k0_pay97, k0_pay98, k0_pay99, k0_pay100, k0_pay101,
      k0_pay102, k0_pay103, k0_pay104, k0_pay105, k0_pay106, k0_pay107, k0_pay108, k0_pay109, k0_pay110,
      k0_pay111, k0_pay112, k0_pay113, k0_pay114, k0_pay115, k0_pay116, k0_pay117, k0_pay118, k0_pay119,
      k0_pay120, k0_pay121, k0_pay122, k0_pay123, k0_pay124, k0_pay125, k0_pay126, k0_pay127, k0_pay128,
      k0_pay129, k0_pay130, dwuStep, dgate, dup, dact, Rms.norm, Rms.scale, Rms.width, Rms.eps, row, emb_idx]

end Points

end Cert.Ffn
-- ==== Proof.FfnLast.lean ====
/- The last grid point of the feed-forward kernel leaves in its outputs what any later point leaves, and copies its two running sums of the weight gradients out. -/
module

public import proofs.«01_k».proof.Proof.FfnStep

@[expose] public section

set_option maxRecDepth 16384

noncomputable section

open Idealize.ShloMosaic Idealize.ShloMosaic.TcCoe Idealize.SL.Sem

namespace Cert.Ffn

open Cert.Kernel2Ideal Cert.Kernel2Ideal.Gen

section Points

variable (c : Dev nD) (i : grid0.Coords) (arg1 : Memref sig .tc .vmem S256x1024 .f32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x1024 .f32) (harg4 : arg4.IsWhole) (arg5 : Memref sig .tc .vmem S2816x1024 .bf16) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S256x1024 .f32) (harg9 : arg9.IsWhole) (arg10 : Memref sig .tc .vmem S1x1024 .f32) (harg10 : arg10.IsWhole) (arg11 : Memref sig .tc .vmem S1x1024 .f32) (harg11 : arg11.IsWhole) (arg14 : Memref sig .tc .vmem S256x2816 .bf16) (harg14 : arg14.IsWhole) (arg15 : Memref sig .tc .vmem S256x2816 .bf16) (harg15 : arg15.IsWhole) (arg16 : Memref sig .tc .vmem S2816x1024 .f32) (harg16 : arg16.IsWhole) (arg17 : Memref sig .tc .vmem S2816x1024 .f32) (harg17 : arg17.IsWhole)
variable (x0 : Vec Ideal S256x1024 .f32) (x1 x2 : Vec Ideal S256x2816 .bf16) (x3 : Vec Ideal S256x1024 .f32) (x4 x5 x6 : Vec Ideal S2816x1024 .bf16) (x7 : Vec Ideal S1x1024 .f32)
  (xo9 xo10 : Vec Ideal S1x1024 .f32) (xs2 xs3 : Vec Ideal S2816x1024 .f32) (fw0 : HbBuf0 (F := Ideal) c hbM0_0) (fw1 : HbBuf0 (F := Ideal) c hbM0_1)

theorem dx_C (hc0 : ¬cond0_0 i) (hc1 : cond0_1 i) (i' : grid0.Coords) (hb0 : ¬cond0_0 i') (hb1 : ¬cond0_1 i') :
    out0_C_8 (F := Ideal) c i arg1 harg1 arg2 harg2 arg3 harg3 arg4 harg4 arg5 harg5 arg6 harg6 arg7 harg7 arg8 harg8 arg9 harg9 arg10 harg10 arg11 harg11 arg14 harg14 arg15 harg15 arg16 harg16 arg17 harg17 hc0 hc1 x0 x1 x2 x3 x4 x5 x6 x7 xo9 xo10 xs2 xs3 fw0 fw1 = out0_B_8 (F := Ideal) c i' arg1 harg1 arg2 harg2 arg3 harg3 arg4 harg4 arg5 harg5 arg6 harg6 arg7 harg7 arg8 harg8 arg9 harg9 arg10 harg10 arg11 harg11 arg14 harg14 arg15 harg15 arg16 harg16 arg17 harg17 hb0 hb1 x0 x1 x2 x3 x4 x5 x6 x7 xo9 xo10 xs2 xs3 fw0 fw1 := by
  unfold out0_C_8 out0_B_8 kernelRun0_C kernelRun0_B
  rfl

theorem dg_C (hc0 : ¬cond0_0 i) (hc1 : cond0_1 i) (i' : grid0.Coords) (hb0 : ¬cond0_0 i') (hb1 : ¬cond0_1 i') :
    out0_C_9 (F := Ideal) c i arg1 harg1 arg2 harg2 arg3 harg3 arg4 harg4 arg5 harg5 arg6 harg6 arg7 harg7 arg8 harg8 arg9 harg9 arg10 harg10 arg11 harg11 arg14 harg14 arg15 harg15 arg16 harg16 arg17 harg17 hc0 hc1 x0 x1 x2 x3 x4 x5 x6 x7 xo9 xo10 xs2 xs3 fw0 fw1 = out0_B_9 (F := Ideal) c i' arg1 harg1 arg2 harg2 arg3 harg3 arg4 harg4 arg5 harg5 arg6 harg6 arg7 harg7 arg8 harg8 arg9 harg9 arg10 harg10 arg11 harg11 arg14 harg14 arg15 harg15 arg16 harg16 arg17 harg17 hb0 hb1 x0 x1 x2 x3 x4 x5 x6 x7 xo9 xo10 xs2 xs3 fw0 fw1 := by
  unfold out0_C_9 out0_B_9 kernelRun0_C kernelRun0_B
  rfl

theorem db_C (hc0 : ¬cond0_0 i) (hc1 : cond0_1 i) (i' : grid0.Coords) (hb0 : ¬cond0_0 i') (hb1 : ¬cond0_1 i') :
    out0_C_10 (F := Ideal) c i arg1 harg1 arg2 harg2 arg3 harg3 arg4 harg4 arg5 harg5 arg6 harg6 arg7 harg7 arg8 harg8 arg9 harg9 arg10 harg10 arg11 harg11 arg14 harg14 arg15 harg15 arg16 harg16 arg17 harg17 hc0 hc1 x0 x1 x2 x3 x4 x5 x6 x7 xo9 xo10 xs2 xs3 fw0 fw1 = out0_B_10 (F := Ideal) c i' arg1 harg1 arg2 harg2 arg3 harg3 arg4 harg4 arg5 harg5 arg6 harg6 arg7 harg7 arg8 harg8 arg9 harg9 arg10 harg10 arg11 harg11 arg14 harg14 arg15 harg15 arg16 harg16 arg17 harg17 hb0 hb1 x0 x1 x2 x3 x4 x5 x6 x7 xo9 xo10 xs2 xs3 fw0 fw1 := by
  unfold out0_C_10 out0_B_10 kernelRun0_C kernelRun0_B
  rfl

theorem dwg_C (hc0 : ¬cond0_0 i) (hc1 : cond0_1 i) (i' : grid0.Coords) (hb0 : ¬cond0_0 i') (hb1 : ¬cond0_1 i') :
    sout0_C_2 (F := Ideal) c i arg1 harg1 arg2 harg2 arg3 harg3 arg4 harg4 arg5 harg5 arg6 harg6 arg7 harg7 arg8 harg8 arg9 harg9 arg10 harg10 arg11 harg11 arg14 harg14 arg15 harg15 arg16 harg16 arg17 harg17 hc0 hc1 x0 x1 x2 x3 x4 x5 x6 x7 xo9 xo10 xs2 xs3 fw0 fw1 = sout0_B_2 (F := Ideal) c i' arg1 harg1 arg2 harg2 arg3 harg3 arg4 harg4 arg5 harg5 arg6 harg6 arg7 harg7 arg8 harg8 arg9 harg9 arg10 harg10 arg11 harg11 arg14 harg14 arg15 harg15 arg16 harg16 arg17 harg17 hb0 hb1 x0 x1 x2 x3 x4 x5 x6 x7 xo9 xo10 xs2 xs3 fw0 fw1 := by
  unfold sout0_C_2 sout0_B_2 kernelRun0_C kernelRun0_B
  rfl

theorem dwu_C (hc0 : ¬cond0_0 i) (hc1 : cond0_1 i) (i' : grid0.Coords) (hb0 : ¬cond0_0 i') (hb1 : ¬cond0_1 i') :
    sout0_C_3 (F := Ideal) c i arg1 harg1 arg2 harg2 arg3 harg3 arg4 harg4 arg5 harg5 arg6 harg6 arg7 harg7 arg8 harg8 arg9 harg9 arg10 harg10 arg11 harg11 arg14 harg14 arg15 harg15 arg16 harg16 arg17 harg17 hc0 hc1 x0 x1 x2 x3 x4 x5 x6 x7 xo9 xo10 xs2 xs3 fw0 fw1 = sout0_B_3 (F := Ideal) c i' arg1 harg1 arg2 harg2 arg3 harg3 arg4 harg4 arg5 harg5 arg6 harg6 arg7 harg7 arg8 harg8 arg9 harg9 arg10 harg10 arg11 harg11 arg14 harg14 arg15 harg15 arg16 harg16 arg17 harg17 hb0 hb1 x0 x1 x2 x3 x4 x5 x6 x7 xo9 xo10 xs2 xs3 fw0 fw1 := by
  unfold sout0_C_3 sout0_B_3 kernelRun0_C kernelRun0_B
  rfl

theorem hb0_C (hc0 : ¬cond0_0 i) (hc1 : cond0_1 i) :
    hbw0_C_0 (F := Ideal) c i arg1 harg1 arg2 harg2 arg3 harg3 arg4 harg4 arg5 harg5 arg6 harg6 arg7 harg7 arg8 harg8 arg9 harg9 arg10 harg10 arg11 harg11 arg14 harg14 arg15 harg15 arg16 harg16 arg17 harg17 hc0 hc1 x0 x1 x2 x3 x4 x5 x6 x7 xo9 xo10 xs2 xs3 fw0 fw1 = sout0_C_2 (F := Ideal) c i arg1 harg1 arg2 harg2 arg3 harg3 arg4 harg4 arg5 harg5 arg6 harg6 arg7 harg7 arg8 harg8 arg9 harg9 arg10 harg10 arg11 harg11 arg14 harg14 arg15 harg15 arg16 harg16 arg17 harg17 hc0 hc1 x0 x1 x2 x3 x4 x5 x6 x7 xo9 xo10 xs2 xs3 fw0 fw1 := by
  unfold sout0_C_2
  rw [View.read_writes_eq_canon _ _ _ (scover0_C_2 c i arg1 harg1 arg2 harg2 arg3 harg3 arg4 harg4 arg5 harg5 arg6 harg6 arg7 harg7 arg8 harg8 arg9 harg9 arg10 harg10 arg11 harg11 arg14 harg14 arg15 harg15 arg16 harg16 arg17 harg17 hc0 hc1 x0 x1 x2 x3 x4 x5 x6 x7 xo9 xo10 xs2 xs3 fw0 fw1)]
  unfold hbw0_C_0
  exact (View.write_whole_univ main_v23_3 fw0 _).trans (View.read_writes_eq_canon arg16.view _ _ (scover0_C_2 c i arg1 harg1 arg2 harg2 arg3 harg3 arg4 harg4 arg5 harg5 arg6 harg6 arg7 harg7 arg8 harg8 arg9 harg9 arg10 harg10 arg11 harg11 arg14 harg14 arg15 harg15 arg16 harg16 arg17 harg17 hc0 hc1 x0 x1 x2 x3 x4 x5 x6 x7 xo9 xo10 xs2 xs3 fw0 fw1))

theorem hb0_B (hc0 : ¬cond0_0 i) (hc1 : ¬cond0_1 i) :
    hbw0_B_0 (F := Ideal) c i arg1 harg1 arg2 harg2 arg3 harg3 arg4 harg4 arg5 harg5 arg6 harg6 arg7 harg7 arg8 harg8 arg9 harg9 arg10 harg10 arg11 harg11 arg14 harg14 arg15 harg15 arg16 harg16 arg17 harg17 hc0 hc1 x0 x1 x2 x3 x4 x5 x6 x7 xo9 xo10 xs2 xs3 fw0 fw1 = fw0 := by
  unfold hbw0_B_0 kernelRun0_B
  rfl

theorem hb0_A (hc0 : cond0_0 i) (hc1 : ¬cond0_1 i) :
    hbw0_A_0 (F := Ideal) c i arg1 harg1 arg2 harg2 arg3 harg3 arg4 harg4 arg5 harg5 arg6 harg6 arg7 harg7 arg8 harg8 arg9 harg9 arg10 harg10 arg11 harg11 arg14 harg14 arg15 harg15 arg16 harg16 arg17 harg17 hc0 hc1 x0 x1 x2 x3 x4 x5 x6 x7 fw0 fw1 = fw0 := by
  unfold hbw0_A_0 kernelRun0_A
  rfl

theorem hb1_C (hc0 : ¬cond0_0 i) (hc1 : cond0_1 i) :
    hbw0_C_1 (F := Ideal) c i arg1 harg1 arg2 harg2 arg3 harg3 arg4 harg4 arg5 harg5 arg6 harg6 arg7 harg7 arg8 harg8 arg9 harg9 arg10 harg10 arg11 harg11 arg14 harg14 arg15 harg15 arg16 harg16 arg17 harg17 hc0 hc1 x0 x1 x2 x3 x4 x5 x6 x7 xo9 xo10 xs2 xs3 fw0 fw1 = sout0_C_3 (F := Ideal) c i arg1 harg1 arg2 harg2 arg3 harg3 arg4 harg4 arg5 harg5 arg6 harg6 arg7 harg7 arg8 harg8 arg9 harg9 arg10 harg10 arg11 harg11 arg14 harg14 arg15 harg15 arg16 harg16 arg17 harg17 hc0 hc1 x0 x1 x2 x3 x4 x5 x6 x7 xo9 xo10 xs2 xs3 fw0 fw1 := by
  unfold sout0_C_3
  rw [View.read_writes_eq_canon _ _ _ (scover0_C_3 c i arg1 harg1 arg2 harg2 arg3 harg3 arg4 harg4 arg5 harg5 arg6 harg6 arg7 harg7 arg8 harg8 arg9 harg9 arg10 harg10 arg11 harg11 arg14 harg14 arg15 harg15 arg16 harg16 arg17 harg17 hc0 hc1 x0 x1 x2 x3 x4 x5 x6 x7 xo9 xo10 xs2 xs3 fw0 fw1)]
  unfold hbw0_C_1
  exact (View.write_whole_univ main_v23_4 fw1 _).trans (View.read_writes_eq_canon arg17.view _ _ (scover0_C_3 c i arg1 harg1 arg2 harg2 arg3 harg3 arg4 harg4 arg5 harg5 arg6 harg6 arg7 harg7 arg8 harg8 arg9 harg9 arg10 harg10 arg11 harg11 arg14 harg14 arg15 harg15 arg16 harg16 arg17 harg17 hc0 hc1 x0 x1 x2 x3 x4 x5 x6 x7 xo9 xo10 xs2 xs3 fw0 fw1))

theorem hb1_B (hc0 : ¬cond0_0 i) (hc1 : ¬cond0_1 i) :
    hbw0_B_1 (F := Ideal) c i arg1 harg1 arg2 harg2 arg3 harg3 arg4 harg4 arg5 harg5 arg6 harg6 arg7 harg7 arg8 harg8 arg9 harg9 arg10 harg10 arg11 harg11 arg14 harg14 arg15 harg15 arg16 harg16 arg17 harg17 hc0 hc1 x0 x1 x2 x3 x4 x5 x6 x7 xo9 xo10 xs2 xs3 fw0 fw1 = fw1 := by
  unfold hbw0_B_1 kernelRun0_B
  rfl

theorem hb1_A (hc0 : cond0_0 i) (hc1 : ¬cond0_1 i) :
    hbw0_A_1 (F := Ideal) c i arg1 harg1 arg2 harg2 arg3 harg3 arg4 harg4 arg5 harg5 arg6 harg6 arg7 harg7 arg8 harg8 arg9 harg9 arg10 harg10 arg11 harg11 arg14 harg14 arg15 harg15 arg16 harg16 arg17 harg17 hc0 hc1 x0 x1 x2 x3 x4 x5 x6 x7 fw0 fw1 = fw1 := by
  unfold hbw0_A_1 kernelRun0_A
  rfl

end Points

end Cert.Ffn
-- ==== Proof.Sums.lean ====
/- A running sum over the points of a grid: a buffer that each point reads and adds to. -/
module

public import Idealize.ShloMosaic.Lib.Pointwise

@[expose] public section

noncomputable section

open Idealize.ShloMosaic

namespace Cert.Sums

variable {I : Type} {N : ℕ}

/-- A step from nothing and a step over a sum differ by the sum. -/
def Steps (f : (I → EReal) → I → EReal) : Prop := ∀ a y, f a y = a y + f (fun _ => 0) y

/-- The sum over the points up to `n`. -/
def upTo (f : Fin N → (I → EReal) → I → EReal) (n : ℕ) (h : n < N) : I → EReal :=
  fun y => ∑ t : Fin (n + 1), f ⟨t.val, by omega⟩ (fun _ => 0) y

theorem upTo_zero (f : Fin N → (I → EReal) → I → EReal) (h : 0 < N) : f ⟨0, h⟩ (fun _ => 0) = upTo f 0 h := by
  funext y
  exact (Fin.sum_univ_one (fun t : Fin 1 => f ⟨t.val, by omega⟩ (fun _ => 0) y)).symm

theorem upTo_succ (f : Fin N → (I → EReal) → I → EReal) (hf : ∀ t, Steps (f t)) (n : ℕ) (h : n + 1 < N) :
    f ⟨n + 1, h⟩ (upTo f n (by omega)) = upTo f (n + 1) h := by
  funext y
  rw [hf]
  unfold upTo
  rw [Fin.sum_univ_castSucc (n := n + 1)]
  rfl

/-- A sum over points of sums over the rows of a point is the sum over all rows. -/
theorem sum_rows (P R M : ℕ) (hM : P * R = M) (f : Fin M → EReal) (tok : Fin P → Fin R → Fin M)
    (htok : ∀ t r, (tok t r).val = t.val * R + r.val) : ∑ t : Fin P, ∑ r : Fin R, f (tok t r) = ∑ T : Fin M, f T := by
  subst hM
  rw [← Equiv.sum_comp (finProdFinEquiv : Fin P × Fin R ≃ Fin (P * R)) f, Fintype.sum_prod_type]
  refine Finset.sum_congr rfl fun t _ => Finset.sum_congr rfl fun r _ => congrArg f (Fin.ext ?_)
  rw [htok, finProdFinEquiv_apply_val, Nat.mul_comm, Nat.add_comm]

end Cert.Sums
-- ==== Proof.FfnAcc.lean ====
/- What the buffers of the feed-forward kernel hold after each grid point, and the blocks of the arrays a point reads. -/
module

public import proofs.«01_k».proof.Proof.FfnFirst
public import proofs.«01_k».proof.Proof.FfnLast
public import proofs.«01_k».proof.Proof.Sums
public import Idealize.ShloMosaic.Lib.Pipeline.ValueKit

@[expose] public section

set_option maxRecDepth 16384

noncomputable section

open Idealize.ShloMosaic Idealize.ShloMosaic.TcCoe Idealize.SL.Sem

namespace Cert.Ffn

open Cert.Kernel2Ideal Cert.Kernel2Ideal.Gen Cert.Sums

variable (m : (ℓ : Loc nD τ sig) → Buf (Elt Ideal) ℓ) (c : Dev nD)

/-! ## After each point -/

section Run

variable (t : Fin cfg0.N)

/-! The blocks a point reads. -/

abbrev X0 : Vec Ideal S256x1024 .f32 := iblk m c 0 t
abbrev X1 : Vec Ideal S256x2816 .bf16 := iblk m c 1 t
abbrev X2 : Vec Ideal S256x2816 .bf16 := iblk m c 2 t
abbrev X3 : Vec Ideal S256x1024 .f32 := iblk m c 3 t
abbrev X4 : Vec Ideal S2816x1024 .bf16 := iblk m c 4 t
abbrev X5 : Vec Ideal S2816x1024 .bf16 := iblk m c 5 t
abbrev X6 : Vec Ideal S2816x1024 .bf16 := iblk m c 6 t
abbrev X7 : Vec Ideal S1x1024 .f32 := iblk m c 7 t

def ptDx (t : Fin cfg0.N) : Vec Ideal S256x1024 .f32 :=
  dx (X0 m c t) (X1 m c t) (X2 m c t) (X3 m c t) (X4 m c t) (X5 m c t) (X6 m c t) (X7 m c t)
def ptDg (t : Fin cfg0.N) (a : S1x1024.Idx → EReal) : S1x1024.Idx → EReal :=
  dgStep (X0 m c t) (X1 m c t) (X2 m c t) (X3 m c t) (X4 m c t) (X5 m c t) (X6 m c t) a
def ptDb (t : Fin cfg0.N) (a : S1x1024.Idx → EReal) : S1x1024.Idx → EReal :=
  dbStep (X0 m c t) (X1 m c t) (X2 m c t) (X3 m c t) (X4 m c t) (X5 m c t) (X6 m c t) (X7 m c t) a
def ptDwg (t : Fin cfg0.N) (a : S2816x1024.Idx → EReal) : S2816x1024.Idx → EReal :=
  dwgStep (X0 m c t) (X1 m c t) (X2 m c t) (X3 m c t) (X4 m c t) (X7 m c t) a
def ptDwu (t : Fin cfg0.N) (a : S2816x1024.Idx → EReal) : S2816x1024.Idx → EReal :=
  dwuStep (X0 m c t) (X1 m c t) (X3 m c t) (X4 m c t) (X7 m c t) a

theorem dg_steps (t : Fin cfg0.N) : Steps (ptDg m c t) := fun a y => by simp only [ptDg, dgStep, zero_add]
theorem db_steps (t : Fin cfg0.N) : Steps (ptDb m c t) := fun a y => by simp only [ptDb, dbStep, zero_add]
theorem dwg_steps (t : Fin cfg0.N) : Steps (ptDwg m c t) := fun a y => by simp only [ptDwg, dwgStep, zero_add]
theorem dwu_steps (t : Fin cfg0.N) : Steps (ptDwu m c t) := fun a y => by simp only [ptDwu, dwuStep, zero_add]

/-- A point that is neither the first nor the last. -/
def t1 : Fin cfg0.N := ⟨1, by rw [show cfg0.N = 32 from N_0]; omega⟩

theorem mid0 : ¬cond0_0 (grid0.coords t1) := fun h => absurd ((hcond0_0 t1).mp h) (by decide)
theorem mid1 : ¬cond0_1 (grid0.coords t1) := fun h => absurd ((hcond0_1 t1).mp h) (by decide)

/-- What the outputs and the two running sums hold after point `n`. -/
structure After (n : ℕ) (h : n < cfg0.N) : Prop where
  x : (outsAt0 m c n h).1 = ptDx m c ⟨n, h⟩
  g : (outsAt0 m c n h).2.1 = upTo (ptDg m c) n h
  b : (outsAt0 m c n h).2.2.1 = upTo (ptDb m c) n h
  wg : (outsAt0 m c n h).2.2.2.1 = upTo (ptDwg m c) n h
  wu : (outsAt0 m c n h).2.2.2.2.1 = upTo (ptDwu m c) n h

theorem after_first (h : 0 < cfg0.N) : After m c 0 h := by
  have h1 : ¬(⟨0, h⟩ : Fin cfg0.N).val % 32 = 31 := by dsimp only; omega
  have e := outsAt0_A m c ⟨0, h⟩ rfl h1
  rw [dx_A, dg_A, db_A, dwg_A, dwu_A] at e
  exact ⟨(congrArg (·.1) e).trans rfl, (congrArg (·.2.1) e).trans (upTo_zero (ptDg m c) h), (congrArg (·.2.2.1) e).trans (upTo_zero (ptDb m c) h),
    (congrArg (·.2.2.2.1) e).trans (upTo_zero (ptDwg m c) h), (congrArg (·.2.2.2.2.1) e).trans (upTo_zero (ptDwu m c) h)⟩

theorem after_middle (n : ℕ) (h : n + 1 < cfg0.N) (h1 : ¬(⟨n + 1, h⟩ : Fin cfg0.N).val % 32 = 31) (ih : After m c n (by omega)) :
    After m c (n + 1) h := by
  have hN : cfg0.N = 32 := N_0
  have h0 : ¬(⟨n + 1, h⟩ : Fin cfg0.N).val % 32 = 0 := by dsimp only; omega
  have e := outsAt0_B m c ⟨n + 1, h⟩ h0 h1
  rw [dx_B, dg_B, db_B, dwg_B, dwu_B] at e
  simp only [Nat.add_sub_cancel, ih.g, ih.b, ih.wg, ih.wu] at e
  exact ⟨(congrArg (·.1) e).trans rfl, (congrArg (·.2.1) e).trans (upTo_succ _ (dg_steps m c) n h), (congrArg (·.2.2.1) e).trans (upTo_succ _ (db_steps m c) n h),
    (congrArg (·.2.2.2.1) e).trans (upTo_succ _ (dwg_steps m c) n h), (congrArg (·.2.2.2.2.1) e).trans (upTo_succ _ (dwu_steps m c) n h)⟩

theorem after_last (n : ℕ) (h : n + 1 < cfg0.N) (h1 : (⟨n + 1, h⟩ : Fin cfg0.N).val % 32 = 31) (ih : After m c n (by omega)) :
    After m c (n + 1) h := by
  have h0 : ¬(⟨n + 1, h⟩ : Fin cfg0.N).val % 32 = 0 := by omega
  have e := outsAt0_C m c ⟨n + 1, h⟩ h0 h1
  rw [dx_C (i' := grid0.coords t1) (hb0 := mid0) (hb1 := mid1), dg_C (i' := grid0.coords t1) (hb0 := mid0) (hb1 := mid1),
    db_C (i' := grid0.coords t1) (hb0 := mid0) (hb1 := mid1), dwg_C (i' := grid0.coords t1) (hb0 := mid0) (hb1 := mid1),
    dwu_C (i' := grid0.coords t1) (hb0 := mid0) (hb1 := mid1), dx_B, dg_B, db_B, dwg_B, dwu_B] at e
  simp only [Nat.add_sub_cancel, ih.g, ih.b, ih.wg, ih.wu] at e
  exact ⟨(congrArg (·.1) e).trans rfl, (congrArg (·.2.1) e).trans (upTo_succ _ (dg_steps m c) n h), (congrArg (·.2.2.1) e).trans (upTo_succ _ (db_steps m c) n h),
    (congrArg (·.2.2.2.1) e).trans (upTo_succ _ (dwg_steps m c) n h), (congrArg (·.2.2.2.2.1) e).trans (upTo_succ _ (dwu_steps m c) n h)⟩

theorem after : ∀ (n : ℕ) (h : n < cfg0.N), After m c n h
  | 0, h => after_first m c h
  | n + 1, h =>
    if h1 : (⟨n + 1, h⟩ : Fin cfg0.N).val % 32 = 31 then after_last m c n h h1 (after n (by omega))
    else after_middle m c n h h1 (after n (by omega))

/-- The last point copies the two running sums out. -/
theorem copied (h : 31 < cfg0.N) :
    (outsAt0 m c 31 h).2.2.2.2.2.1 = (outsAt0 m c 31 h).2.2.2.1 ∧ (outsAt0 m c 31 h).2.2.2.2.2.2 = (outsAt0 m c 31 h).2.2.2.2.1 := by
  have h0 : ¬(⟨31, h⟩ : Fin cfg0.N).val % 32 = 0 := by dsimp only; omega
  have e := outsAt0_C m c ⟨31, h⟩ h0 rfl
  rw [hb0_C, hb1_C] at e
  rw [show outsAt0 m c 31 h = _ from e]
  exact ⟨rfl, rfl⟩

end Run

/-! ## The blocks within the arrays -/

/-- The token at row `r` of point `t`. -/
def tok (t : Fin cfg0.N) (r : Fin 256) : Fin 8192 := ⟨t.val * 256 + r.val, by have h : t.val < 32 := lt_of_lt_of_eq t.isLt N_0; omega⟩

theorem index_rows : ∀ t : Fin grid0.N, win0_0.index t = ![t.val, 0] ∧ win0_1.index t = ![t.val, 0]
    ∧ win0_2.index t = ![t.val, 0] ∧ win0_3.index t = ![t.val, 0] ∧ win0_8.index t = ![t.val, 0]
    ∧ win0_4.index t = ![0, 0] ∧ win0_5.index t = ![0, 0] ∧ win0_6.index t = ![0, 0] ∧ win0_7.index t = ![0, 0] := by
  decide +kernel

variable (t : Fin cfg0.N)

theorem X0_apply (r : Fin 256) (k : Fin 1024) : X0 m c t (ix2 r k) = V m c main_arg0 (ix2 (tok t r) k) := by
  show iblk m c 0 t _ = _
  blk_ext [iblk, index_rows t, tok]

theorem X1_apply (r : Fin 256) (k : Fin 2816) : X1 m c t (ix2 r k) = V m c main_v16 (ix2 (tok t r) k) := by
  show iblk m c 1 t _ = _
  blk_ext [iblk, index_rows t, tok]

theorem X2_apply (r : Fin 256) (k : Fin 2816) : X2 m c t (ix2 r k) = V m c main_v17 (ix2 (tok t r) k) := by
  show iblk m c 2 t _ = _
  blk_ext [iblk, index_rows t, tok]

theorem X3_apply (r : Fin 256) (k : Fin 1024) : X3 m c t (ix2 r k) = V m c main_v1 (ix2 (tok t r) k) := by
  show iblk m c 3 t _ = _
  blk_ext [iblk, index_rows t, tok]

theorem X4_apply (k : Fin 2816) (j : Fin 1024) : X4 m c t (ix2 k j) = V m c main_v18 (ix2 k j) := by
  show iblk m c 4 t _ = _
  blk_ext [iblk, index_rows t]

theorem X5_apply (k : Fin 2816) (j : Fin 1024) : X5 m c t (ix2 k j) = V m c main_v20 (ix2 k j) := by
  show iblk m c 5 t _ = _
  blk_ext [iblk, index_rows t]

theorem X6_apply (k : Fin 2816) (j : Fin 1024) : X6 m c t (ix2 k j) = V m c main_v22 (ix2 k j) := by
  show iblk m c 6 t _ = _
  blk_ext [iblk, index_rows t]

theorem X7_apply (j : Fin 1024) : X7 m c t (ix2 0 j) = V m c main_arg3 (ix2 0 j) := by
  show iblk m c 7 t _ = _
  blk_ext [iblk, index_rows t]

end Cert.Ffn
-- ==== Proof.FfnFormulas.lean ====
/- The results of the feed-forward call as formulas of whole arrays: for each of the 8192 tokens `T`, the 2816 hidden
   columns `k` and the 1024 model columns `j`. -/
module

public import proofs.«01_k».proof.Proof.Rms
public import proofs.«01_k».proof.Proof.Gen.Kernel2Ideal.Frame

@[expose] public section

noncomputable section

open Idealize.ShloMosaic Idealize.ShloMosaic.TcCoe Idealize.SL.Sem

namespace Cert.Ffn

open Cert.Kernel2Ideal

variable (ct : S8192x1024.Idx → EReal) (gate up : S8192x2816.Idx → EReal) (x : S8192x1024.Idx → EReal)
  (wd wg wu : S2816x1024.Idx → EReal) (g : S1x1024.Idx → EReal)

/-- The row of a token. -/
def gRow (T : Fin 8192) (j : Fin 1024) : EReal := x (ix2 T j)

/-- The gradient of the activation. -/
def gDact (T : Fin 8192) (k : Fin 2816) : EReal := ∑ j : Fin 1024, ct (ix2 T j) * wd (ix2 k j)

/-- The gradient of the up projection. -/
def gDup (T : Fin 8192) (k : Fin 2816) : EReal := gDact ct wd T k * (gate (ix2 T k) * Ideal.logistic (gate (ix2 T k)))

/-- The gradient of the gate. -/
def gDgate (T : Fin 8192) (k : Fin 2816) : EReal :=
  gDact ct wd T k * up (ix2 T k) * (Ideal.logistic (gate (ix2 T k))
    + gate (ix2 T k) * Ideal.logistic (gate (ix2 T k)) * (Ideal.ofBits .f32 0x3F800000#32 - Ideal.logistic (gate (ix2 T k))))

/-- The gradient of the normalized and scaled row. -/
def gDh (T : Fin 8192) (j : Fin 1024) : EReal :=
  ∑ k : Fin 2816, gDgate ct gate up wd T k * wg (ix2 k j) + ∑ k : Fin 2816, gDup ct gate wd T k * wu (ix2 k j)

/-- The gradient of the input. -/
def gDx (T : Fin 8192) (j : Fin 1024) : EReal :=
  ct (ix2 T j) + Rms.back (gRow x T) (fun k => g (ix2 0 k)) (gDh ct gate up wd wg wu T) j

def outDx : S8192x1024.Idx → EReal := fun y => gDx ct gate up x wd wg wu g (y 0) (y 1)

/-- The gradient of the scale. -/
def outDg : S1x1024.Idx → EReal := fun y => ∑ T, gDh ct gate up wd wg wu T (y 1) * Rms.norm (gRow x T) (y 1)

/-- The gradient of the bias. -/
def outDb : S1x1024.Idx → EReal := fun y => ∑ T, gDx ct gate up x wd wg wu g T (y 1)

/-- The gradient of the transposed gate weights. -/
def outDwg : S2816x1024.Idx → EReal := fun y => ∑ T, gDgate ct gate up wd T (y 0) * (Rms.norm (gRow x T) (y 1) * g (ix2 0 (y 1)))

/-- The gradient of the transposed up weights. -/
def outDwu : S2816x1024.Idx → EReal := fun y => ∑ T, gDup ct gate wd T (y 0) * (Rms.norm (gRow x T) (y 1) * g (ix2 0 (y 1)))

end Cert.Ffn
-- ==== Proof.FfnArrays.lean ====
/- The five arrays the feed-forward kernel leaves, as formulas of the arrays it reads. -/
module

public import proofs.«01_k».proof.Proof.FfnAcc
public import proofs.«01_k».proof.Proof.FfnFormulas

@[expose] public section

set_option maxRecDepth 16384

noncomputable section

open Idealize.ShloMosaic Idealize.ShloMosaic.TcCoe Idealize.SL.Sem

namespace Cert.Ffn

open Cert.Kernel2Ideal Cert.Kernel2Ideal.Gen Cert.Sums

variable (m : (ℓ : Loc nD τ sig) → Buf (Elt Ideal) ℓ) (c : Dev nD)

/-! The arrays the kernel reads. -/

abbrev A0 : S8192x1024.Idx → EReal := V m c main_arg0
abbrev A1 : S8192x2816.Idx → EReal := V m c main_v16
abbrev A2 : S8192x2816.Idx → EReal := V m c main_v17
abbrev A3 : S8192x1024.Idx → EReal := V m c main_v1
abbrev A4 : S2816x1024.Idx → EReal := V m c main_v18
abbrev A5 : S2816x1024.Idx → EReal := V m c main_v20
abbrev A6 : S2816x1024.Idx → EReal := V m c main_v22
abbrev A7 : S1x1024.Idx → EReal := V m c main_arg3

/-! ## A point's formulas are the arrays' -/

section Point

variable (t : Fin cfg0.N) (r : Fin 256)

theorem dact_eq (k : Fin 2816) : dact (X0 m c t) (X4 m c t) r k = gDact (A0 m c) (A4 m c) (tok t r) k := by
  simp only [dact, gDact, X0_apply, X4_apply]

theorem dup_eq (k : Fin 2816) : dup (X0 m c t) (X1 m c t) (X4 m c t) (ix2 r k) = gDup (A0 m c) (A1 m c) (A4 m c) (tok t r) k := by
  refine (show _ = dact (X0 m c t) (X4 m c t) r k * (X1 m c t (ix2 r k) * Ideal.logistic (X1 m c t (ix2 r k))) from rfl).trans ?_
  rw [dact_eq, X1_apply, gDup]

theorem dgate_eq (k : Fin 2816) : dgate (X0 m c t) (X1 m c t) (X2 m c t) (X4 m c t) (ix2 r k)
    = gDgate (A0 m c) (A1 m c) (A2 m c) (A4 m c) (tok t r) k := by
  refine (show _ = dact (X0 m c t) (X4 m c t) r k * X2 m c t (ix2 r k) * (Ideal.logistic (X1 m c t (ix2 r k))
    + X1 m c t (ix2 r k) * Ideal.logistic (X1 m c t (ix2 r k)) * (Ideal.ofBits .f32 0x3F800000#32 - Ideal.logistic (X1 m c t (ix2 r k))))
    from rfl).trans ?_
  rw [dact_eq, X1_apply, X2_apply, gDgate]

theorem row_eq : row (X3 m c t) r = gRow (A3 m c) (tok t r) := by
  funext j
  exact X3_apply m c t r j

theorem scale_eq : (fun k => X7 m c t (ix2 0 k)) = fun k => A7 m c (ix2 0 k) := funext fun k => X7_apply m c t k

theorem dh_eq : dh (X0 m c t) (X1 m c t) (X2 m c t) (X4 m c t) (X5 m c t) (X6 m c t) r
    = gDh (A0 m c) (A1 m c) (A2 m c) (A4 m c) (A5 m c) (A6 m c) (tok t r) := by
  funext j
  simp only [dh, gDh, dgate_eq, dup_eq, X5_apply, X6_apply]

theorem dx_eq (j : Fin 1024) : ptDx m c t (ix2 r j)
    = gDx (A0 m c) (A1 m c) (A2 m c) (A3 m c) (A4 m c) (A5 m c) (A6 m c) (A7 m c) (tok t r) j := by
  refine (show _ = X0 m c t (ix2 r j) + Rms.back (row (X3 m c t) r) (fun k => X7 m c t (ix2 0 k))
    (dh (X0 m c t) (X1 m c t) (X2 m c t) (X4 m c t) (X5 m c t) (X6 m c t) r) j from rfl).trans ?_
  rw [row_eq, dh_eq, scale_eq, X0_apply, gDx]

end Point

theorem lt31 : 31 < cfg0.N := by rw [show cfg0.N = 32 from N_0]; omega

theorem sum_tokens (f : Fin 8192 → EReal) : ∑ t : Fin (31 + 1), ∑ r : Fin 256, f (tok ⟨t.val, by have := lt31; omega⟩ r) = ∑ T : Fin 8192, f T :=
  sum_rows 32 256 8192 (by norm_num) f (fun t r => tok ⟨t.val, by have := lt31; omega⟩ r) fun _ _ => rfl

theorem upTo_g : upTo (ptDg m c) 31 lt31 = outDg (A0 m c) (A1 m c) (A2 m c) (A3 m c) (A4 m c) (A5 m c) (A6 m c) := by
  funext y
  refine Eq.trans ?_ (sum_tokens _)
  exact Finset.sum_congr rfl fun t _ => (zero_add _).trans (Finset.sum_congr rfl fun r _ => by rw [dh_eq, row_eq])

theorem upTo_b : upTo (ptDb m c) 31 lt31 = outDb (A0 m c) (A1 m c) (A2 m c) (A3 m c) (A4 m c) (A5 m c) (A6 m c) (A7 m c) := by
  funext y
  refine Eq.trans ?_ (sum_tokens _)
  exact Finset.sum_congr rfl fun t _ => (zero_add _).trans (Finset.sum_congr rfl fun r _ => dx_eq m c _ r (y 1))

theorem upTo_wg : upTo (ptDwg m c) 31 lt31 = outDwg (A0 m c) (A1 m c) (A2 m c) (A3 m c) (A4 m c) (A7 m c) := by
  funext y
  refine Eq.trans ?_ (sum_tokens _)
  exact Finset.sum_congr rfl fun t _ => (zero_add _).trans (Finset.sum_congr rfl fun r _ =>
    congrArg₂ (· * ·) (dgate_eq m c _ r (y 0)) (congrArg₂ (· * ·) (by rw [row_eq]) (X7_apply m c _ (y 1))))

theorem upTo_wu : upTo (ptDwu m c) 31 lt31 = outDwu (A0 m c) (A1 m c) (A3 m c) (A4 m c) (A7 m c) := by
  funext y
  refine Eq.trans ?_ (sum_tokens _)
  exact Finset.sum_congr rfl fun t _ => (zero_add _).trans (Finset.sum_congr rfl fun r _ =>
    congrArg₂ (· * ·) (dup_eq m c _ r (y 0)) (congrArg₂ (· * ·) (by rw [row_eq]) (X7_apply m c _ (y 1))))

/-! ## The arrays -/

theorem place8 (t : Fin cfg0.N) (y : S256x1024.Idx) : (win0_8.blk t).view.emb y = ix2 (tok t (y 0)) (y 1) := by
  blk_ext [index_rows t, tok]

theorem final8 : (dats m 0 c).arrAt 8 cfg0.N = outDx (A0 m c) (A1 m c) (A2 m c) (A3 m c) (A4 m c) (A5 m c) (A6 m c) (A7 m c) := by
  refine (dats m 0 c).arrAt_eq_of_covers 8 _ (by decide +kernel) fun t hf y => ?_
  blk_simp
  rw [after0_8, (after m c t.val t.isLt).x]
  refine Eq.trans ?_ (congrArg (outDx (A0 m c) (A1 m c) (A2 m c) (A3 m c) (A4 m c) (A5 m c) (A6 m c) (A7 m c)) (place8 t y)).symm
  idx_vars y
  exact dx_eq m c t _ _

/-- The last point. -/
def tl : Fin cfg0.N := ⟨31, lt31⟩

theorem final9 : (dats m 0 c).arrAt 9 cfg0.N = outDg (A0 m c) (A1 m c) (A2 m c) (A3 m c) (A4 m c) (A5 m c) (A6 m c) := by
  refine (dats m 0 c).arrAt_eq_of_after_last 9 tl (by decide +kernel) _ fun j => ?_
  blk_simp
  rw [after0_9, (after m c _ _).g]
  exact congrFun (upTo_g m c) j

theorem final10 : (dats m 0 c).arrAt 10 cfg0.N = outDb (A0 m c) (A1 m c) (A2 m c) (A3 m c) (A4 m c) (A5 m c) (A6 m c) (A7 m c) := by
  refine (dats m 0 c).arrAt_eq_of_after_last 10 tl (by decide +kernel) _ fun j => ?_
  blk_simp
  rw [after0_10, (after m c _ _).b]
  exact congrFun (upTo_b m c) j

theorem last_val : (Fin.last cfg0.N).val - 1 = 31 := by rw [Fin.val_last, show cfg0.N = 32 from N_0]

theorem finalG : hbG0 m c main_v23_3 = outDwg (A0 m c) (A1 m c) (A2 m c) (A3 m c) (A4 m c) (A7 m c) := by
  rw [hbG0_0]
  refine Eq.trans ?_ (upTo_wg m c)
  refine Eq.trans ?_ (after m c 31 lt31).wg
  refine Eq.trans ?_ (copied m c lt31).1
  congr! 6

theorem finalU : hbG0 m c main_v23_4 = outDwu (A0 m c) (A1 m c) (A3 m c) (A4 m c) (A7 m c) := by
  rw [hbG0_1]
  refine Eq.trans ?_ (upTo_wu m c)
  refine Eq.trans ?_ (after m c 31 lt31).wu
  refine Eq.trans ?_ (copied m c lt31).2
  congr! 6

end Cert.Ffn
-- ==== Proof.RmsReal.lean ====
/- The constants of the normalization as real numbers, the scale of a row with a real mean square, and the gradient of a row as
   automatic differentiation writes it. -/
module

public import proofs.«01_k».proof.Proof.Rms
public import proofs.«01_k».proof.Proof.Finite

@[expose] public section

noncomputable section

open Idealize.ShloMosaic

namespace Cert.Rms

/-! ## The constants -/

theorem width_eq : width = ((1024 : ℝ) : EReal) := by
  simp [width, Ideal.ofBits, Ideal.ieee, -EReal.coe_mul, -EReal.coe_neg]; norm_num

theorem eps_pos : ∃ e : ℝ, 0 < e ∧ eps = (e : EReal) := by
  refine ⟨10995116 / 2 ^ 40, by norm_num, ?_⟩
  simp [eps, Ideal.ofBits, Ideal.ieee, -EReal.coe_mul, -EReal.coe_neg]; norm_num

/-- Minus a half. -/
def mhalf : EReal := Ideal.ofBits .f32 0xBF000000#32

theorem mhalf_eq : mhalf = ((-(1 / 2) : ℝ) : EReal) := by
  simp [mhalf, Ideal.ofBits, Ideal.ieee, -EReal.coe_mul, -EReal.coe_neg]; norm_num

/-- The printed one. -/
def one : EReal := Ideal.ofBits .f32 0x3F800000#32

theorem ofBits_one : Ideal.ofBits .f32 0x3F800000#32 = 1 := by
  rw [show (1 : EReal) = ((1 : ℝ) : EReal) by norm_cast]
  simp [Ideal.ofBits, Ideal.ieee, -EReal.coe_mul]; norm_num

theorem one_eq : one = ((1 : ℝ) : EReal) := by
  rw [one, show ((1 : ℝ) : EReal) = 1 from rfl]
  exact ofBits_one

/-! ## A row -/

section Row

variable (x : Fin 1024 → EReal)

/-- What is under the root. -/
def under : EReal := Ideal.div (∑ k, x k * x k) width + eps

variable {x}

theorem scale_of_under {s : ℝ} (hs : 0 < s) (h : under x = (s : EReal)) : scale x = (((Real.sqrt s)⁻¹ : ℝ) : EReal) := by
  show Ideal.rsqrt (under x) = _
  rw [h]
  show (if s < 0 then ⊥ else if s = 0 then ⊤ else (((Real.sqrt s)⁻¹ : ℝ) : EReal)) = _
  rw [if_neg (by linarith), if_neg (ne_of_gt hs)]

/-- The gradient of a row from the gradient `a` of its normalization, in the steps of automatic differentiation: the two
    terms of the square's derivative one after the other. -/
def steps (x a : Fin 1024 → EReal) (ct : EReal) (j : Fin 1024) : EReal :=
  ct + a j * scale x + x j * Ideal.div ((∑ k, x k * a k) * (mhalf * Ideal.div (scale x) (under x))) width
    + Ideal.div ((∑ k, x k * a k) * (mhalf * Ideal.div (scale x) (under x))) width * x j

end Row

end Cert.Rms
-- ==== Proof.FfnRefAt.lean ====
/- The entries of the feed-forward reference, operation by operation. -/
module

public import proofs.«01_k».proof.Proof.FfnFormulas
public import proofs.«01_k».proof.Proof.RmsReal
public import proofs.«01_k».proof.Proof.Gen.Reference2Ideal.Read

@[expose] public section

set_option maxRecDepth 16384

noncomputable section

open Idealize.ShloMosaic Idealize.ShloMosaic.TcCoe Idealize.SL.Sem

namespace Cert.Ffn.Ref

open Cert.Reference2Ideal Cert.Reference2Ideal.Gen Cert.Reference2Ideal.Read

variable (x0 x1 : FVec Ideal S8192x1024 .f32) (x2 x3 : FVec Ideal S1x1024 .f32) (x4 x5 : FVec Ideal S1024x2816 .f32)
  (x6 : FVec Ideal S2816x1024 .f32)

/-! ## The arrays -/

/-- The call's input: the branch's result with its bias. -/
abbrev xs : FVec Ideal S8192x1024 .f32 := val_main_v1 (F := Ideal) x1 x2

/-- The gate, and the up projection. -/
abbrev gate : FVec Ideal S8192x2816 .f32 := val_main_v17 (F := Ideal) x1 x2 x3 x4
abbrev up : FVec Ideal S8192x2816 .f32 := val_main_v19 (F := Ideal) x1 x2 x3 x5

/-- A weight matrix the other way round. -/
def flip (w : FVec Ideal S1024x2816 .f32) : S2816x1024.Idx → EReal := fun y => w (ix2 (y 1) (y 0))

/-! ## The normalization -/

theorem sum_at (T : Fin 8192) : val_main_v3 (F := Ideal) x1 x2 (ix1 T) = ∑ k, gRow (xs x1 x2) T k * gRow (xs x1 x2) T k := by
  unfold gRow xs
  pointwise [val_main_v3, val_main_v2, val_main_cst]

theorem under_at (T : Fin 8192) : val_main_v8 (F := Ideal) x1 x2 (ix2 T 0) = Rms.under (gRow (xs x1 x2) T) := by
  unfold Rms.under Rms.width Rms.eps
  rw [← sum_at]
  pointwise [val_main_v8, val_main_v7, val_main_cst_1, val_main_v6, val_main_v5, val_main_cst_0, val_main_v4]

theorem scale_at (T : Fin 8192) : val_main_v9 (F := Ideal) x1 x2 (ix2 T 0) = Rms.scale (gRow (xs x1 x2) T) :=
  congrArg Ideal.rsqrt (under_at x1 x2 T)

theorem norm_at (T : Fin 8192) (j : Fin 1024) : val_main_v14 (F := Ideal) x1 x2 (ix2 T j) = Rms.norm (gRow (xs x1 x2) T) j := by
  unfold Rms.norm
  rw [← scale_at]
  pointwise [val_main_v14, val_main_v13]
  rfl

theorem h_at (T : Fin 8192) (j : Fin 1024) :
    val_main_v16 (F := Ideal) x1 x2 x3 (ix2 T j) = Rms.norm (gRow (xs x1 x2) T) j * x3 (ix2 0 j) := by
  rw [← norm_at]
  pointwise [val_main_v16, val_main_v15]

/-! ## The hidden columns -/

theorem act_at (T : Fin 8192) (k : Fin 2816) :
    val_main_v18_2 (F := Ideal) x1 x2 x3 x4 (ix2 T k) = Ideal.logistic (gate x1 x2 x3 x4 (ix2 T k)) := by
  unfold Ideal.logistic
  rw [← Rms.ofBits_one]
  pointwise [val_main_v18_2, val_main_call0_v4, val_main_call0_cst_0, val_main_call0_v3, val_main_call0_v2, val_main_call0_cst, val_main_call0_v1,
    val_main_call0_v0]

theorem dact_at (T : Fin 8192) (k : Fin 2816) : val_main_v25 (F := Ideal) x0 x6 (ix2 T k) = gDact x0 x6 T k := by
  unfold gDact
  pointwise [val_main_v25, val_main_v24]

theorem dup_at (T : Fin 8192) (k : Fin 2816) :
    val_main_v26 (F := Ideal) x0 x1 x2 x3 x4 x6 (ix2 T k) = gDup x0 (gate x1 x2 x3 x4) x6 T k := by
  unfold gDup
  rw [← dact_at, ← act_at]
  exact mul_comm _ _

/-- The gradient of the gate as automatic differentiation writes it. -/
theorem dgate_raw (T : Fin 8192) (k : Fin 2816) : val_main_v31 (F := Ideal) x0 x1 x2 x3 x4 x5 x6 (ix2 T k)
    = gDact x0 x6 T k * up x1 x2 x3 x5 (ix2 T k) * Ideal.logistic (gate x1 x2 x3 x4 (ix2 T k))
      + gate x1 x2 x3 x4 (ix2 T k) * (gDact x0 x6 T k * up x1 x2 x3 x5 (ix2 T k))
        * (Ideal.logistic (gate x1 x2 x3 x4 (ix2 T k))
          * (Ideal.ofBits .f32 0x3F800000#32 - Ideal.logistic (gate x1 x2 x3 x4 (ix2 T k)))) := by
  rw [← dact_at, ← act_at]
  pointwise [val_main_v31, val_main_call1_v1, val_main_call1_v2, val_main_call1_v0, val_main_v27, val_main_v18_1, val_main_call0_v7, val_main_call0_v6,
    val_main_call0_cst_1]

/-! ## The sums over hidden columns and over tokens -/

theorem dh_at (T : Fin 8192) (j : Fin 1024) : val_main_v35 (F := Ideal) x0 x1 x2 x3 x4 x5 x6 (ix2 T j)
    = ∑ k : Fin 2816, val_main_v31 (F := Ideal) x0 x1 x2 x3 x4 x5 x6 (ix2 T k) * flip x4 (ix2 k j)
      + ∑ k : Fin 2816, gDup x0 (gate x1 x2 x3 x4) x6 T k * flip x5 (ix2 k j) := by
  refine Eq.trans ?_ (add_comm _ _)
  simp only [← dup_at]
  unfold flip
  pointwise [val_main_v35, val_main_v30, val_main_v34]

theorem dwg_at (k : Fin 2816) (j : Fin 1024) : val_main_v58 (F := Ideal) x0 x1 x2 x3 x4 x5 x6 (ix2 k j)
    = ∑ T : Fin 8192, val_main_v31 (F := Ideal) x0 x1 x2 x3 x4 x5 x6 (ix2 T k) * (Rms.norm (gRow (xs x1 x2) T) j * x3 (ix2 0 j)) := by
  simp only [← h_at]
  pointwise [val_main_v58, val_main_v33, val_main_v32]

theorem dwu_at (k : Fin 2816) (j : Fin 1024) : val_main_v59 (F := Ideal) x0 x1 x2 x3 x4 x6 (ix2 k j)
    = ∑ T : Fin 8192, gDup x0 (gate x1 x2 x3 x4) x6 T k * (Rms.norm (gRow (xs x1 x2) T) j * x3 (ix2 0 j)) := by
  simp only [← h_at, ← dup_at]
  pointwise [val_main_v59, val_main_v29, val_main_v28]

theorem dg_at (j : Fin 1024) : val_main_v38 (F := Ideal) x0 x1 x2 x3 x4 x5 x6 (ix2 0 j)
    = ∑ T : Fin 8192, val_main_v35 (F := Ideal) x0 x1 x2 x3 x4 x5 x6 (ix2 T j) * Rms.norm (gRow (xs x1 x2) T) j := by
  simp only [← norm_at]
  pointwise [val_main_v38, val_main_v37, val_main_v36, val_main_cst_3]
  exact Finset.sum_congr rfl fun T _ => mul_comm _ _

theorem db_at (j : Fin 1024) : val_main_v57 (F := Ideal) x0 x1 x2 x3 x4 x5 x6 (ix2 0 j)
    = ∑ T : Fin 8192, val_main_v55 (F := Ideal) x0 x1 x2 x3 x4 x5 x6 (ix2 T j) := by
  pointwise [val_main_v57, val_main_v56, val_main_cst_7]

/-! ## The gradient of a row -/

/-- The gradient of the normalized row. -/
def dn (T : Fin 8192) (j : Fin 1024) : EReal := val_main_v35 (F := Ideal) x0 x1 x2 x3 x4 x5 x6 (ix2 T j) * x3 (ix2 0 j)

theorem dn_at (T : Fin 8192) (j : Fin 1024) : val_main_v40 (F := Ideal) x0 x1 x2 x3 x4 x5 x6 (ix2 T j) = dn x0 x1 x2 x3 x4 x5 x6 T j := by
  unfold dn
  pointwise [val_main_v40, val_main_v39]

theorem q_at (T : Fin 8192) : val_main_v50 (F := Ideal) x0 x1 x2 x3 x4 x5 x6 (ix1 T)
    = Ideal.div ((∑ k, gRow (xs x1 x2) T k * dn x0 x1 x2 x3 x4 x5 x6 T k)
      * (Rms.mhalf * Ideal.div (Rms.scale (gRow (xs x1 x2) T)) (Rms.under (gRow (xs x1 x2) T)))) Rms.width := by
  rw [← scale_at, ← under_at]
  simp only [← dn_at]
  unfold gRow xs Rms.mhalf Rms.width
  pointwise [val_main_v50, val_main_v49, val_main_v48, val_main_cst_5, val_main_cst_6, val_main_v47, val_main_v43, val_main_v42, val_main_cst_4,
    val_main_v41, val_main_v12, val_main_v11, val_main_cst_2, val_main_v10]
  simp only [Fin.sum_univ_one]

theorem dx_at (T : Fin 8192) (j : Fin 1024) : val_main_v55 (F := Ideal) x0 x1 x2 x3 x4 x5 x6 (ix2 T j)
    = Rms.steps (gRow (xs x1 x2) T) (dn x0 x1 x2 x3 x4 x5 x6 T) (x0 (ix2 T j)) j := by
  unfold Rms.steps
  rw [← q_at, ← scale_at, ← dn_at]
  unfold gRow xs
  pointwise [val_main_v55, val_main_v54, val_main_v53, val_main_v52, val_main_v51, val_main_v46, val_main_v45, val_main_v44, val_main_v23]

end Cert.Ffn.Ref
-- ==== Proof.RmsAny.lean ====
/- The gradient of a row through its normalization, for rows of any values, the infinite ones among them. -/
module

public import proofs.«01_k».proof.Proof.RmsReal

@[expose] public section

noncomputable section

open Idealize.ShloMosaic

namespace Cert.Rms

/-- A real factor that isn't negative comes out of a sum. -/
theorem sum_mul_left {n : ℕ} {r : ℝ} (hr : 0 ≤ r) (f : Fin n → EReal) : ∑ k, (r : EReal) * f k = r * ∑ k, f k := by
  let φ : EReal →+ EReal :=
    { toFun := fun y => (r : EReal) * y
      map_zero' := mul_zero _
      map_add' := fun y z => EReal.left_distrib_of_nonneg_of_ne_top (by exact_mod_cast hr) (EReal.coe_ne_top _) y z }
  exact (map_sum φ f Finset.univ).symm

theorem square_nonneg (y : EReal) : 0 ≤ y * y := by
  induction y with
  | bot => simp
  | top => simp
  | coe r => exact_mod_cast mul_self_nonneg r

/-- Twice a real multiple is the multiple by twice the number, whatever is multiplied. -/
theorem twice (c : ℝ) (y : EReal) : (c : EReal) * y + c * y = ((2 * c : ℝ) : EReal) * y := by
  have pos : ∀ d : ℝ, 0 ≤ d → (d : EReal) * y + d * y = ((2 * d : ℝ) : EReal) * y := fun d hd => by
    rw [← EReal.right_distrib_of_nonneg (by exact_mod_cast hd) (by exact_mod_cast hd), ← EReal.coe_add, two_mul]
  rcases le_total 0 c with h | h
  · exact pos c h
  · have e := pos (-c) (by linarith)
    induction y with
    | coe r => simp only [← EReal.coe_mul, ← EReal.coe_add]; congr 1; ring
    | top =>
      rcases h.lt_or_eq with h | rfl
      · rw [EReal.coe_mul_top_of_neg h, EReal.coe_mul_top_of_neg (by linarith)]; rfl
      · simp
    | bot =>
      rcases h.lt_or_eq with h | rfl
      · rw [EReal.coe_mul_bot_of_neg h, EReal.coe_mul_bot_of_neg (by linarith)]; rfl
      · simp

variable (x : Fin 1024 → EReal)

/-- What is under the root is positive: a real number, or infinite. -/
theorem under_cases : (∃ s : ℝ, 0 < s ∧ under x = (s : EReal)) ∨ under x = ⊤ := by
  obtain ⟨e, he, e1⟩ := eps_pos
  have h0 : 0 ≤ Ideal.div (∑ k, x k * x k) width := by
    rw [width_eq, Ideal.div_coe (by norm_num)]
    exact mul_nonneg (Finset.sum_nonneg fun k _ => square_nonneg _) (by exact_mod_cast (by norm_num : (0 : ℝ) ≤ 1 / 1024))
  have h : 0 < under x := by
    rw [under, e1]
    exact lt_of_lt_of_le (by exact_mod_cast he) (le_add_of_nonneg_left h0)
  generalize under x = u at h ⊢
  induction u with
  | bot => exact absurd h (by simp)
  | top => exact .inr rfl
  | coe s => exact .inl ⟨s, by exact_mod_cast h, rfl⟩

/-- Every entry of a normalized row is real: a row that holds an infinity has the scale zero. -/
theorem norm_real_any (j : Fin 1024) : IsReal (norm x j) := by
  rcases under_cases x with ⟨s, hs, h⟩ | h
  · rw [norm, scale_of_under hs h]
    refine IsReal.mul ?_ (IsReal.coe _)
    by_contra hn
    have hj : x j * x j = ⊤ := by
      generalize x j = y at hn ⊢
      induction y with
      | bot => simp
      | top => simp
      | coe r => exact absurd (IsReal.coe r) hn
    have hsum : ∑ k, x k * x k = ⊤ :=
      top_le_iff.1 (hj ▸ Finset.single_le_sum (f := fun k => x k * x k) (fun k _ => square_nonneg (x k)) (Finset.mem_univ j))
    obtain ⟨e, _, e1⟩ := eps_pos
    have hu : under x = ⊤ := by
      rw [under, hsum, width_eq, Ideal.div_coe (by norm_num), e1, EReal.top_mul_coe_of_pos (by norm_num), EReal.top_add_coe]
    rw [h] at hu
    exact absurd hu (EReal.coe_ne_top s)
  · rw [norm, show scale x = 0 from congrArg Ideal.rsqrt h, mul_zero]
    exact IsReal.zero

/-- The steps of automatic differentiation and the one formula, for any values. -/
theorem steps_any (g dh : Fin 1024 → EReal) (ct : EReal) (j : Fin 1024) : steps x (fun k => dh k * g k) ct j = ct + back x g dh j := by
  rcases under_cases x with ⟨s, hs, h⟩ | h
  · have hr := scale_of_under hs h
    set r : ℝ := (Real.sqrt s)⁻¹ with hrd
    have hr0 : 0 ≤ r := inv_nonneg.2 (Real.sqrt_nonneg s)
    have hrr : r * r = 1 / s := by
      rw [hrd, ← mul_inv, Real.mul_self_sqrt hs.le, one_div]
    have e2 : ∑ k, dh k * g k * norm x k = (r : EReal) * ∑ k, x k * (dh k * g k) := by
      rw [← sum_mul_left hr0]
      refine Finset.sum_congr rfl fun k _ => ?_
      rw [norm, hr, mul_comm (dh k * g k), mul_comm (x k), mul_assoc]
    simp only [steps, back]
    rw [e2, norm, hr, h, mhalf_eq, width_eq, Ideal.div_coe hs.ne', Ideal.div_coe (by norm_num), Ideal.div_coe (by norm_num)]
    generalize (∑ k, x k * (dh k * g k)) = S
    generalize dh j * g j = a
    have c1 : x j * (S * (((-(1 / 2) : ℝ) : EReal) * ((r : EReal) * ((1 / s : ℝ) : EReal))) * ((1 / 1024 : ℝ) : EReal))
        = ((-(1 / 2) * (r * (1 / s)) * (1 / 1024) : ℝ) : EReal) * (x j * S) := by
      simp only [EReal.coe_mul]
      ac_rfl
    have c2 : x j * (r : EReal) * ((r : EReal) * S * ((1 / 1024 : ℝ) : EReal)) = ((r * r * (1 / 1024) : ℝ) : EReal) * (x j * S) := by
      simp only [EReal.coe_mul]
      ac_rfl
    rw [mul_comm _ (x j), c1, c2, add_assoc, twice, sub_eq_add_neg,
      EReal.left_distrib_of_nonneg_of_ne_top (by exact_mod_cast hr0) (EReal.coe_ne_top _), ← add_assoc, mul_comm a, ← EReal.neg_mul, ← EReal.coe_neg,
      ← mul_assoc (r : EReal), ← EReal.coe_mul]
    congr 3
    rw [← hrr]
    ring
  · have hr : scale x = 0 := congrArg Ideal.rsqrt h
    have e : Ideal.div (0 : EReal) (⊤ : EReal) = 0 := by simp [Ideal.div]
    have e' : Ideal.div (0 : EReal) width = 0 := by
      rw [width_eq, Ideal.div_coe (by norm_num), zero_mul]
    simp only [steps, back, hr, h, e, mul_zero, zero_mul, e', add_zero]

end Cert.Rms
-- ==== Proof.FfnRef.lean ====
/- The feed-forward reference's results as the formulas of whole arrays, where the incoming gradient, the scale, the up weights
   and the down weights are real. -/
module

public import proofs.«01_k».proof.Proof.FfnRefAt
public import proofs.«01_k».proof.Proof.RmsAny

@[expose] public section

set_option maxRecDepth 16384

noncomputable section

open Idealize.ShloMosaic Idealize.ShloMosaic.TcCoe Idealize.SL.Sem

namespace Cert.Ffn.Ref

open Cert.Reference2Ideal Cert.Reference2Ideal.Gen Cert.Reference2Ideal.Read

/-- The two ways of writing the derivative of `x · logistic x` times a number, at any `x`. -/
theorem act_back {d u : EReal} (hd : IsReal d) (hu : IsReal u) (g : EReal) :
    d * u * Ideal.logistic g + g * (d * u) * (Ideal.logistic g * (Ideal.ofBits .f32 0x3F800000#32 - Ideal.logistic g))
      = d * u * (Ideal.logistic g + g * Ideal.logistic g * (Ideal.ofBits .f32 0x3F800000#32 - Ideal.logistic g)) := by
  rw [Rms.ofBits_one]
  induction g with
  | bot => simp
  | top =>
    rw [Ideal.logistic_top, show (1 : EReal) - 1 = 0 by rw [← EReal.coe_one, ← EReal.coe_sub, sub_self, EReal.coe_zero]]
    simp
  | coe g =>
    obtain ⟨d, rfl⟩ := hd
    obtain ⟨u, rfl⟩ := hu
    rw [Ideal.logistic_coe, ← EReal.coe_one]
    simp only [← EReal.coe_add, ← EReal.coe_mul, ← EReal.coe_sub]
    congr 1
    ring

variable {x0 x1 : FVec Ideal S8192x1024 .f32} {x2 x3 : FVec Ideal S1x1024 .f32} {x4 x5 : FVec Ideal S1024x2816 .f32}
  {x6 : FVec Ideal S2816x1024 .f32}

/-- The arguments that have to be real. -/
structure Reals (x0 : FVec Ideal S8192x1024 .f32) (x3 : FVec Ideal S1x1024 .f32) (x5 : FVec Ideal S1024x2816 .f32)
    (x6 : FVec Ideal S2816x1024 .f32) : Prop where
  ct : ∀ i, IsReal (x0 i)
  g : ∀ i, IsReal (x3 i)
  wu : ∀ i, IsReal (x5 i)
  wd : ∀ i, IsReal (x6 i)

variable (R : Reals x0 x3 x5 x6)
include R

theorem h_real (T : Fin 8192) (j : Fin 1024) : IsReal (val_main_v16 (F := Ideal) x1 x2 x3 (ix2 T j)) := by
  rw [h_at]
  exact (Rms.norm_real_any _ j).mul (R.g _)

theorem up_real (T : Fin 8192) (k : Fin 2816) : IsReal (up x1 x2 x3 x5 (ix2 T k)) := by
  rw [up, val_main_v19_apply]
  refine IsReal.sum _ _ fun j _ => IsReal.mul ?_ (R.wu _)
  convert h_real R T j using 2
  funext a
  match a with
  | ⟨0, _⟩ => rfl
  | ⟨1, _⟩ => rfl

theorem dact_real (T : Fin 8192) (k : Fin 2816) : IsReal (gDact x0 x6 T k) := IsReal.sum _ _ fun _ _ => (R.ct _).mul (R.wd _)

theorem dgate_at (T : Fin 8192) (k : Fin 2816) : val_main_v31 (F := Ideal) x0 x1 x2 x3 x4 x5 x6 (ix2 T k)
    = gDgate x0 (gate x1 x2 x3 x4) (up x1 x2 x3 x5) x6 T k :=
  (dgate_raw x0 x1 x2 x3 x4 x5 x6 T k).trans
    (act_back (dact_real R T k) (up_real R T k) _)

theorem dh_eq (T : Fin 8192) (j : Fin 1024) : val_main_v35 (F := Ideal) x0 x1 x2 x3 x4 x5 x6 (ix2 T j)
    = gDh x0 (gate x1 x2 x3 x4) (up x1 x2 x3 x5) x6 (flip x4) (flip x5) T j := by
  rw [dh_at]
  simp only [dgate_at R]
  rfl

theorem dx_eq (T : Fin 8192) (j : Fin 1024) : val_main_v55 (F := Ideal) x0 x1 x2 x3 x4 x5 x6 (ix2 T j)
    = gDx x0 (gate x1 x2 x3 x4) (up x1 x2 x3 x5) (xs x1 x2) x6 (flip x4) (flip x5) x3 T j := by
  rw [dx_at]
  have e : dn x0 x1 x2 x3 x4 x5 x6 T
      = fun k => gDh x0 (gate x1 x2 x3 x4) (up x1 x2 x3 x5) x6 (flip x4) (flip x5) T k * x3 (ix2 0 k) := by
    funext k
    rw [dn, dh_eq R]
  rw [e]
  exact Rms.steps_any (gRow (xs x1 x2) T) (fun k => x3 (ix2 0 k)) _ (x0 (ix2 T j)) j

/-! ## The results -/

theorem out0 : val_main_v55 (F := Ideal) x0 x1 x2 x3 x4 x5 x6
    = outDx x0 (gate x1 x2 x3 x4) (up x1 x2 x3 x5) (xs x1 x2) x6 (flip x4) (flip x5) x3 := by
  funext y
  idx_vars y
  exact dx_eq R _ _

theorem out1 : val_main_v38 (F := Ideal) x0 x1 x2 x3 x4 x5 x6
    = outDg x0 (gate x1 x2 x3 x4) (up x1 x2 x3 x5) (xs x1 x2) x6 (flip x4) (flip x5) := by
  funext y
  idx_vars y
  obtain rfl : y0 = 0 := Subsingleton.elim _ _
  rw [dg_at]
  simp only [dh_eq R]
  rfl

theorem out2 : val_main_v57 (F := Ideal) x0 x1 x2 x3 x4 x5 x6
    = outDb x0 (gate x1 x2 x3 x4) (up x1 x2 x3 x5) (xs x1 x2) x6 (flip x4) (flip x5) x3 := by
  funext y
  idx_vars y
  obtain rfl : y0 = 0 := Subsingleton.elim _ _
  rw [db_at]
  simp only [dx_eq R]
  rfl

theorem out3 : val_main_v58 (F := Ideal) x0 x1 x2 x3 x4 x5 x6
    = outDwg x0 (gate x1 x2 x3 x4) (up x1 x2 x3 x5) (xs x1 x2) x6 x3 := by
  funext y
  idx_vars y
  rw [dwg_at]
  simp only [dgate_at R]
  rfl

omit R in
theorem out4 : val_main_v59 (F := Ideal) x0 x1 x2 x3 x4 x6 = outDwu x0 (gate x1 x2 x3 x4) (xs x1 x2) x6 x3 := by
  funext y
  idx_vars y
  exact dwu_at x0 x1 x2 x3 x4 x6 _ _

end Cert.Ffn.Ref
-- ==== Proof.Ffn.lean ====
/- The feed-forward call: what the kernel reads, in the reference's words, and the value claim. -/
module

public import proofs.«01_k».proof.Proof.FfnArrays
public import proofs.«01_k».proof.Proof.FfnRef
public import proofs.«01_k».proof.Proof.Gen.Kernel2Ideal.Value
public import proofs.«01_k».proof.Proof.Gen.Pre_finite2
public import proofs.«01_k».proof.Defs

@[expose] public section

set_option maxRecDepth 16384

noncomputable section

open Idealize.ShloMosaic Idealize.ShloMosaic.TcCoe Idealize.SL.Sem

namespace Cert.Ffn

open Cert.Kernel2Ideal Cert.Kernel2Ideal.Gen

section Entry

variable (m : (ℓ : Loc nD τ sig) → Buf (Elt Ideal) ℓ) (c : Dev nD)

theorem V_arg0 : V m c main_arg0 = m ((c : Thread nD τ).loc main_arg0) := by entry_read; try rfl
theorem V_arg3 : V m c main_arg3 = m ((c : Thread nD τ).loc main_arg3) := by entry_read; try rfl
theorem V_v1 : V m c main_v1 = Ref.xs (m ((c : Thread nD τ).loc main_arg1)) (m ((c : Thread nD τ).loc main_arg2)) := by entry_read; rfl
theorem V_v16 : V m c main_v16 = Ref.gate (m ((c : Thread nD τ).loc main_arg1)) (m ((c : Thread nD τ).loc main_arg2))
    (m ((c : Thread nD τ).loc main_arg3)) (m ((c : Thread nD τ).loc main_arg4)) := by entry_read; rfl
theorem V_v17 : V m c main_v17 = Ref.up (m ((c : Thread nD τ).loc main_arg1)) (m ((c : Thread nD τ).loc main_arg2))
    (m ((c : Thread nD τ).loc main_arg3)) (m ((c : Thread nD τ).loc main_arg5)) := by entry_read; rfl
theorem V_v18 : V m c main_v18 = m ((c : Thread nD τ).loc main_arg6) := by entry_read; rfl
theorem V_v20 : V m c main_v20 = Ref.flip (m ((c : Thread nD τ).loc main_arg4)) := by
  entry_read
  funext y
  idx_vars y
  pointwise [Ref.flip]
theorem V_v22 : V m c main_v22 = Ref.flip (m ((c : Thread nD τ).loc main_arg5)) := by
  entry_read
  funext y
  idx_vars y
  pointwise [Ref.flip]

/-- What the precondition says of the arguments. -/
theorem finite_args (h : Cert.Pre_Kernel2Ideal_finite2 m) : Ref.Reals (m ((c : Thread nD τ).loc main_arg0))
    (m ((c : Thread nD τ).loc main_arg3)) (m ((c : Thread nD τ).loc main_arg5)) (m ((c : Thread nD τ).loc main_arg6)) := by
  have h0 := congrFun (h c) ix0
  dsimp only [Cert.Pre_finite2.fn, Cert.Pre_finite2.fn_part1] at h0
  obtain ⟨h1, e6⟩ := IntOp.andi_eq_one.1 h0
  obtain ⟨h2, e5⟩ := IntOp.andi_eq_one.1 h1
  obtain ⟨h3, e3⟩ := IntOp.andi_eq_one.1 h2
  obtain ⟨_, e0⟩ := IntOp.andi_eq_one.1 h3
  exact ⟨finite_of_all _ _ _ _ _ _ (fun _ => inf_eq _ _) e0, finite_of_all _ _ _ _ _ _ (fun _ => inf_eq _ _) e3,
    finite_of_all _ _ _ _ _ _ (fun _ => inf_eq _ _) e5, finite_of_all _ _ _ _ _ _ (fun _ => inf_eq _ _) e6⟩

end Entry

section Agree

abbrev RefMem : Type :=
  (ℓ : Loc Cert.Reference2Ideal.nD Cert.Reference2Ideal.τ Cert.Reference2Ideal.sig) → Buf (Elt Ideal) ℓ

/-! The reference's arguments. -/

variable (m' : RefMem) (c : Dev nD)

abbrev B0 : FVec Ideal S8192x1024 .f32 := m' ((c.tc : Thread Cert.Reference2Ideal.nD Cert.Reference2Ideal.τ).loc Cert.Reference2Ideal.main_arg0)
abbrev B1 : FVec Ideal S8192x1024 .f32 := m' ((c.tc : Thread Cert.Reference2Ideal.nD Cert.Reference2Ideal.τ).loc Cert.Reference2Ideal.main_arg1)
abbrev B2 : FVec Ideal S1x1024 .f32 := m' ((c.tc : Thread Cert.Reference2Ideal.nD Cert.Reference2Ideal.τ).loc Cert.Reference2Ideal.main_arg2)
abbrev B3 : FVec Ideal S1x1024 .f32 := m' ((c.tc : Thread Cert.Reference2Ideal.nD Cert.Reference2Ideal.τ).loc Cert.Reference2Ideal.main_arg3)
abbrev B4 : FVec Ideal S1024x2816 .f32 := m' ((c.tc : Thread Cert.Reference2Ideal.nD Cert.Reference2Ideal.τ).loc Cert.Reference2Ideal.main_arg4)
abbrev B5 : FVec Ideal S1024x2816 .f32 := m' ((c.tc : Thread Cert.Reference2Ideal.nD Cert.Reference2Ideal.τ).loc Cert.Reference2Ideal.main_arg5)
abbrev B6 : FVec Ideal S2816x1024 .f32 := m' ((c.tc : Thread Cert.Reference2Ideal.nD Cert.Reference2Ideal.τ).loc Cert.Reference2Ideal.main_arg6)

variable (m : (ℓ : Loc nD τ sig) → Buf (Elt Ideal) ℓ)

/-- The two programs are given the same arrays. -/
structure Agree : Prop where
  a0 : m ((c : Thread nD τ).loc main_arg0) = B0 m' c
  a1 : m ((c : Thread nD τ).loc main_arg1) = B1 m' c
  a2 : m ((c : Thread nD τ).loc main_arg2) = B2 m' c
  a3 : m ((c : Thread nD τ).loc main_arg3) = B3 m' c
  a4 : m ((c : Thread nD τ).loc main_arg4) = B4 m' c
  a5 : m ((c : Thread nD τ).loc main_arg5) = B5 m' c
  a6 : m ((c : Thread nD τ).loc main_arg6) = B6 m' c

variable {m c m'} (A : Agree m' c m)
include A

theorem at0 : A0 m c = B0 m' c := (V_arg0 m c).trans A.a0
theorem at1 : A1 m c = Ref.gate (B1 m' c) (B2 m' c) (B3 m' c) (B4 m' c) := (V_v16 m c).trans (by rw [A.a1, A.a2, A.a3, A.a4])
theorem at2 : A2 m c = Ref.up (B1 m' c) (B2 m' c) (B3 m' c) (B5 m' c) := (V_v17 m c).trans (by rw [A.a1, A.a2, A.a3, A.a5])
theorem at3 : A3 m c = Ref.xs (B1 m' c) (B2 m' c) := (V_v1 m c).trans (by rw [A.a1, A.a2])
theorem at4 : A4 m c = B6 m' c := (V_v18 m c).trans A.a6
theorem at5 : A5 m c = Ref.flip (B4 m' c) := (V_v20 m c).trans (by rw [A.a4])
theorem at6 : A6 m c = Ref.flip (B5 m' c) := (V_v22 m c).trans (by rw [A.a5])
theorem at7 : A7 m c = B3 m' c := (V_arg3 m c).trans A.a3

theorem reals (h : Cert.Pre_Kernel2Ideal_finite2 m) : Ref.Reals (B0 m' c) (B3 m' c) (B5 m' c) (B6 m' c) := by
  rw [← A.a0, ← A.a3, ← A.a5, ← A.a6]
  exact finite_args m c h

theorem res0 (h : Cert.Pre_Kernel2Ideal_finite2 m) : Cert.Reference2Ideal.Value.res_out0 m' c = (dats m 0 c).arrAt 8 cfg0.N := by
  rw [final8, at0 A, at1 A, at2 A, at3 A, at4 A, at5 A, at6 A, at7 A]
  exact (Cert.Reference2Ideal.Read.val_main_v55_eq m' c).trans (Ref.out0 (reals A h))

theorem res1 (h : Cert.Pre_Kernel2Ideal_finite2 m) : Cert.Reference2Ideal.Value.res_out1 m' c = (dats m 0 c).arrAt 9 cfg0.N := by
  rw [final9, at0 A, at1 A, at2 A, at3 A, at4 A, at5 A, at6 A]
  exact (Cert.Reference2Ideal.Read.val_main_v38_eq m' c).trans (Ref.out1 (reals A h))

theorem res2 (h : Cert.Pre_Kernel2Ideal_finite2 m) : Cert.Reference2Ideal.Value.res_out2 m' c = (dats m 0 c).arrAt 10 cfg0.N := by
  rw [final10, at0 A, at1 A, at2 A, at3 A, at4 A, at5 A, at6 A, at7 A]
  exact (Cert.Reference2Ideal.Read.val_main_v57_eq m' c).trans (Ref.out2 (reals A h))

theorem res3 (h : Cert.Pre_Kernel2Ideal_finite2 m) : Cert.Reference2Ideal.Value.res_out3 m' c = hbG0 m c main_v23_3 := by
  rw [finalG, at0 A, at1 A, at2 A, at3 A, at4 A, at7 A]
  exact Ref.out3 (reals A h)

theorem res4 : Cert.Reference2Ideal.Read.val_main_v59 (F := Ideal) (B0 m' c) (B1 m' c) (B2 m' c) (B3 m' c) (B4 m' c) (B6 m' c) = hbG0 m c main_v23_4 := by
  rw [finalU, at0 A, at1 A, at3 A, at4 A, at7 A]
  exact Ref.out4

end Agree

set_option maxHeartbeats 4000000 in
/-- The feed-forward call computes the gradients. -/
theorem algebraic : Cert.algebraic_Kernel2Ideal_Reference2Ideal_pre_finite2 := by
  intro m ρ m' ρ' hpre hagree
  refine ⟨fun c => (dats m 0 c).arrAt 8 cfg0.N, fun c => (dats m 0 c).arrAt 9 cfg0.N, fun c => (dats m 0 c).arrAt 10 cfg0.N,
    fun c => hbG0 m c main_v23_3, fun c => hbG0 m c main_v23_4,
    (θ_run _ _ _).mono (fun r hr c => ?_) (Cert.Kernel2Ideal.Value.run_blocks m ρ),
    (θ_run _ _ _).mono (fun r hr c => ?_) (Cert.Reference2Ideal.Value.run m' ρ')⟩
  · obtain ⟨h0, h1, h2, k0, k1, k2, k3, k4, k5, k6, h3, h4⟩ := hr c
    exact ⟨h0, h1, h2, h3.trans (hbG0_0 m c).symm, h4.trans (hbG0_1 m c).symm, k0, k1, k2, k3, k4, k5, k6⟩
  · have a := hagree c
    have A : Agree m' c m := ⟨a.1.symm, a.2.1.symm, a.2.2.1.symm, a.2.2.2.1.symm, a.2.2.2.2.1.symm, a.2.2.2.2.2.1.symm, a.2.2.2.2.2.2.symm⟩
    have h := hr c
    refine ⟨h.1.trans ?_, h.2.1.trans ?_, h.2.2.1.trans ?_, h.2.2.2.1.trans ?_, h.2.2.2.2.1.trans ?_, h.2.2.2.2.2⟩
    · exact res0 A hpre
    · exact res1 A hpre
    · exact res2 A hpre
    · exact res3 A hpre
    · exact res4 A

end Cert.Ffn
-- ==== Proof.InprojRope.lean ====
/- The gradient of the projected row that a grid point of the input projection kernel forms: the rotary embedding turned back, and the four parts side by side. -/
module

public import proofs.«01_k».proof.Proof.Gen.Kernel3Ideal.Value
public import proofs.«01_k».proof.Proof.Rms
public import Idealize.ShloMosaic.Lib.Pipeline.ValueKit

@[expose] public section

set_option maxRecDepth 16384

noncomputable section

open Idealize.ShloMosaic Idealize.ShloMosaic.TcCoe Idealize.SL.Sem

namespace Cert.Inproj

open Cert.Kernel3Ideal Cert.Kernel3Ideal.Gen

/-! ## The lanes -/

/-- The lane of the table that column `j` uses: the tables hold two heads. -/
def lane (j : Fin 512) : Fin 128 := ⟨j.val % 128, by omega⟩

/-- The other lane of a pair, among all the query heads: the pairs are half a head apart. -/
def mate (j : Fin 512) : Fin 512 := ⟨if j.val % 64 < 32 then j.val + 32 else j.val - 32, by split_ifs <;> omega⟩

/-- The same among the two key heads. -/
def mate2 (j : Fin 128) : Fin 128 := ⟨if j.val % 64 < 32 then j.val + 32 else j.val - 32, by split_ifs <;> omega⟩

/-- Row `r` of the upper half of a block, and of the lower. -/
def top (r : Fin 256) : Fin 512 := ⟨r.val, by omega⟩
def bot (r : Fin 256) : Fin 512 := ⟨256 + r.val, by omega⟩

/-! ## The formulas -/

section Formulas

variable (x0 : Vec Ideal S512x512 .f32) (x1 x2 : Vec Ideal S512x128 .f32) (x3 : Vec Ideal S512x512 .bf16) (x4 : Vec Ideal S4x512x128 .f32)
  (x5 : Vec Ideal S1x2x128 .f32)

/-- The cosine and the signed sine at a row of the block, from the two tables by the addition theorem. -/
def cosAt (r : Fin 512) (l : Fin 128) : EReal := x4 (ix3 0 r l) * x5 (ix3 0 0 l) - x4 (ix3 1 r l) * x5 (ix3 0 1 l)
def sinAt (r : Fin 512) (l : Fin 128) : EReal := x4 (ix3 2 r l) * x5 (ix3 0 0 l) + x4 (ix3 3 r l) * x5 (ix3 0 1 l)

/-- The gradient of the projected queries: the rotation turned back. -/
def dqAt (r : Fin 512) (j : Fin 512) : EReal :=
  x0 (ix2 r j) * cosAt x4 x5 r (lane j) + x0 (ix2 r (mate j)) * sinAt x4 x5 r (lane (mate j))

/-- The gradient of the projected keys. -/
def dkAt (r : Fin 512) (j : Fin 128) : EReal :=
  x1 (ix2 r j) * cosAt x4 x5 r j + x1 (ix2 r (mate2 j)) * sinAt x4 x5 r (mate2 j)

/-- The gradient of the projected row: queries, keys, values, pooled channels. -/
def dz (r : Fin 512) (j : Fin 1280) : EReal :=
  if h : j.val < 512 then dqAt x0 x4 x5 r ⟨j.val, h⟩
  else if h' : j.val - 512 < 128 then dkAt x1 x4 x5 r ⟨j.val - 512, h'⟩
  else if h'' : j.val - 512 - 128 < 128 then x2 (ix2 r ⟨j.val - 512 - 128, h''⟩)
  else x3 (ix2 r ⟨j.val - 512 - 128 - 128, by omega⟩)

end Formulas

/-! ## The payloads -/

theorem tiled_table (v : FVec Ideal S256x128 .f32) (r : Fin 256) (j : Fin 512) :
    concatenate S256x512 1 [⟨S256x128, v⟩, ⟨S256x128, v⟩, ⟨S256x128, v⟩, ⟨S256x128, v⟩] concatenates_S256x128_S256x128_S256x128_S256x128_S256x512_d1 (ix2 r j) = v (ix2 r (lane j)) := by
  pointwise
  unfold lane
  split_ifs <;> exact congrArg (fun l => v (ix2 r l)) (Fin.ext (by dsimp only; omega))

/-- The kernel's test of a lane, on words: is it in the first half of its head? -/
def first (n : ℕ) : BitVec 1 :=
  IntOp.cmpi .slt (Scalar.select (IntOp.andi (IntOp.xori (IntOp.cmpi .slt (IntOp.remsi .vector (BitVec.ofNat 32 n) 64#32) 0#32)
    (Scalar.cmpi .slt 64#32 0#32)) (IntOp.cmpi .ne (IntOp.remsi .vector (BitVec.ofNat 32 n) 64#32) 0#32))
    (IntOp.addi (IntOp.remsi .vector (BitVec.ofNat 32 n) 64#32) 64#32) (IntOp.remsi .vector (BitVec.ofNat 32 n) 64#32)) 32#32

theorem first_eq : ∀ j : Fin 512, first j.val = if j.val % 64 < 32 then 1#1 else 0#1 := by decide +kernel

theorem choose (n : ℕ) (h : n < 512) (a b : EReal) : Scalar.select (first n) a b = if n % 64 < 32 then a else b := by
  rw [first_eq ⟨n, h⟩]
  dsimp only
  split <;> rfl

/-- The same test as the key heads spell it. -/
def first2 (n : ℕ) : BitVec 1 :=
  IntOp.cmpi .slt (Scalar.select (IntOp.andi (IntOp.xori
    (IntOp.cmpi .slt (IntOp.remsi .vector (BitVec.ofNat 32 n) (Scalar.select (Scalar.cmpi .eq 64#32 0#32) 1#32 64#32)) 0#32)
    (Scalar.cmpi .slt (Scalar.select (Scalar.cmpi .eq 64#32 0#32) 1#32 64#32) 0#32))
    (IntOp.cmpi .ne (IntOp.remsi .vector (BitVec.ofNat 32 n) (Scalar.select (Scalar.cmpi .eq 64#32 0#32) 1#32 64#32)) 0#32))
    (IntOp.addi (IntOp.remsi .vector (BitVec.ofNat 32 n) (Scalar.select (Scalar.cmpi .eq 64#32 0#32) 1#32 64#32)) (Scalar.select (Scalar.cmpi .eq 64#32 0#32) 1#32 64#32))
    (IntOp.remsi .vector (BitVec.ofNat 32 n) (Scalar.select (Scalar.cmpi .eq 64#32 0#32) 1#32 64#32))) 32#32

theorem first2_eq : ∀ j : Fin 512, first2 j.val = if j.val % 64 < 32 then 1#1 else 0#1 := by decide +kernel

theorem choose2 (n : ℕ) (h : n < 512) (a b : EReal) : Scalar.select (first2 n) a b = if n % 64 < 32 then a else b := by
  rw [first2_eq ⟨n, h⟩]
  dsimp only
  split <;> rfl

theorem mate_of (w : FVec Ideal S256x512 .f32) (r : Fin 256) (j : Fin 512) :
    (if j.val % 64 < 32 then w (ix2 r ⟨(j.val + 512 - 480) % 512, by omega⟩) else w (ix2 r ⟨(j.val + 512 - 32) % 512, by omega⟩)) = w (ix2 r (mate j)) := by
  unfold mate
  split_ifs <;> exact congrArg (fun l => w (ix2 r l)) (Fin.ext (by dsimp only; omega))

theorem mate2_of (w : FVec Ideal S256x128 .f32) (r : Fin 256) (j : Fin 128) :
    (if j.val % 64 < 32 then w (ix2 r ⟨(j.val + 128 - 96) % 128, by omega⟩) else w (ix2 r ⟨(j.val + 128 - 32) % 128, by omega⟩)) = w (ix2 r (mate2 j)) := by
  unfold mate2
  split_ifs <;> exact congrArg (fun l => w (ix2 r l)) (Fin.ext (by dsimp only; omega))

/-- The rotation's choice of lanes, over the query heads. -/
theorem turn (v w : FVec Ideal S256x512 .f32) (r : Fin 256) (j : Fin 512) :
    k0_pay13 (F := Ideal) v w (iota Kind.tc S256x512 32 [1] iota_S256x512_d1_w32) 64#32 0#1 (ix2 r j) = v (ix2 r j) + w (ix2 r (mate j)) := by
  pointwise [k0_pay13]
  exact congrArg (v (ix2 r j) + ·) ((choose j.val j.isLt _ _).trans (mate_of w r j))

section Halves

variable (x0 : Vec Ideal S512x512 .f32) (x1 x2 : Vec Ideal S512x128 .f32) (x3 : Vec Ideal S512x512 .bf16) (x4 : Vec Ideal S4x512x128 .f32)
  (x5 : Vec Ideal S1x2x128 .f32)

theorem table (r : Fin 512) (l : Fin 128) :
    (k0_pay9 (View.ld x5 (Rect.unit ![0, 0, 0] ![1, 2, 128] inb_S1x2x128_S1x2x128_0_0_0)) (View.ld x4 (Rect.unit ![0, 0, 0] ![1, 512, 128] inb_S4x512x128_S1x512x128_0_0_0)) (View.ld x4 (Rect.unit ![1, 0, 0] ![1, 512, 128] inb_S4x512x128_S1x512x128_1_0_0))) (ix2 r l) = cosAt x4 x5 r l ∧ (k0_pay10 (View.ld x5 (Rect.unit ![0, 0, 0] ![1, 2, 128] inb_S1x2x128_S1x2x128_0_0_0)) (View.ld x4 (Rect.unit ![2, 0, 0] ![1, 512, 128] inb_S4x512x128_S1x512x128_2_0_0)) (View.ld x4 (Rect.unit ![3, 0, 0] ![1, 512, 128] inb_S4x512x128_S1x512x128_3_0_0))) (ix2 r l) = sinAt x4 x5 r l := by
  constructor <;> pointwise [k0_pay9, k0_pay10, k0_pay6, k0_pay7, k0_pay8, cosAt, sinAt]

theorem dq_top (r : Fin 256) (j : Fin 512) :
    k0_pay13 (F := Ideal)  (k0_pay11 (View.ld x5 (Rect.unit ![0, 0, 0] ![1, 2, 128] inb_S1x2x128_S1x2x128_0_0_0)) (View.ld x4 (Rect.unit ![0, 0, 0] ![1, 512, 128] inb_S4x512x128_S1x512x128_0_0_0)) (View.ld x4 (Rect.unit ![1, 0, 0] ![1, 512, 128] inb_S4x512x128_S1x512x128_1_0_0)) (View.ld x0 (Rect.unit ![0, 0] ![256, 512] inb_S512x512_S256x512_0_0)))
        (k0_pay12 (View.ld x5 (Rect.unit ![0, 0, 0] ![1, 2, 128] inb_S1x2x128_S1x2x128_0_0_0)) (View.ld x4 (Rect.unit ![2, 0, 0] ![1, 512, 128] inb_S4x512x128_S1x512x128_2_0_0)) (View.ld x4 (Rect.unit ![3, 0, 0] ![1, 512, 128] inb_S4x512x128_S1x512x128_3_0_0)) (View.ld x0 (Rect.unit ![0, 0] ![256, 512] inb_S512x512_S256x512_0_0)))
        (iota Kind.tc S256x512 32 [1] iota_S256x512_d1_w32) 64#32 0#1 (ix2 r j) = dqAt x0 x4 x5 (top r) j := by
  rw [turn]
  unfold k0_pay11 k0_pay12 dqAt
  refine congr (congrArg _ ?_) ?_
  · refine congr (congrArg _ ?_) ((tiled_table _ r j).trans ?_)
    · pointwise
      rfl
    · pointwise
      exact (table x4 x5 (top r) (lane j)).1
  · refine congr (congrArg _ ?_) ((tiled_table _ r (mate j)).trans ?_)
    · pointwise
      rfl
    · pointwise
      exact (table x4 x5 (top r) (lane (mate j))).2

/-- The keys' half, from the two products. -/
theorem turn2 (v w : FVec Ideal S256x128 .f32) (a2 : Vec Ideal S256x128 .f32) (a3 : Vec Ideal S256x512 .bf16) (q : FVec Ideal S256x512 .f32) (r : Fin 256) (j : Fin 1280) :
    k0_pay18 (F := Ideal) q v w k0_pay16 k0_pay17 a2 a3 (ix2 r j) =
      if h : j.val < 512 then q (ix2 r ⟨j.val, h⟩)
      else if h' : j.val - 512 < 128 then v (ix2 r ⟨j.val - 512, h'⟩) + w (ix2 r (mate2 ⟨j.val - 512, h'⟩))
      else if h'' : j.val - 512 - 128 < 128 then a2 (ix2 r ⟨j.val - 512 - 128, h''⟩)
      else a3 (ix2 r ⟨j.val - 512 - 128 - 128, by omega⟩) := by
  pointwise [k0_pay18, k0_pay16, k0_pay17]
  refine dite_congr rfl (fun h => rfl) fun h => dite_congr rfl (fun h' => ?_) fun h' => rfl
  exact congrArg (v (ix2 r ⟨j.val - 512, h'⟩) + ·) ((choose2 (j.val - 512) (by omega) _ _).trans (mate2_of w r ⟨j.val - 512, h'⟩))

theorem dz_top (r : Fin 256) (j : Fin 1280) :
    k0_pay18 (F := Ideal) (k0_pay13 (k0_pay11 (View.ld x5 (Rect.unit ![0, 0, 0] ![1, 2, 128] inb_S1x2x128_S1x2x128_0_0_0)) (View.ld x4 (Rect.unit ![0, 0, 0] ![1, 512, 128] inb_S4x512x128_S1x512x128_0_0_0)) (View.ld x4 (Rect.unit ![1, 0, 0] ![1, 512, 128] inb_S4x512x128_S1x512x128_1_0_0)) (View.ld x0 (Rect.unit ![0, 0] ![256, 512] inb_S512x512_S256x512_0_0)))
        (k0_pay12 (View.ld x5 (Rect.unit ![0, 0, 0] ![1, 2, 128] inb_S1x2x128_S1x2x128_0_0_0)) (View.ld x4 (Rect.unit ![2, 0, 0] ![1, 512, 128] inb_S4x512x128_S1x512x128_2_0_0)) (View.ld x4 (Rect.unit ![3, 0, 0] ![1, 512, 128] inb_S4x512x128_S1x512x128_3_0_0)) (View.ld x0 (Rect.unit ![0, 0] ![256, 512] inb_S512x512_S256x512_0_0)))
        (iota Kind.tc S256x512 32 [1] iota_S256x512_d1_w32) 64#32 0#1)
      (k0_pay14 (k0_pay9 (View.ld x5 (Rect.unit ![0, 0, 0] ![1, 2, 128] inb_S1x2x128_S1x2x128_0_0_0)) (View.ld x4 (Rect.unit ![0, 0, 0] ![1, 512, 128] inb_S4x512x128_S1x512x128_0_0_0)) (View.ld x4 (Rect.unit ![1, 0, 0] ![1, 512, 128] inb_S4x512x128_S1x512x128_1_0_0))) (View.ld x1 (Rect.unit ![0, 0] ![256, 128] inb_S512x128_S256x128_0_0)))
      (k0_pay15 (k0_pay10 (View.ld x5 (Rect.unit ![0, 0, 0] ![1, 2, 128] inb_S1x2x128_S1x2x128_0_0_0)) (View.ld x4 (Rect.unit ![2, 0, 0] ![1, 512, 128] inb_S4x512x128_S1x512x128_2_0_0)) (View.ld x4 (Rect.unit ![3, 0, 0] ![1, 512, 128] inb_S4x512x128_S1x512x128_3_0_0))) (View.ld x1 (Rect.unit ![0, 0] ![256, 128] inb_S512x128_S256x128_0_0)))
      k0_pay16 k0_pay17 (View.ld x2 (Rect.unit ![0, 0] ![256, 128] inb_S512x128_S256x128_0_0)) (View.ld x3 (Rect.unit ![0, 0] ![256, 512] inb_S512x512_S256x512_0_0)) (ix2 r j) = dz x0 x1 x2 x3 x4 x5 (top r) j := by
  rw [turn2]
  unfold dz
  refine dite_congr rfl (fun h => ?_) fun h => dite_congr rfl (fun h' => ?_) fun h' => dite_congr rfl (fun h'' => ?_) fun h'' => ?_
  · exact dq_top x0 x4 x5 r ⟨j.val, h⟩
  · unfold k0_pay14 k0_pay15 dkAt
    refine congr (congrArg _ ?_) ?_
    · pointwise
      rw [show (⟨r.val, _⟩ : Fin 512) = top r from rfl, (table x4 x5 (top r) _).1]
    · pointwise
      rw [show (⟨r.val, _⟩ : Fin 512) = top r from rfl, (table x4 x5 (top r) _).2]
  · pointwise
    rfl
  · pointwise
    rfl

/-- The same two choices of lanes, as the lower half spells them. -/
theorem turn_bot (a0 : FVec Ideal S256x512 .f32) (c1 : FVec Ideal S256x128 .f32) (c0 : FVec Ideal S256x512 .f32) (r : Fin 256) (j : Fin 512) :
    k0_pay27 (F := Ideal) a0 c1 c0 (ix2 r j) = a0 (ix2 r j) * c0 (ix2 r j) + a0 (ix2 r (mate j)) * c1 (ix2 r (lane (mate j))) := by
  have hc : concatenate S256x512 1 [⟨S256x128, c1⟩, ⟨S256x128, c1⟩, ⟨S256x128, c1⟩, ⟨S256x128, c1⟩]
      concatenates_S256x128_S256x128_S256x128_S256x128_S256x512_d1 = fun y => c1 (ix2 (y 0) (lane (y 1))) := by
    funext y
    idx_vars y
    exact tiled_table c1 y0 y1
  unfold k0_pay27
  rw [hc]
  pointwise
  exact congrArg (a0 (ix2 r j) * c0 (ix2 r j) + ·) ((choose2 j.val j.isLt _ _).trans
    (mate_of (fun y => a0 (ix2 (y 0) (y 1)) * c1 (ix2 (y 0) (lane (y 1)))) r j))

theorem turn2_bot (v w : FVec Ideal S256x128 .f32) (a2 : Vec Ideal S256x128 .f32) (a3 : Vec Ideal S256x512 .bf16) (q : FVec Ideal S256x512 .f32) (r : Fin 256) (j : Fin 1280) :
    k0_pay34 (F := Ideal) q v w 64#32 k0_pay30 k0_pay31 k0_pay32 k0_pay33 a2 a3 (ix2 r j) =
      if h : j.val < 512 then q (ix2 r ⟨j.val, h⟩)
      else if h' : j.val - 512 < 128 then v (ix2 r ⟨j.val - 512, h'⟩) + w (ix2 r (mate2 ⟨j.val - 512, h'⟩))
      else if h'' : j.val - 512 - 128 < 128 then a2 (ix2 r ⟨j.val - 512 - 128, h''⟩)
      else a3 (ix2 r ⟨j.val - 512 - 128 - 128, by omega⟩) := by
  pointwise [k0_pay34, k0_pay30, k0_pay31, k0_pay32, k0_pay33]
  refine dite_congr rfl (fun h => rfl) fun h => dite_congr rfl (fun h' => ?_) fun h' => rfl
  exact congrArg (v (ix2 r ⟨j.val - 512, h'⟩) + ·) ((choose2 (j.val - 512) (by omega) _ _).trans (mate2_of w r ⟨j.val - 512, h'⟩))

theorem dq_bot (r : Fin 256) (j : Fin 512) :
    k0_pay27 (F := Ideal)  (View.ld x0 (Rect.unit ![256, 0] ![256, 512] inb_S512x512_S256x512_256_0)) (k0_pay25 (k0_pay10 (View.ld x5 (Rect.unit ![0, 0, 0] ![1, 2, 128] inb_S1x2x128_S1x2x128_0_0_0)) (View.ld x4 (Rect.unit ![2, 0, 0] ![1, 512, 128] inb_S4x512x128_S1x512x128_2_0_0)) (View.ld x4 (Rect.unit ![3, 0, 0] ![1, 512, 128] inb_S4x512x128_S1x512x128_3_0_0)))) (k0_pay26 (k0_pay9 (View.ld x5 (Rect.unit ![0, 0, 0] ![1, 2, 128] inb_S1x2x128_S1x2x128_0_0_0)) (View.ld x4 (Rect.unit ![0, 0, 0] ![1, 512, 128] inb_S4x512x128_S1x512x128_0_0_0)) (View.ld x4 (Rect.unit ![1, 0, 0] ![1, 512, 128] inb_S4x512x128_S1x512x128_1_0_0)))) (ix2 r j) = dqAt x0 x4 x5 (bot r) j := by
  rw [turn_bot]
  unfold k0_pay25 k0_pay26 dqAt
  refine congr (congrArg _ (congr (congrArg _ ?_) ((tiled_table _ r j).trans ?_))) (congr (congrArg _ ?_) ?_)
  · pointwise
    rfl
  · pointwise
    exact (table x4 x5 (bot r) (lane j)).1
  · pointwise
    rfl
  · pointwise
    exact (table x4 x5 (bot r) (lane (mate j))).2

theorem dz_bot (r : Fin 256) (j : Fin 1280) :
    k0_pay34 (F := Ideal) (k0_pay27 (View.ld x0 (Rect.unit ![256, 0] ![256, 512] inb_S512x512_S256x512_256_0)) (k0_pay25 (k0_pay10 (View.ld x5 (Rect.unit ![0, 0, 0] ![1, 2, 128] inb_S1x2x128_S1x2x128_0_0_0)) (View.ld x4 (Rect.unit ![2, 0, 0] ![1, 512, 128] inb_S4x512x128_S1x512x128_2_0_0)) (View.ld x4 (Rect.unit ![3, 0, 0] ![1, 512, 128] inb_S4x512x128_S1x512x128_3_0_0)))) (k0_pay26 (k0_pay9 (View.ld x5 (Rect.unit ![0, 0, 0] ![1, 2, 128] inb_S1x2x128_S1x2x128_0_0_0)) (View.ld x4 (Rect.unit ![0, 0, 0] ![1, 512, 128] inb_S4x512x128_S1x512x128_0_0_0)) (View.ld x4 (Rect.unit ![1, 0, 0] ![1, 512, 128] inb_S4x512x128_S1x512x128_1_0_0)))))
      (k0_pay28 (k0_pay9 (View.ld x5 (Rect.unit ![0, 0, 0] ![1, 2, 128] inb_S1x2x128_S1x2x128_0_0_0)) (View.ld x4 (Rect.unit ![0, 0, 0] ![1, 512, 128] inb_S4x512x128_S1x512x128_0_0_0)) (View.ld x4 (Rect.unit ![1, 0, 0] ![1, 512, 128] inb_S4x512x128_S1x512x128_1_0_0))) (View.ld x1 (Rect.unit ![256, 0] ![256, 128] inb_S512x128_S256x128_256_0)))
      (k0_pay29 (k0_pay10 (View.ld x5 (Rect.unit ![0, 0, 0] ![1, 2, 128] inb_S1x2x128_S1x2x128_0_0_0)) (View.ld x4 (Rect.unit ![2, 0, 0] ![1, 512, 128] inb_S4x512x128_S1x512x128_2_0_0)) (View.ld x4 (Rect.unit ![3, 0, 0] ![1, 512, 128] inb_S4x512x128_S1x512x128_3_0_0))) (View.ld x1 (Rect.unit ![256, 0] ![256, 128] inb_S512x128_S256x128_256_0)))
      64#32 k0_pay30 k0_pay31 k0_pay32 k0_pay33 (View.ld x2 (Rect.unit ![256, 0] ![256, 128] inb_S512x128_S256x128_256_0)) (View.ld x3 (Rect.unit ![256, 0] ![256, 512] inb_S512x512_S256x512_256_0)) (ix2 r j) = dz x0 x1 x2 x3 x4 x5 (bot r) j := by
  rw [turn2_bot]
  unfold dz
  refine dite_congr rfl (fun h => ?_) fun h => dite_congr rfl (fun h' => ?_) fun h' => dite_congr rfl (fun h'' => ?_) fun h'' => ?_
  · exact dq_bot x0 x4 x5 r ⟨j.val, h⟩
  · unfold k0_pay28 k0_pay29 dkAt
    refine congr (congrArg _ ?_) ?_
    · pointwise
      rw [show (⟨256 + r.val, _⟩ : Fin 512) = bot r from rfl, (table x4 x5 (bot r) _).1]
    · pointwise
      rw [show (⟨256 + r.val, _⟩ : Fin 512) = bot r from rfl, (table x4 x5 (bot r) _).2]
  · pointwise
    rfl
  · pointwise
    rfl

/-- The same as vectors. -/
def dzTop : FVec Ideal S256x1280 .f32 := fun y => dz x0 x1 x2 x3 x4 x5 (top (y 0)) (y 1)
def dzBot : FVec Ideal S256x1280 .f32 := fun y => dz x0 x1 x2 x3 x4 x5 (bot (y 0)) (y 1)

theorem dz_top_eq (a : BitVec 32) (b : BitVec 1) (ha : a = 64#32) (hb : b = 0#1) :
    k0_pay18 (F := Ideal) (k0_pay13 (k0_pay11 (View.ld x5 (Rect.unit ![0, 0, 0] ![1, 2, 128] inb_S1x2x128_S1x2x128_0_0_0)) (View.ld x4 (Rect.unit ![0, 0, 0] ![1, 512, 128] inb_S4x512x128_S1x512x128_0_0_0)) (View.ld x4 (Rect.unit ![1, 0, 0] ![1, 512, 128] inb_S4x512x128_S1x512x128_1_0_0)) (View.ld x0 (Rect.unit ![0, 0] ![256, 512] inb_S512x512_S256x512_0_0)))
        (k0_pay12 (View.ld x5 (Rect.unit ![0, 0, 0] ![1, 2, 128] inb_S1x2x128_S1x2x128_0_0_0)) (View.ld x4 (Rect.unit ![2, 0, 0] ![1, 512, 128] inb_S4x512x128_S1x512x128_2_0_0)) (View.ld x4 (Rect.unit ![3, 0, 0] ![1, 512, 128] inb_S4x512x128_S1x512x128_3_0_0)) (View.ld x0 (Rect.unit ![0, 0] ![256, 512] inb_S512x512_S256x512_0_0)))
        (iota Kind.tc S256x512 32 [1] iota_S256x512_d1_w32) a b)
      (k0_pay14 (k0_pay9 (View.ld x5 (Rect.unit ![0, 0, 0] ![1, 2, 128] inb_S1x2x128_S1x2x128_0_0_0)) (View.ld x4 (Rect.unit ![0, 0, 0] ![1, 512, 128] inb_S4x512x128_S1x512x128_0_0_0)) (View.ld x4 (Rect.unit ![1, 0, 0] ![1, 512, 128] inb_S4x512x128_S1x512x128_1_0_0))) (View.ld x1 (Rect.unit ![0, 0] ![256, 128] inb_S512x128_S256x128_0_0)))
      (k0_pay15 (k0_pay10 (View.ld x5 (Rect.unit ![0, 0, 0] ![1, 2, 128] inb_S1x2x128_S1x2x128_0_0_0)) (View.ld x4 (Rect.unit ![2, 0, 0] ![1, 512, 128] inb_S4x512x128_S1x512x128_2_0_0)) (View.ld x4 (Rect.unit ![3, 0, 0] ![1, 512, 128] inb_S4x512x128_S1x512x128_3_0_0))) (View.ld x1 (Rect.unit ![0, 0] ![256, 128] inb_S512x128_S256x128_0_0)))
      k0_pay16 k0_pay17 (View.ld x2 (Rect.unit ![0, 0] ![256, 128] inb_S512x128_S256x128_0_0)) (View.ld x3 (Rect.unit ![0, 0] ![256, 512] inb_S512x512_S256x512_0_0)) = dzTop x0 x1 x2 x3 x4 x5 := by
  subst ha hb
  funext y
  idx_vars y
  exact dz_top x0 x1 x2 x3 x4 x5 y0 y1

theorem dz_bot_eq : k0_pay34 (F := Ideal) (k0_pay27 (View.ld x0 (Rect.unit ![256, 0] ![256, 512] inb_S512x512_S256x512_256_0)) (k0_pay25 (k0_pay10 (View.ld x5 (Rect.unit ![0, 0, 0] ![1, 2, 128] inb_S1x2x128_S1x2x128_0_0_0)) (View.ld x4 (Rect.unit ![2, 0, 0] ![1, 512, 128] inb_S4x512x128_S1x512x128_2_0_0)) (View.ld x4 (Rect.unit ![3, 0, 0] ![1, 512, 128] inb_S4x512x128_S1x512x128_3_0_0)))) (k0_pay26 (k0_pay9 (View.ld x5 (Rect.unit ![0, 0, 0] ![1, 2, 128] inb_S1x2x128_S1x2x128_0_0_0)) (View.ld x4 (Rect.unit ![0, 0, 0] ![1, 512, 128] inb_S4x512x128_S1x512x128_0_0_0)) (View.ld x4 (Rect.unit ![1, 0, 0] ![1, 512, 128] inb_S4x512x128_S1x512x128_1_0_0)))))
      (k0_pay28 (k0_pay9 (View.ld x5 (Rect.unit ![0, 0, 0] ![1, 2, 128] inb_S1x2x128_S1x2x128_0_0_0)) (View.ld x4 (Rect.unit ![0, 0, 0] ![1, 512, 128] inb_S4x512x128_S1x512x128_0_0_0)) (View.ld x4 (Rect.unit ![1, 0, 0] ![1, 512, 128] inb_S4x512x128_S1x512x128_1_0_0))) (View.ld x1 (Rect.unit ![256, 0] ![256, 128] inb_S512x128_S256x128_256_0)))
      (k0_pay29 (k0_pay10 (View.ld x5 (Rect.unit ![0, 0, 0] ![1, 2, 128] inb_S1x2x128_S1x2x128_0_0_0)) (View.ld x4 (Rect.unit ![2, 0, 0] ![1, 512, 128] inb_S4x512x128_S1x512x128_2_0_0)) (View.ld x4 (Rect.unit ![3, 0, 0] ![1, 512, 128] inb_S4x512x128_S1x512x128_3_0_0))) (View.ld x1 (Rect.unit ![256, 0] ![256, 128] inb_S512x128_S256x128_256_0)))
      64#32 k0_pay30 k0_pay31 k0_pay32 k0_pay33 (View.ld x2 (Rect.unit ![256, 0] ![256, 128] inb_S512x128_S256x128_256_0)) (View.ld x3 (Rect.unit ![256, 0] ![256, 512] inb_S512x512_S256x512_256_0)) = dzBot x0 x1 x2 x3 x4 x5 := by
  funext y
  idx_vars y
  exact dz_bot x0 x1 x2 x3 x4 x5 y0 y1

end Halves

end Cert.Inproj
-- ==== Proof.InprojFormulas.lean ====
/- The results of the input projection's backward call as formulas of whole arrays: for each of the 8192 tokens `T`, the 1280
   projected columns `k` and the 1024 model columns `j`. -/
module

public import proofs.«01_k».proof.Proof.InprojRope

@[expose] public section

noncomputable section

open Idealize.ShloMosaic Idealize.ShloMosaic.TcCoe Idealize.SL.Sem

namespace Cert.Inproj

open Cert.Kernel3Ideal

/-! ## The gradient of the projected row -/

section Row

variable (q : S8192x512.Idx → EReal) (k v : S8192x128.Idx → EReal) (u : S8192x512.Idx → EReal) (C S : Fin 8192 → Fin 128 → EReal)

/-- The queries' part: the rotation by the cosines `C` and the signed sines `S` turned back. -/
def gDq (T : Fin 8192) (j : Fin 512) : EReal := q (ix2 T j) * C T (lane j) + q (ix2 T (mate j)) * S T (lane (mate j))

/-- The keys' part. -/
def gDk (T : Fin 8192) (j : Fin 128) : EReal := k (ix2 T j) * C T j + k (ix2 T (mate2 j)) * S T (mate2 j)

/-- The row: queries, keys, values, pooled channels. -/
def gDz (T : Fin 8192) (j : Fin 1280) : EReal :=
  if h : j.val < 512 then gDq q C S T ⟨j.val, h⟩
  else if h' : j.val - 512 < 128 then gDk k C S T ⟨j.val - 512, h'⟩
  else if h'' : j.val - 512 - 128 < 128 then v (ix2 T ⟨j.val - 512 - 128, h''⟩)
  else u (ix2 T ⟨j.val - 512 - 128 - 128, by omega⟩)

end Row

/-! ## The results -/

section Results

variable (z : Fin 8192 → Fin 1280 → EReal) (w : S1280x1024.Idx → EReal) (x : S8192x1024.Idx → EReal) (g : S1x1024.Idx → EReal)
  (ct : S8192x1024.Idx → EReal)

/-- The row of a token. -/
def gRow (T : Fin 8192) (j : Fin 1024) : EReal := x (ix2 T j)

/-- The gradient of the normalized and scaled row. -/
def gDh (T : Fin 8192) (j : Fin 1024) : EReal := ∑ k : Fin 1280, z T k * w (ix2 k j)

/-- The gradient of the input. -/
def gDx (T : Fin 8192) (j : Fin 1024) : EReal := ct (ix2 T j) + Rms.back (gRow x T) (fun k => g (ix2 0 k)) (gDh z w T) j

def outDx : S8192x1024.Idx → EReal := fun y => gDx z w x g ct (y 0) (y 1)

/-- The gradient of the transposed weights. -/
def outDw : S1280x1024.Idx → EReal := fun y => ∑ T, z T (y 0) * (Rms.norm (gRow x T) (y 1) * g (ix2 0 (y 1)))

/-- The gradient of the bias. -/
def outDb : S1x1280.Idx → EReal := fun y => ∑ T, z T (y 1)

/-- The gradient of the scale. -/
def outDg : S1x1024.Idx → EReal := fun y => ∑ T, gDh z w T (y 1) * Rms.norm (gRow x T) (y 1)

end Results

end Cert.Inproj
-- ==== Proof.InprojAngle.lean ====
/- The rotary angles: a token's number times a frequency, and the addition theorem that splits it at a multiple of 512. -/
module

public import proofs.«01_k».proof.Proof.InprojFormulas
public import proofs.«01_k».proof.Proof.RmsReal
public import proofs.«01_k».proof.Proof.Gen.Reference3Ideal.Read

@[expose] public section

set_option maxRecDepth 16384

noncomputable section

open Idealize.ShloMosaic Idealize.ShloMosaic.TcCoe Idealize.SL.Sem

namespace Cert.Inproj

open Cert.Reference3Ideal Cert.Reference3Ideal.Gen Cert.Reference3Ideal.Read

/-- A number as both programs convert it from a word. -/
def num (n : ℕ) : EReal := (((BitVec.ofNat 32 n).toInt : ℝ) : EReal)

theorem num_eq (n : ℕ) (h : n < 2 ^ 31) : num n = ((n : ℝ) : EReal) := by
  unfold num
  rw [BitVec.toInt_eq_toNat_of_lt (by rw [BitVec.toNat_ofNat, Nat.mod_eq_of_lt (by omega)]; omega), BitVec.toNat_ofNat, Nat.mod_eq_of_lt (by omega)]
  norm_cast

/-- The frequency of a pair of lanes. -/
def freq (i : Fin 32) : EReal := val_main_v11 (F := Ideal) (ix1 i)

theorem two_eq : Ideal.ofBits .f32 0x40000000#32 = ((2 : ℝ) : EReal) := by
  simp [Ideal.ofBits, Ideal.ieee, -EReal.coe_mul, -EReal.coe_neg]; norm_num
theorem head_eq : Ideal.ofBits .f32 0x42800000#32 = ((64 : ℝ) : EReal) := by
  simp [Ideal.ofBits, Ideal.ieee, -EReal.coe_mul, -EReal.coe_neg]; norm_num
theorem base_eq : Ideal.ofBits .f32 0x461C4000#32 = ((10000 : ℝ) : EReal) := by
  simp [Ideal.ofBits, Ideal.ieee, -EReal.coe_mul, -EReal.coe_neg]; norm_num
theorem rows_eq : Ideal.ofBits .f32 0x44000000#32 = ((512 : ℝ) : EReal) := by
  simp [Ideal.ofBits, Ideal.ieee, -EReal.coe_mul, -EReal.coe_neg]; norm_num
theorem plus_eq : Ideal.ofBits .f32 0x3F800000#32 = ((1 : ℝ) : EReal) := Rms.one_eq
theorem minus_eq : Ideal.ofBits .f32 0xBF800000#32 = ((-1 : ℝ) : EReal) := by
  simp [Ideal.ofBits, Ideal.ieee, -EReal.coe_mul, -EReal.coe_neg]; norm_num

theorem freq_at (i : Fin 32) : freq i = Ideal.div (Ideal.ofBits .f32 0x3F800000#32)
    (Ideal.pow (Ideal.ofBits .f32 0x461C4000#32) (Ideal.div (0 + Ideal.ofBits .f32 0x40000000#32 * num i.val) (Ideal.ofBits .f32 0x42800000#32))) := by
  unfold freq num
  pointwise [val_main_v11, val_main_v10, val_main_cst_3, val_main_v9, val_main_v8, val_main_cst_2, val_main_v7, val_main_v6, val_main_cst_1,
    val_main_v5, val_main_v4, val_main_cst_0, val_main_v3, val_main_v2, val_main_cst, val_main_v1]
  try rfl

/-- A power of a positive base is positive, so the frequency is real. -/
theorem freq_real (i : Fin 32) : ∃ f : ℝ, freq i = (f : EReal) := by
  rw [freq_at, plus_eq, base_eq, two_eq, head_eq, num_eq _ (by omega), zero_add, ← EReal.coe_mul, Ideal.div_coe (by norm_num), ← EReal.coe_mul, Ideal.pow_coe_coe]
  have h : Real.rpow 10000 (2 * (i.val : ℝ) * (1 / 64)) ≠ 0 := (Real.rpow_pos_of_pos (by norm_num) _).ne'
  rw [Ideal.div_coe h, ← EReal.coe_mul]
  exact ⟨_, rfl⟩

/-- The pair of lanes that a lane of the tables belongs to. -/
def pair (l : Fin 128) : Fin 32 := ⟨l.val % 32, by omega⟩

/-- The sign that goes with a lane's sine. -/
def sign (l : Fin 128) : EReal := Ideal.ofBits .f32 (if l.val % 64 < 32 then 0xBF800000#32 else 0x3F800000#32)

/-- The cosine and the signed sine at a token. -/
def rCos (T : Fin 8192) (l : Fin 128) : EReal := Ideal.cos (num T.val * freq (pair l))
def rSin (T : Fin 8192) (l : Fin 128) : EReal := sign l * Ideal.sin (num T.val * freq (pair l))

theorem sign_real (l : Fin 128) : ∃ s : ℝ, sign l = (s : EReal) := by
  unfold sign
  split_ifs
  · exact ⟨_, minus_eq⟩
  · exact ⟨_, plus_eq⟩

/-- Row `r` of block `b` is token `512 b + r`. -/
theorem angle (b : ℕ) (r : ℕ) (hb : b < 16) (hr : r < 512) (T : Fin 8192) (hT : T.val = b * 512 + r) {f : ℝ} :
    num T.val * (f : EReal) = (((r : ℝ) * f + 512 * (b : ℝ) * f : ℝ) : EReal) := by
  rw [num_eq _ (by omega), hT, ← EReal.coe_mul]
  congr 1
  push_cast
  ring

theorem cos_add (T : Fin 8192) (l : Fin 128) (b r : ℕ) (hb : b < 16) (hr : r < 512) (hT : T.val = b * 512 + r) :
    Ideal.cos (num r * freq (pair l)) * Ideal.cos ((0 + Ideal.ofBits .f32 0x44000000#32 * num b) * freq (pair l))
      - Ideal.sin (num r * freq (pair l)) * Ideal.sin ((0 + Ideal.ofBits .f32 0x44000000#32 * num b) * freq (pair l)) = rCos T l := by
  obtain ⟨f, hf⟩ := freq_real (pair l)
  rw [rCos, hf, angle b r hb hr T hT, rows_eq, num_eq b (by omega), num_eq r (by omega), zero_add]
  simp only [← EReal.coe_mul, Ideal.cos_coe, Ideal.sin_coe, ← EReal.coe_sub]
  rw [Real.cos_add]

theorem sin_add (T : Fin 8192) (l : Fin 128) (b r : ℕ) (hb : b < 16) (hr : r < 512) (hT : T.val = b * 512 + r) :
    sign l * Ideal.sin (num r * freq (pair l)) * Ideal.cos ((0 + Ideal.ofBits .f32 0x44000000#32 * num b) * freq (pair l))
      + sign l * Ideal.cos (num r * freq (pair l)) * Ideal.sin ((0 + Ideal.ofBits .f32 0x44000000#32 * num b) * freq (pair l)) = rSin T l := by
  obtain ⟨f, hf⟩ := freq_real (pair l)
  obtain ⟨s, hs⟩ := sign_real l
  rw [rSin, hf, hs, angle b r hb hr T hT, rows_eq, num_eq b (by omega), num_eq r (by omega), zero_add]
  simp only [← EReal.coe_mul, Ideal.cos_coe, Ideal.sin_coe, ← EReal.coe_add]
  rw [Real.sin_add]
  congr 1
  ring

end Cert.Inproj
-- ==== Proof.InprojRefAt.lean ====
/- The entries of the input projection's reference, operation by operation. -/
module

public import proofs.«01_k».proof.Proof.InprojFormulas
public import proofs.«01_k».proof.Proof.RmsReal
public import proofs.«01_k».proof.Proof.Gen.Reference3Ideal.Read

@[expose] public section

set_option maxRecDepth 16384

noncomputable section

open Idealize.ShloMosaic Idealize.ShloMosaic.TcCoe Idealize.SL.Sem

namespace Cert.Inproj.Ref

open Cert.Reference3Ideal Cert.Reference3Ideal.Gen Cert.Reference3Ideal.Read

variable (x0 : FVec Ideal S8192x512 .f32) (x1 x2 : FVec Ideal S8192x128 .f32) (x3 : FVec Ideal S8192x512 .f32) (x4 x5 : FVec Ideal S8192x1024 .f32)
  (x6 : FVec Ideal S1x1024 .f32) (x7 : FVec Ideal S1x1024x1280 .f32)

/-- The weights the other way round. -/
def flip : S1280x1024.Idx → EReal := fun y => x7 (ix3 0 (y 1) (y 0))

/-! ## The normalization -/

theorem sum_at (T : Fin 8192) : val_main_v21 (F := Ideal) x5 (ix1 T) = ∑ k, gRow x5 T k * gRow x5 T k := by
  unfold gRow
  pointwise [val_main_v21, val_main_v20, val_main_cst_4]

theorem under_at (T : Fin 8192) : val_main_v26 (F := Ideal) x5 (ix2 T 0) = Rms.under (gRow x5 T) := by
  unfold Rms.under Rms.width Rms.eps
  rw [← sum_at]
  pointwise [val_main_v26, val_main_v25, val_main_cst_6, val_main_v24, val_main_v23, val_main_cst_5, val_main_v22]

theorem scale_at (T : Fin 8192) : val_main_v27 (F := Ideal) x5 (ix2 T 0) = Rms.scale (gRow x5 T) :=
  congrArg Ideal.rsqrt (under_at x5 T)

theorem norm_at (T : Fin 8192) (j : Fin 1024) : val_main_v32 (F := Ideal) x5 (ix2 T j) = Rms.norm (gRow x5 T) j := by
  unfold Rms.norm
  rw [← scale_at]
  pointwise [val_main_v32, val_main_v31]
  rfl

theorem h_at (T : Fin 8192) (j : Fin 1024) :
    val_main_v34 (F := Ideal) x5 x6 (ix2 T j) = Rms.norm (gRow x5 T) j * x6 (ix2 0 j) := by
  rw [← norm_at]
  pointwise [val_main_v34, val_main_v33]

/-! ## The sums over columns and over tokens -/

/-- The gradient of the projected rows. -/
def rz (T : Fin 8192) (k : Fin 1280) : EReal := val_main_v114 (F := Ideal) x0 x1 x2 x3 (ix2 T k)

theorem dh_at (T : Fin 8192) (j : Fin 1024) :
    val_main_v119 (F := Ideal) x0 x1 x2 x3 x7 (ix2 T j) = gDh (rz x0 x1 x2 x3) (flip x7) T j := by
  unfold gDh rz flip
  pointwise [val_main_v119, val_main_v0]

theorem dw_at (k : Fin 1280) (j : Fin 1024) : val_main_v140 (F := Ideal) x0 x1 x2 x3 x5 x6 (ix2 k j)
    = ∑ T : Fin 8192, rz x0 x1 x2 x3 T k * (Rms.norm (gRow x5 T) j * x6 (ix2 0 j)) := by
  simp only [← h_at]
  unfold rz
  pointwise [val_main_v140, val_main_v118, val_main_v117]

theorem db_at (k : Fin 1280) : val_main_v116 (F := Ideal) x0 x1 x2 x3 (ix2 0 k) = ∑ T : Fin 8192, rz x0 x1 x2 x3 T k := by
  unfold rz
  pointwise [val_main_v116, val_main_v115, val_main_cst_12]

theorem dg_at (j : Fin 1024) : val_main_v122 (F := Ideal) x0 x1 x2 x3 x5 x7 (ix2 0 j)
    = ∑ T : Fin 8192, gDh (rz x0 x1 x2 x3) (flip x7) T j * Rms.norm (gRow x5 T) j := by
  simp only [← norm_at, ← dh_at]
  pointwise [val_main_v122, val_main_v121, val_main_v120, val_main_cst_13]
  exact Finset.sum_congr rfl fun T _ => mul_comm _ _

/-! ## The gradient of a row -/

/-- The gradient of the normalized row. -/
def dn (T : Fin 8192) (j : Fin 1024) : EReal := gDh (rz x0 x1 x2 x3) (flip x7) T j * x6 (ix2 0 j)

theorem dn_at (T : Fin 8192) (j : Fin 1024) : val_main_v124 (F := Ideal) x0 x1 x2 x3 x6 x7 (ix2 T j) = dn x0 x1 x2 x3 x6 x7 T j := by
  unfold dn
  rw [← dh_at]
  pointwise [val_main_v124, val_main_v123]

theorem q_at (T : Fin 8192) : val_main_v134 (F := Ideal) x0 x1 x2 x3 x5 x6 x7 (ix1 T)
    = Ideal.div ((∑ k, gRow x5 T k * dn x0 x1 x2 x3 x6 x7 T k)
      * (Rms.mhalf * Ideal.div (Rms.scale (gRow x5 T)) (Rms.under (gRow x5 T)))) Rms.width := by
  rw [← scale_at, ← under_at]
  simp only [← dn_at]
  unfold gRow Rms.mhalf Rms.width
  pointwise [val_main_v134, val_main_v133, val_main_v132, val_main_cst_15, val_main_cst_16, val_main_v131, val_main_v127, val_main_v126,
    val_main_cst_14, val_main_v125, val_main_v30, val_main_v29, val_main_cst_7, val_main_v28]
  simp only [Fin.sum_univ_one]

theorem dx_at (T : Fin 8192) (j : Fin 1024) : val_main_v139 (F := Ideal) x0 x1 x2 x3 x4 x5 x6 x7 (ix2 T j)
    = Rms.steps (gRow x5 T) (dn x0 x1 x2 x3 x6 x7 T) (x4 (ix2 T j)) j := by
  unfold Rms.steps
  rw [← q_at, ← scale_at, ← dn_at]
  unfold gRow
  pointwise [val_main_v139, val_main_v138, val_main_v137, val_main_v136, val_main_v135, val_main_v130, val_main_v129, val_main_v128]

end Cert.Inproj.Ref
-- ==== Proof.InprojRefRow.lean ====
/- The reference's gradient of the projected row: the rotation by the token's angle turned back, and the four parts padded and added. -/
module

public import proofs.«01_k».proof.Proof.InprojAngle
public import proofs.«01_k».proof.Proof.InprojRefAt

@[expose] public section

set_option maxRecDepth 16384

noncomputable section

open Idealize.ShloMosaic Idealize.ShloMosaic.TcCoe Idealize.SL.Sem

namespace Cert.Inproj.Ref

open Cert.Reference3Ideal Cert.Reference3Ideal.Gen Cert.Reference3Ideal.Read

variable (x0 : FVec Ideal S8192x512 .f32) (x1 x2 : FVec Ideal S8192x128 .f32) (x3 : FVec Ideal S8192x512 .f32)

/-! ## The angles -/

theorem angle_at (T : Fin 8192) (i : Fin 32) : val_main_v17 (F := Ideal) (ix2 T i) = num T.val * freq i := by
  unfold num freq
  pointwise [val_main_v17, val_main_v16, val_main_v15, val_main_v14, val_main_v13, val_main_v12]
  try rfl

theorem cos_at (T : Fin 8192) (i : Fin 32) : val_main_v18 (F := Ideal) (ix2 T i) = Ideal.cos (num T.val * freq i) :=
  congrArg Ideal.cos (angle_at T i)

theorem sin_at (T : Fin 8192) (i : Fin 32) : val_main_v19 (F := Ideal) (ix2 T i) = Ideal.sin (num T.val * freq i) :=
  congrArg Ideal.sin (angle_at T i)

/-! ## The queries -/

/-- The two columns of a pair, among the queries. -/
def lo (h : Fin 8) (i : Fin 32) : Fin 512 := ⟨h.val * 64 + i.val, by omega⟩
def hi (h : Fin 8) (i : Fin 32) : Fin 512 := ⟨h.val * 64 + (32 + i.val), by omega⟩

theorem qlo_at (T : Fin 8192) (h : Fin 8) (i : Fin 32) : val_main_v104 (F := Ideal) x0 (ix3 T h i)
    = x0 (ix2 T (hi h i)) * Ideal.sin (num T.val * freq i) + x0 (ix2 T (lo h i)) * Ideal.cos (num T.val * freq i) := by
  rw [← cos_at, ← sin_at]
  unfold lo hi
  pointwise [val_main_v104, val_main_v103, val_main_v102, val_main_v95, val_main_v94, val_main_v93, val_main_v92, val_main_v91, val_main_v47, val_main_v46]

theorem qhi_at (T : Fin 8192) (h : Fin 8) (i : Fin 32) : val_main_v101 (F := Ideal) x0 (ix3 T h i)
    = x0 (ix2 T (hi h i)) * Ideal.cos (num T.val * freq i) + (-x0 (ix2 T (lo h i))) * Ideal.sin (num T.val * freq i) := by
  rw [← cos_at, ← sin_at]
  unfold lo hi
  pointwise [val_main_v101, val_main_v100, val_main_v99, val_main_v98, val_main_v97, val_main_v96, val_main_v93, val_main_v92, val_main_v91, val_main_v47,
    val_main_v46]

theorem q_split (T : Fin 8192) (j : Fin 512) : val_main_v112 (F := Ideal) x0 (ix2 T j)
    = if h : j.val % 64 < 32 then val_main_v104 (F := Ideal) x0 (ix3 T ⟨j.val / 64, by omega⟩ ⟨j.val % 64, h⟩)
      else val_main_v101 (F := Ideal) x0 (ix3 T ⟨j.val / 64, by omega⟩ ⟨j.val % 64 - 32, by omega⟩) := by
  pointwise [val_main_v112, val_main_v105]

/-- A sine with the sign of the second half of a head, and with that of the first. -/
theorem plus_sin (l : Fin 128) (h : ¬l.val % 64 < 32) (a s : EReal) : a * (sign l * s) = a * s := by
  rw [sign, if_neg h, plus_eq, EReal.coe_one, one_mul]

theorem minus_sin (l : Fin 128) (h : l.val % 64 < 32) (a s : EReal) : a * (sign l * s) = -a * s := by
  rw [sign, if_pos h, minus_eq, EReal.coe_neg, EReal.coe_one, EReal.neg_mul, one_mul, EReal.neg_mul, mul_comm a, EReal.neg_mul, mul_comm]

theorem q_eq (T : Fin 8192) (j : Fin 512) : val_main_v112 (F := Ideal) x0 (ix2 T j) = gDq x0 rCos rSin T j := by
  rw [q_split, gDq, rCos, rSin]
  split_ifs with h
  · have a : lo ⟨j.val / 64, by omega⟩ ⟨j.val % 64, h⟩ = j := Fin.ext (by unfold lo; dsimp only; omega)
    have b : hi ⟨j.val / 64, by omega⟩ ⟨j.val % 64, h⟩ = mate j := Fin.ext (by unfold hi mate; dsimp only; rw [if_pos h]; omega)
    have d : pair (lane j) = ⟨j.val % 64, h⟩ := Fin.ext (by unfold pair lane; dsimp only; omega)
    have d' : pair (lane (mate j)) = ⟨j.val % 64, h⟩ := Fin.ext (by unfold pair lane mate; dsimp only; rw [if_pos h]; omega)
    rw [qlo_at, a, b, d, d', plus_sin _ (by unfold lane mate; dsimp only; rw [if_pos h]; omega), add_comm]
  · have a : lo ⟨j.val / 64, by omega⟩ ⟨j.val % 64 - 32, by omega⟩ = mate j := Fin.ext (by unfold lo mate; dsimp only; rw [if_neg h]; omega)
    have b : hi ⟨j.val / 64, by omega⟩ ⟨j.val % 64 - 32, by omega⟩ = j := Fin.ext (by unfold hi; dsimp only; omega)
    have d : pair (lane j) = ⟨j.val % 64 - 32, by omega⟩ := Fin.ext (by unfold pair lane; dsimp only; omega)
    have d' : pair (lane (mate j)) = ⟨j.val % 64 - 32, by omega⟩ := Fin.ext (by unfold pair lane mate; dsimp only; rw [if_neg h]; omega)
    rw [qhi_at, a, b, d, d', minus_sin _ (by unfold lane mate; dsimp only; rw [if_neg h]; omega)]

/-! ## The keys -/

/-- The two columns of a pair, among the keys. -/
def lo2 (h : Fin 2) (i : Fin 32) : Fin 128 := ⟨h.val * 64 + i.val, by omega⟩
def hi2 (h : Fin 2) (i : Fin 32) : Fin 128 := ⟨h.val * 64 + (32 + i.val), by omega⟩

theorem klo_at (T : Fin 8192) (h : Fin 2) (i : Fin 32) : val_main_v89 (F := Ideal) x1 (ix3 T h i)
    = x1 (ix2 T (hi2 h i)) * Ideal.sin (num T.val * freq i) + x1 (ix2 T (lo2 h i)) * Ideal.cos (num T.val * freq i) := by
  rw [← cos_at, ← sin_at]
  unfold lo2 hi2
  pointwise [val_main_v89, val_main_v88, val_main_v87, val_main_v80, val_main_v79, val_main_v78, val_main_v77, val_main_v76, val_main_v63, val_main_v62]

theorem khi_at (T : Fin 8192) (h : Fin 2) (i : Fin 32) : val_main_v86 (F := Ideal) x1 (ix3 T h i)
    = x1 (ix2 T (hi2 h i)) * Ideal.cos (num T.val * freq i) + (-x1 (ix2 T (lo2 h i))) * Ideal.sin (num T.val * freq i) := by
  rw [← cos_at, ← sin_at]
  unfold lo2 hi2
  pointwise [val_main_v86, val_main_v85, val_main_v84, val_main_v83, val_main_v82, val_main_v81, val_main_v78, val_main_v77, val_main_v76, val_main_v63,
    val_main_v62]

theorem k_split (T : Fin 8192) (j : Fin 128) : val_main_v109 (F := Ideal) x1 (ix2 T j)
    = if h : j.val % 64 < 32 then val_main_v89 (F := Ideal) x1 (ix3 T ⟨j.val / 64, by omega⟩ ⟨j.val % 64, h⟩)
      else val_main_v86 (F := Ideal) x1 (ix3 T ⟨j.val / 64, by omega⟩ ⟨j.val % 64 - 32, by omega⟩) := by
  pointwise [val_main_v109, val_main_v90]

theorem k_eq (T : Fin 8192) (j : Fin 128) : val_main_v109 (F := Ideal) x1 (ix2 T j) = gDk x1 rCos rSin T j := by
  rw [k_split, gDk, rCos, rSin]
  split_ifs with h
  · have a : lo2 ⟨j.val / 64, by omega⟩ ⟨j.val % 64, h⟩ = j := Fin.ext (by unfold lo2; dsimp only; omega)
    have b : hi2 ⟨j.val / 64, by omega⟩ ⟨j.val % 64, h⟩ = mate2 j := Fin.ext (by unfold hi2 mate2; dsimp only; rw [if_pos h]; omega)
    have d : pair j = ⟨j.val % 64, h⟩ := Fin.ext (by unfold pair; dsimp only; omega)
    have d' : pair (mate2 j) = ⟨j.val % 64, h⟩ := Fin.ext (by unfold pair mate2; dsimp only; rw [if_pos h]; omega)
    rw [klo_at, a, b, d, d', plus_sin _ (by unfold mate2; dsimp only; rw [if_pos h]; omega), add_comm]
  · have a : lo2 ⟨j.val / 64, by omega⟩ ⟨j.val % 64 - 32, by omega⟩ = mate2 j := Fin.ext (by unfold lo2 mate2; dsimp only; rw [if_neg h]; omega)
    have b : hi2 ⟨j.val / 64, by omega⟩ ⟨j.val % 64 - 32, by omega⟩ = j := Fin.ext (by unfold hi2; dsimp only; omega)
    have d : pair j = ⟨j.val % 64 - 32, by omega⟩ := Fin.ext (by unfold pair; dsimp only; omega)
    have d' : pair (mate2 j) = ⟨j.val % 64 - 32, by omega⟩ := Fin.ext (by unfold pair mate2; dsimp only; rw [if_neg h]; omega)
    rw [khi_at, a, b, d, d', minus_sin _ (by unfold mate2; dsimp only; rw [if_neg h]; omega)]

/-! ## The row -/

theorem pad_q (T : Fin 8192) (j : Fin 1280) : val_main_v113 (F := Ideal) x0 (ix2 T j)
    = if h : j.val < 512 then val_main_v112 (F := Ideal) x0 (ix2 T ⟨j.val, h⟩) else 0 := by
  pointwise [val_main_v113, val_main_cst_11]

theorem pad_k (T : Fin 8192) (j : Fin 1280) : val_main_v110 (F := Ideal) x1 (ix2 T j)
    = if h : 512 ≤ j.val ∧ j.val - 512 < 128 then val_main_v109 (F := Ideal) x1 (ix2 T ⟨j.val - 512, h.2⟩) else 0 := by
  pointwise [val_main_v110, val_main_cst_10]

theorem pad_v (T : Fin 8192) (j : Fin 1280) : val_main_v107 (F := Ideal) x2 (ix2 T j)
    = if h : 640 ≤ j.val ∧ j.val - 640 < 128 then x2 (ix2 T ⟨j.val - 640, h.2⟩) else 0 := by
  pointwise [val_main_v107, val_main_cst_9]

theorem pad_u (T : Fin 8192) (j : Fin 1280) : val_main_v106 (F := Ideal) x3 (ix2 T j)
    = if h : 768 ≤ j.val ∧ j.val - 768 < 512 then x3 (ix2 T ⟨j.val - 768, h.2⟩) else 0 := by
  pointwise [val_main_v106, val_main_cst_8]

/-- Each column lies in one of the four parts. -/
theorem rz_eq : rz x0 x1 x2 x3 = gDz x0 x1 x2 x3 rCos rSin := by
  funext T j
  refine (show rz x0 x1 x2 x3 T j = val_main_v106 (F := Ideal) x3 (ix2 T j) + val_main_v107 (F := Ideal) x2 (ix2 T j)
    + val_main_v110 (F := Ideal) x1 (ix2 T j) + val_main_v113 (F := Ideal) x0 (ix2 T j) from rfl).trans ?_
  rw [pad_q, pad_k, pad_v, pad_u, gDz]
  by_cases h : j.val < 512
  · have hk : ¬(512 ≤ j.val ∧ j.val - 512 < 128) := by omega
    have hv : ¬(640 ≤ j.val ∧ j.val - 640 < 128) := by omega
    have hu : ¬(768 ≤ j.val ∧ j.val - 768 < 512) := by omega
    rw [dif_pos h, dif_pos h, dif_neg hk, dif_neg hv, dif_neg hu, q_eq, zero_add, zero_add, zero_add]
  · rw [dif_neg h, dif_neg h, add_zero]
    by_cases h1 : j.val - 512 < 128
    · have hk : 512 ≤ j.val ∧ j.val - 512 < 128 := by omega
      have hv : ¬(640 ≤ j.val ∧ j.val - 640 < 128) := by omega
      have hu : ¬(768 ≤ j.val ∧ j.val - 768 < 512) := by omega
      rw [dif_pos h1, dif_pos hk, dif_neg hv, dif_neg hu, k_eq, zero_add, zero_add]
    · have hk : ¬(512 ≤ j.val ∧ j.val - 512 < 128) := by omega
      rw [dif_neg h1, dif_neg hk, add_zero]
      by_cases h2 : j.val - 512 - 128 < 128
      · have hv : 640 ≤ j.val ∧ j.val - 640 < 128 := by omega
        have hu : ¬(768 ≤ j.val ∧ j.val - 768 < 512) := by omega
        rw [dif_pos h2, dif_pos hv, dif_neg hu, zero_add]
        exact congrArg (fun i => x2 (ix2 T i)) (Fin.ext (by dsimp only; omega))
      · have hv : ¬(640 ≤ j.val ∧ j.val - 640 < 128) := by omega
        have hu : 768 ≤ j.val ∧ j.val - 768 < 512 := by omega
        rw [dif_neg h2, dif_pos hu, dif_neg hv, add_zero]
        exact congrArg (fun i => x3 (ix2 T i)) (Fin.ext (by dsimp only; omega))

end Cert.Inproj.Ref
-- ==== Proof.InprojRef.lean ====
/- The gradients jax writes for the plain input projection are the whole-array formulas, with the rotation by each token's own
   angle. -/
module

public import proofs.«01_k».proof.Proof.InprojRefRow
public import proofs.«01_k».proof.Proof.RmsAny

@[expose] public section

set_option maxRecDepth 16384

noncomputable section

open Idealize.ShloMosaic Idealize.ShloMosaic.TcCoe Idealize.SL.Sem

namespace Cert.Inproj.Ref

open Cert.Kernel3Ideal Cert.Reference3Ideal.Read

variable (x0 : FVec Ideal S8192x512 .f32) (x1 x2 : FVec Ideal S8192x128 .f32) (x3 : FVec Ideal S8192x512 .f32)
  (x4 x5 : FVec Ideal S8192x1024 .f32) (x6 : FVec Ideal S1x1024 .f32) (x7 : FVec Ideal S1x1024x1280 .f32)

/-- The gradient of the input. -/
theorem out0 : val_main_v139 (F := Ideal) x0 x1 x2 x3 x4 x5 x6 x7 = outDx (gDz x0 x1 x2 x3 rCos rSin) (flip x7) x5 x6 x4 := by
  funext y
  idx_vars y
  refine (dx_at x0 x1 x2 x3 x4 x5 x6 x7 _ _).trans ?_
  rw [← rz_eq]
  exact Rms.steps_any _ (fun k => x6 (ix2 0 k)) _ _ _

/-- The gradient of the transposed weights. -/
theorem out1 : val_main_v140 (F := Ideal) x0 x1 x2 x3 x5 x6 = outDw (gDz x0 x1 x2 x3 rCos rSin) x5 x6 := by
  funext y
  idx_vars y
  rw [← rz_eq]
  exact dw_at x0 x1 x2 x3 x5 x6 _ _

/-- The gradient of the bias. -/
theorem out2 : val_main_v116 (F := Ideal) x0 x1 x2 x3 = outDb (gDz x0 x1 x2 x3 rCos rSin) := by
  funext y
  idx_vars y
  obtain rfl : y0 = 0 := Subsingleton.elim _ _
  rw [← rz_eq]
  exact db_at x0 x1 x2 x3 _

/-- The gradient of the scale. -/
theorem out3 : val_main_v122 (F := Ideal) x0 x1 x2 x3 x5 x7 = outDg (gDz x0 x1 x2 x3 rCos rSin) (flip x7) x5 := by
  funext y
  idx_vars y
  obtain rfl : y0 = 0 := Subsingleton.elim _ _
  rw [← rz_eq]
  exact dg_at x0 x1 x2 x3 x5 x7 _

end Cert.Inproj.Ref
-- ==== Proof.InprojStep.lean ====
/- What a grid point of the input projection kernel leaves in its outputs, as formulas of the blocks it reads. -/
module

public import proofs.«01_k».proof.Proof.InprojRope
public import Idealize.ShloMosaic.Lib.Pipeline.ReadBack

@[expose] public section

set_option maxRecDepth 16384

noncomputable section

open Idealize.ShloMosaic Idealize.ShloMosaic.TcCoe Idealize.SL.Sem

namespace Cert.Inproj

open Cert.Kernel3Ideal Cert.Kernel3Ideal.Gen

/-! ## The formulas -/

section Formulas

variable (x0 : Vec Ideal S512x512 .f32) (x1 x2 : Vec Ideal S512x128 .f32) (x3 : Vec Ideal S512x512 .bf16) (x4 : Vec Ideal S4x512x128 .f32)
  (x5 : Vec Ideal S1x2x128 .f32) (x6 : Vec Ideal S1280x1024 .bf16) (x7 : Vec Ideal S512x1024 .f32) (x8 : Vec Ideal S1x1024 .f32)
  (x9 : Vec Ideal S512x1024 .f32)

/-- Row `r` of the block. -/
def row (x : Vec Ideal S512x1024 .f32) (r : Fin 512) (j : Fin 1024) : EReal := x (ix2 r j)

/-- The gradient of the normalized and scaled row. -/
def dh (r : Fin 512) (j : Fin 1024) : EReal := ∑ k : Fin 1280, dz x0 x1 x2 x3 x4 x5 r k * x6 (ix2 k j)

/-- The gradient of the input. -/
def dx : Vec Ideal S512x1024 .f32 := fun y =>
  x9 (ix2 (y 0) (y 1)) + Rms.back (row x7 (y 0)) (fun k => x8 (ix2 0 k)) (dh x0 x1 x2 x3 x4 x5 x6 (y 0)) (y 1)

/-- The running sum of the gradient of the transposed weights, one point further. -/
def dwStep (acc : Vec Ideal S1280x1024 .f32) : Vec Ideal S1280x1024 .f32 := fun y =>
  acc y + ∑ r, dz x0 x1 x2 x3 x4 x5 r (y 0) * (Rms.norm (row x7 r) (y 1) * x8 (ix2 0 (y 1)))

/-- The running sum of the gradient of the bias, one point further. -/
def dbStep (acc : Vec Ideal S1x1280 .f32) : Vec Ideal S1x1280 .f32 := fun y => acc y + ∑ r, dz x0 x1 x2 x3 x4 x5 r (y 1)

/-- The running sum of the gradient of the scale, one point further. -/
def dgStep (acc : Vec Ideal S1x1024 .f32) : Vec Ideal S1x1024 .f32 := fun y =>
  acc y + ∑ r, dh x0 x1 x2 x3 x4 x5 x6 r (y 1) * Rms.norm (row x7 r) (y 1)

end Formulas

/-- A sum over a block is the sum over its upper half and over its lower one. -/
theorem sum_halves (f : Fin 512 → EReal) : ∑ r, f r = ∑ r, f (top r) + ∑ r, f (bot r) := Fin.sum_univ_add (a := 256) (b := 256) f

/-! ## Reading a piece list -/

/-- A rectangle's embedding, in the form that a load of it takes. -/
theorem emb_idx {S : Shape} (r : Rect S) (x : r.shape.Idx) : r.emb x = r.toLoadRect.idx x := rfl

/-- Stores that are blocks of `G` and tile it, over earlier stores, leave `G`. -/
theorem canon_pieces {S : Shape} {e : EltTy} (G : S.Idx → Elt Ideal e) (L M : List (View.Piece (Elt Ideal) S e))
    (h : View.PiecesOf G L) (size : Fin S.rank → ℕ) (hc : View.Piece.tiledL L size = true) : View.canon (L ++ M) = G :=
  funext fun y => View.canon_append_of_piecesOf G M L h y (View.cover_of_tiledL L size hc y)

/-! ## The later points -/

section Points

variable (c : Dev nD) (i : grid0.Coords) (arg1 : Memref sig .tc .vmem S512x512 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S512x512 .bf16) (harg4 : arg4.IsWhole) (arg5 : Memref sig .tc .vmem S4x512x128 .f32) (harg5 : arg5.IsWhole) (arg6 : Memref sig .tc .vmem S1x2x128 .f32) (harg6 : arg6.IsWhole) (arg7 : Memref sig .tc .vmem S1280x1024 .bf16) (harg7 : arg7.IsWhole) (arg8 : Memref sig .tc .vmem S512x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S1280x1024 .f32) (harg12 : arg12.IsWhole) (arg13 : Memref sig .tc .vmem S1x1280 .f32) (harg13 : arg13.IsWhole) (arg14 : Memref sig .tc .vmem S1x1024 .f32) (harg14 : arg14.IsWhole)
variable (x0 : Vec Ideal S512x512 .f32) (x1 x2 : Vec Ideal S512x128 .f32) (x3 : Vec Ideal S512x512 .bf16) (x4 : Vec Ideal S4x512x128 .f32) (x5 : Vec Ideal S1x2x128 .f32) (x6 : Vec Ideal S1280x1024 .bf16) (x7 : Vec Ideal S512x1024 .f32) (x8 : Vec Ideal S1x1024 .f32) (x9 : Vec Ideal S512x1024 .f32)
  (xo11 : Vec Ideal S1280x1024 .f32) (xo12 : Vec Ideal S1x1280 .f32) (xo13 : Vec Ideal S1x1024 .f32)

theorem dx_B (hc0 : ¬cond0_0 i) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo11 xo12 xo13 = dx x0 x1 x2 x3 x4 x5 x6 x7 x8 x9  := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo11 xo12 xo13)]
  unfold kernelRun0_B
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, k0_pay19, k0_pay20, k0_pay24, k0_pay35, k0_pay36, dz_bot_eq]
  rw [dz_top_eq x0 x1 x2 x3 x4 x5 _ _ rfl rfl]
  refine canon_pieces (dx x0 x1 x2 x3 x4 x5 x6 x7 x8 x9) [_, _] [] ?_ S256x1024.size (by sl_kernel_rfl)
  refine ⟨fun z => ?_, fun z => ?_, trivial⟩ <;> idx_vars z
  all_goals pointwise [k0_pay1, k0_pay2, k0_pay3, k0_pay4, k0_pay5, k0_pay21, k0_pay22, k0_pay23, k0_pay37, k0_pay38, k0_pay39, k0_pay40, k0_pay41, k0_pay42, k0_pay43, k0_pay44, k0_pay45, k0_pay46, k0_pay47, k0_pay48, k0_pay49, k0_pay50, k0_pay51, k0_pay52, k0_pay53, dzTop, dzBot, dx, dh, Rms.back, Rms.norm, Rms.scale, Rms.width, Rms.eps, row, top, bot, emb_idx]

theorem dw_B (hc0 : ¬cond0_0 i) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo11 xo12 xo13 = dwStep x0 x1 x2 x3 x4 x5 x7 x8 xo11 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo11 xo12 xo13)]
  unfold kernelRun0_B
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, k0_pay19, k0_pay20, k0_pay24, k0_pay35, k0_pay36, dz_bot_eq]
  rw [dz_top_eq x0 x1 x2 x3 x4 x5 _ _ rfl rfl]
  refine canon_pieces (dwStep x0 x1 x2 x3 x4 x5 x7 x8 xo11) [_, _, _, _, _] [] ?_ S256x1024.size (by sl_kernel_rfl)
  refine ⟨fun z => ?_, fun z => ?_, fun z => ?_, fun z => ?_, fun z => ?_, trivial⟩ <;> idx_vars z
  all_goals
    unfold dwStep
    rw [sum_halves]
    pointwise [k0_pay1, k0_pay2, k0_pay3, k0_pay4, k0_pay5, k0_pay21, k0_pay22, k0_pay23, k0_pay37, k0_pay38, k0_pay39, k0_pay40, k0_pay41, k0_pay42, k0_pay43, k0_pay44, k0_pay45, k0_pay46, k0_pay47, k0_pay48, k0_pay49, k0_pay50, k0_pay51, k0_pay52, k0_pay53, dzTop, dzBot, Rms.back, Rms.norm, Rms.scale, Rms.width, Rms.eps, row, top, bot, emb_idx]

theorem db_B (hc0 : ¬cond0_0 i) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo11 xo12 xo13 = dbStep x0 x1 x2 x3 x4 x5 xo12 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo11 xo12 xo13)]
  unfold kernelRun0_B
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, k0_pay19, k0_pay20, k0_pay24, k0_pay35, k0_pay36, dz_bot_eq]
  rw [dz_top_eq x0 x1 x2 x3 x4 x5 _ _ rfl rfl]
  refine canon_pieces (dbStep x0 x1 x2 x3 x4 x5 xo12) [_] _ ?_ S1x1280.size (by sl_kernel_rfl)
  refine ⟨fun z => ?_, trivial⟩ <;> idx_vars z
  unfold dbStep
  rw [sum_halves, ← add_assoc]
  pointwise [k0_pay1, k0_pay2, k0_pay3, k0_pay4, k0_pay5, k0_pay21, k0_pay22, k0_pay23, k0_pay37, k0_pay38, k0_pay39, k0_pay40, k0_pay41, k0_pay42, k0_pay43, k0_pay44, k0_pay45, k0_pay46, k0_pay47, k0_pay48, k0_pay49, k0_pay50, k0_pay51, k0_pay52, k0_pay53, dzTop, dzBot, Rms.back, Rms.norm, Rms.scale, Rms.width, Rms.eps, row, top, bot, emb_idx]

theorem dg_B (hc0 : ¬cond0_0 i) :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo11 xo12 xo13 = dgStep x0 x1 x2 x3 x4 x5 x6 x7 xo13 := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 xo11 xo12 xo13)]
  unfold kernelRun0_B
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, k0_pay19, k0_pay20, k0_pay24, k0_pay35, k0_pay36, dz_bot_eq]
  rw [dz_top_eq x0 x1 x2 x3 x4 x5 _ _ rfl rfl]
  refine canon_pieces (dgStep x0 x1 x2 x3 x4 x5 x6 x7 xo13) [_] _ ?_ S1x1024.size (by sl_kernel_rfl)
  refine ⟨fun z => ?_, trivial⟩ <;> idx_vars z
  unfold dgStep
  rw [sum_halves, ← add_assoc]
  pointwise [k0_pay1, k0_pay2, k0_pay3, k0_pay4, k0_pay5, k0_pay21, k0_pay22, k0_pay23, k0_pay37, k0_pay38, k0_pay39, k0_pay40, k0_pay41, k0_pay42, k0_pay43, k0_pay44, k0_pay45, k0_pay46, k0_pay47, k0_pay48, k0_pay49, k0_pay50, k0_pay51, k0_pay52, k0_pay53, dzTop, dzBot, dh, Rms.back, Rms.norm, Rms.scale, Rms.width, Rms.eps, row, top, bot, emb_idx]

end Points

end Cert.Inproj
-- ==== Proof.InprojFirst.lean ====
/- What the first grid point of the input projection kernel leaves: the same formulas, over zeros. -/
module

public import proofs.«01_k».proof.Proof.InprojStep

@[expose] public section

set_option maxRecDepth 16384

noncomputable section

open Idealize.ShloMosaic Idealize.ShloMosaic.TcCoe Idealize.SL.Sem

namespace Cert.Inproj

open Cert.Kernel3Ideal Cert.Kernel3Ideal.Gen

section Points

variable (c : Dev nD) (i : grid0.Coords) (arg1 : Memref sig .tc .vmem S512x512 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S512x512 .bf16) (harg4 : arg4.IsWhole) (arg5 : Memref sig .tc .vmem S4x512x128 .f32) (harg5 : arg5.IsWhole) (arg6 : Memref sig .tc .vmem S1x2x128 .f32) (harg6 : arg6.IsWhole) (arg7 : Memref sig .tc .vmem S1280x1024 .bf16) (harg7 : arg7.IsWhole) (arg8 : Memref sig .tc .vmem S512x1024 .f32) (harg8 : arg8.IsWhole) (arg9 : Memref sig .tc .vmem S1x1024 .f32) (harg9 : arg9.IsWhole) (arg10 : Memref sig .tc .vmem S512x1024 .f32) (harg10 : arg10.IsWhole) (arg11 : Memref sig .tc .vmem S512x1024 .f32) (harg11 : arg11.IsWhole) (arg12 : Memref sig .tc .vmem S1280x1024 .f32) (harg12 : arg12.IsWhole) (arg13 : Memref sig .tc .vmem S1x1280 .f32) (harg13 : arg13.IsWhole) (arg14 : Memref sig .tc .vmem S1x1024 .f32) (harg14 : arg14.IsWhole)
variable (x0 : Vec Ideal S512x512 .f32) (x1 x2 : Vec Ideal S512x128 .f32) (x3 : Vec Ideal S512x512 .bf16) (x4 : Vec Ideal S4x512x128 .f32) (x5 : Vec Ideal S1x2x128 .f32) (x6 : Vec Ideal S1280x1024 .bf16) (x7 : Vec Ideal S512x1024 .f32) (x8 : Vec Ideal S1x1024 .f32) (x9 : Vec Ideal S512x1024 .f32)
  (xo11 : Vec Ideal S1280x1024 .f32) (xo12 : Vec Ideal S1x1280 .f32) (xo13 : Vec Ideal S1x1024 .f32)

theorem dx_A (hc0 : cond0_0 i) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = dx x0 x1 x2 x3 x4 x5 x6 x7 x8 x9  := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, k0_pay19, k0_pay20, k0_pay24, k0_pay35, k0_pay36, dz_bot_eq]
  rw [dz_top_eq x0 x1 x2 x3 x4 x5 _ _ rfl rfl]
  refine canon_pieces (dx x0 x1 x2 x3 x4 x5 x6 x7 x8 x9) [_, _] [] ?_ S256x1024.size (by sl_kernel_rfl)
  refine ⟨fun z => ?_, fun z => ?_, trivial⟩ <;> idx_vars z
  all_goals pointwise [k0_pay1, k0_pay2, k0_pay3, k0_pay4, k0_pay5, k0_pay21, k0_pay22, k0_pay23, k0_pay37, k0_pay38, k0_pay39, k0_pay40, k0_pay41, k0_pay42, k0_pay43, k0_pay44, k0_pay45, k0_pay46, k0_pay47, k0_pay48, k0_pay49, k0_pay50, k0_pay51, k0_pay52, k0_pay53, dzTop, dzBot, dx, dh, Rms.back, Rms.norm, Rms.scale, Rms.width, Rms.eps, row, top, bot, emb_idx]

theorem dw_A (hc0 : cond0_0 i) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = dwStep x0 x1 x2 x3 x4 x5 x7 x8 (fun _ => 0) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, k0_pay19, k0_pay20, k0_pay24, k0_pay35, k0_pay36, dz_bot_eq]
  rw [dz_top_eq x0 x1 x2 x3 x4 x5 _ _ rfl rfl]
  refine canon_pieces (dwStep x0 x1 x2 x3 x4 x5 x7 x8 (fun _ => 0)) [_, _, _, _, _] [_] ?_ S256x1024.size (by sl_kernel_rfl)
  refine ⟨fun z => ?_, fun z => ?_, fun z => ?_, fun z => ?_, fun z => ?_, trivial⟩ <;> idx_vars z
  all_goals
    unfold dwStep
    rw [sum_halves]
    pointwise [k0_pay1, k0_pay2, k0_pay3, k0_pay4, k0_pay5, k0_pay21, k0_pay22, k0_pay23, k0_pay37, k0_pay38, k0_pay39, k0_pay40, k0_pay41, k0_pay42, k0_pay43, k0_pay44, k0_pay45, k0_pay46, k0_pay47, k0_pay48, k0_pay49, k0_pay50, k0_pay51, k0_pay52, k0_pay53, dzTop, dzBot, Rms.back, Rms.norm, Rms.scale, Rms.width, Rms.eps, row, top, bot, emb_idx]

theorem db_A (hc0 : cond0_0 i) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = dbStep x0 x1 x2 x3 x4 x5 (fun _ => 0) := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, k0_pay19, k0_pay20, k0_pay24, k0_pay35, k0_pay36, dz_bot_eq]
  rw [dz_top_eq x0 x1 x2 x3 x4 x5 _ _ rfl rfl]
  refine canon_pieces (dbStep x0 x1 x2 x3 x4 x5 (fun _ => 0)) [_] _ ?_ S1x1280.size (by sl_kernel_rfl)
  refine ⟨fun z => ?_, trivial⟩ <;> idx_vars z
  unfold dbStep
  rw [sum_halves, ← add_assoc]
  pointwise [k0_pay1, k0_pay2, k0_pay3, k0_pay4, k0_pay5, k0_pay21, k0_pay22, k0_pay23, k0_pay37, k0_pay38, k0_pay39, k0_pay40, k0_pay41, k0_pay42, k0_pay43, k0_pay44, k0_pay45, k0_pay46, k0_pay47, k0_pay48, k0_pay49, k0_pay50, k0_pay51, k0_pay52, k0_pay53, dzTop, dzBot, Rms.back, Rms.norm, Rms.scale, Rms.width, Rms.eps, row, top, bot, emb_idx]

theorem dg_A (hc0 : cond0_0 i) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 = dgStep x0 x1 x2 x3 x4 x5 x6 x7 (fun _ => 0) := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9)]
  unfold kernelRun0_A
  dsimp only
  sl_unfold_words
  simp (disch := decide) only [↓View.readCov_skip, ↓View.readCov_fill, View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, k0_pay19, k0_pay20, k0_pay24, k0_pay35, k0_pay36, dz_bot_eq]
  rw [dz_top_eq x0 x1 x2 x3 x4 x5 _ _ rfl rfl]
  refine canon_pieces (dgStep x0 x1 x2 x3 x4 x5 x6 x7 (fun _ => 0)) [_] _ ?_ S1x1024.size (by sl_kernel_rfl)
  refine ⟨fun z => ?_, trivial⟩ <;> idx_vars z
  unfold dgStep
  rw [sum_halves, ← add_assoc]
  pointwise [k0_pay1, k0_pay2, k0_pay3, k0_pay4, k0_pay5, k0_pay21, k0_pay22, k0_pay23, k0_pay37, k0_pay38, k0_pay39, k0_pay40, k0_pay41, k0_pay42, k0_pay43, k0_pay44, k0_pay45, k0_pay46, k0_pay47, k0_pay48, k0_pay49, k0_pay50, k0_pay51, k0_pay52, k0_pay53, dzTop, dzBot, dh, Rms.back, Rms.norm, Rms.scale, Rms.width, Rms.eps, row, top, bot, emb_idx]

end Points

end Cert.Inproj
-- ==== Proof.InprojAcc.lean ====
/- What the buffers of the input projection kernel hold after each grid point, and the blocks of the arrays a point reads. -/
module

public import proofs.«01_k».proof.Proof.InprojFirst
public import proofs.«01_k».proof.Proof.InprojStep
public import proofs.«01_k».proof.Proof.Sums
public import Idealize.ShloMosaic.Lib.Pipeline.ValueKit

@[expose] public section

set_option maxRecDepth 16384

noncomputable section

open Idealize.ShloMosaic Idealize.ShloMosaic.TcCoe Idealize.SL.Sem

namespace Cert.Inproj

open Cert.Kernel3Ideal Cert.Kernel3Ideal.Gen Cert.Sums

variable (m : (ℓ : Loc nD τ sig) → Buf (Elt Ideal) ℓ) (c : Dev nD)

/-! ## After each point -/

section Run

variable (t : Fin cfg0.N)

/-! The blocks a point reads. -/

abbrev X0 : Vec Ideal S512x512 .f32 := iblk m c 0 t
abbrev X1 : Vec Ideal S512x128 .f32 := iblk m c 1 t
abbrev X2 : Vec Ideal S512x128 .f32 := iblk m c 2 t
abbrev X3 : Vec Ideal S512x512 .bf16 := iblk m c 3 t
abbrev X4 : Vec Ideal S4x512x128 .f32 := iblk m c 4 t
abbrev X5 : Vec Ideal S1x2x128 .f32 := iblk m c 5 t
abbrev X6 : Vec Ideal S1280x1024 .bf16 := iblk m c 6 t
abbrev X7 : Vec Ideal S512x1024 .f32 := iblk m c 7 t
abbrev X8 : Vec Ideal S1x1024 .f32 := iblk m c 8 t
abbrev X9 : Vec Ideal S512x1024 .f32 := iblk m c 9 t

def ptDx (t : Fin cfg0.N) : Vec Ideal S512x1024 .f32 :=
  dx (X0 m c t) (X1 m c t) (X2 m c t) (X3 m c t) (X4 m c t) (X5 m c t) (X6 m c t) (X7 m c t) (X8 m c t) (X9 m c t)
def ptDw (t : Fin cfg0.N) (a : S1280x1024.Idx → EReal) : S1280x1024.Idx → EReal :=
  dwStep (X0 m c t) (X1 m c t) (X2 m c t) (X3 m c t) (X4 m c t) (X5 m c t) (X7 m c t) (X8 m c t) a
def ptDb (t : Fin cfg0.N) (a : S1x1280.Idx → EReal) : S1x1280.Idx → EReal :=
  dbStep (X0 m c t) (X1 m c t) (X2 m c t) (X3 m c t) (X4 m c t) (X5 m c t) a
def ptDg (t : Fin cfg0.N) (a : S1x1024.Idx → EReal) : S1x1024.Idx → EReal :=
  dgStep (X0 m c t) (X1 m c t) (X2 m c t) (X3 m c t) (X4 m c t) (X5 m c t) (X6 m c t) (X7 m c t) a

theorem dw_steps (t : Fin cfg0.N) : Steps (ptDw m c t) := fun a y => by simp only [ptDw, dwStep, zero_add]
theorem db_steps (t : Fin cfg0.N) : Steps (ptDb m c t) := fun a y => by simp only [ptDb, dbStep, zero_add]
theorem dg_steps (t : Fin cfg0.N) : Steps (ptDg m c t) := fun a y => by simp only [ptDg, dgStep, zero_add]

/-- What the outputs hold after point `n`. -/
structure After (n : ℕ) (h : n < cfg0.N) : Prop where
  x : (outsAt0 m c n h).1 = ptDx m c ⟨n, h⟩
  w : (outsAt0 m c n h).2.1 = upTo (ptDw m c) n h
  b : (outsAt0 m c n h).2.2.1 = upTo (ptDb m c) n h
  g : (outsAt0 m c n h).2.2.2 = upTo (ptDg m c) n h

theorem after_first (h : 0 < cfg0.N) : After m c 0 h := by
  have e := outsAt0_A m c ⟨0, h⟩ rfl
  rw [dx_A, dw_A, db_A, dg_A] at e
  exact ⟨(congrArg (·.1) e).trans rfl, (congrArg (·.2.1) e).trans (upTo_zero (ptDw m c) h), (congrArg (·.2.2.1) e).trans (upTo_zero (ptDb m c) h),
    (congrArg (·.2.2.2) e).trans (upTo_zero (ptDg m c) h)⟩

theorem after_later (n : ℕ) (h : n + 1 < cfg0.N) (ih : After m c n (by omega)) : After m c (n + 1) h := by
  have hN : cfg0.N = 16 := N_0
  have h0 : ¬(⟨n + 1, h⟩ : Fin cfg0.N).val % 16 = 0 := by dsimp only; omega
  have e := outsAt0_B m c ⟨n + 1, h⟩ h0
  rw [dx_B, dw_B, db_B, dg_B] at e
  simp only [Nat.add_sub_cancel, ih.w, ih.b, ih.g] at e
  exact ⟨(congrArg (·.1) e).trans rfl, (congrArg (·.2.1) e).trans (upTo_succ _ (dw_steps m c) n h), (congrArg (·.2.2.1) e).trans (upTo_succ _ (db_steps m c) n h),
    (congrArg (·.2.2.2) e).trans (upTo_succ _ (dg_steps m c) n h)⟩

theorem after : ∀ (n : ℕ) (h : n < cfg0.N), After m c n h
  | 0, h => after_first m c h
  | n + 1, h => after_later m c n h (after n (by omega))

end Run

/-! ## The blocks within the arrays -/

/-- The token at row `r` of point `t`. -/
def tok (t : Fin cfg0.N) (r : Fin 512) : Fin 8192 := ⟨t.val * 512 + r.val, by have h : t.val < 16 := lt_of_lt_of_eq t.isLt N_0; omega⟩

/-- The point, as a row of the table of starts. -/
def start (t : Fin cfg0.N) : Fin 16 := ⟨t.val, lt_of_lt_of_eq t.isLt N_0⟩

theorem index_rows : ∀ t : Fin grid0.N, win0_0.index t = ![t.val, 0] ∧ win0_1.index t = ![t.val, 0]
    ∧ win0_2.index t = ![t.val, 0] ∧ win0_3.index t = ![t.val, 0] ∧ win0_4.index t = ![0, 0, 0] ∧ win0_5.index t = ![t.val, 0, 0]
    ∧ win0_6.index t = ![0, 0] ∧ win0_7.index t = ![t.val, 0] ∧ win0_8.index t = ![0, 0] ∧ win0_9.index t = ![t.val, 0]
    ∧ win0_10.index t = ![t.val, 0] := by
  decide +kernel

variable (t : Fin cfg0.N)

theorem X0_apply (r : Fin 512) (k : Fin 512) : X0 m c t (ix2 r k) = V m c main_arg0 (ix2 (tok t r) k) := by
  show iblk m c 0 t _ = _
  blk_ext [iblk, index_rows t, tok]

theorem X1_apply (r : Fin 512) (k : Fin 128) : X1 m c t (ix2 r k) = V m c main_arg1 (ix2 (tok t r) k) := by
  show iblk m c 1 t _ = _
  blk_ext [iblk, index_rows t, tok]

theorem X2_apply (r : Fin 512) (k : Fin 128) : X2 m c t (ix2 r k) = V m c main_arg2 (ix2 (tok t r) k) := by
  show iblk m c 2 t _ = _
  blk_ext [iblk, index_rows t, tok]

theorem X3_apply (r : Fin 512) (k : Fin 512) : X3 m c t (ix2 r k) = V m c main_v53 (ix2 (tok t r) k) := by
  show iblk m c 3 t _ = _
  blk_ext [iblk, index_rows t, tok]

theorem X4_apply (a : Fin 4) (r : Fin 512) (l : Fin 128) : X4 m c t (ix3 a r l) = V m c main_v47 (ix3 a r l) := by
  show iblk m c 4 t _ = _
  blk_ext [iblk, index_rows t]

theorem X5_apply (a : Fin 2) (l : Fin 128) : X5 m c t (ix3 0 a l) = V m c main_v52 (ix3 (start t) a l) := by
  show iblk m c 5 t _ = _
  blk_ext [iblk, index_rows t, start]

theorem X6_apply (k : Fin 1280) (j : Fin 1024) : X6 m c t (ix2 k j) = V m c main_v56 (ix2 k j) := by
  show iblk m c 6 t _ = _
  blk_ext [iblk, index_rows t]

theorem X7_apply (r : Fin 512) (j : Fin 1024) : X7 m c t (ix2 r j) = V m c main_arg5 (ix2 (tok t r) j) := by
  show iblk m c 7 t _ = _
  blk_ext [iblk, index_rows t, tok]

theorem X8_apply (j : Fin 1024) : X8 m c t (ix2 0 j) = V m c main_arg6 (ix2 0 j) := by
  show iblk m c 8 t _ = _
  blk_ext [iblk, index_rows t]

theorem X9_apply (r : Fin 512) (j : Fin 1024) : X9 m c t (ix2 r j) = V m c main_arg4 (ix2 (tok t r) j) := by
  show iblk m c 9 t _ = _
  blk_ext [iblk, index_rows t, tok]

end Cert.Inproj
-- ==== Proof.InprojArrays.lean ====
/- The four arrays the input projection kernel leaves, as formulas of the arrays it reads. -/
module

public import proofs.«01_k».proof.Proof.InprojAcc
public import proofs.«01_k».proof.Proof.InprojFormulas

@[expose] public section

set_option maxRecDepth 16384

noncomputable section

open Idealize.ShloMosaic Idealize.ShloMosaic.TcCoe Idealize.SL.Sem

namespace Cert.Inproj

open Cert.Kernel3Ideal Cert.Kernel3Ideal.Gen Cert.Sums

/-! ## The tables at a token -/

/-- A token's place within its block of 512, and the block. -/
def within (T : Fin 8192) : Fin 512 := ⟨T.val % 512, by omega⟩
def block (T : Fin 8192) : Fin 16 := ⟨T.val / 512, by omega⟩

section Tables

variable (tab : S4x512x128.Idx → EReal) (st : S16x2x128.Idx → EReal)

/-- The cosine and the signed sine at a token, from the table of places and the table of blocks by the addition theorem. -/
def kCos (T : Fin 8192) (l : Fin 128) : EReal :=
  tab (ix3 0 (within T) l) * st (ix3 (block T) 0 l) - tab (ix3 1 (within T) l) * st (ix3 (block T) 1 l)
def kSin (T : Fin 8192) (l : Fin 128) : EReal :=
  tab (ix3 2 (within T) l) * st (ix3 (block T) 0 l) + tab (ix3 3 (within T) l) * st (ix3 (block T) 1 l)

end Tables

theorem within_tok (t : Fin cfg0.N) (r : Fin 512) : within (tok t r) = r := Fin.ext (by unfold within tok; dsimp only; omega)
theorem block_tok (t : Fin cfg0.N) (r : Fin 512) : block (tok t r) = start t := Fin.ext (by unfold block tok start; dsimp only; omega)

variable (m : (ℓ : Loc nD τ sig) → Buf (Elt Ideal) ℓ) (c : Dev nD)

/-! The arrays the kernel reads. -/

abbrev A0 : S8192x512.Idx → EReal := V m c main_arg0
abbrev A1 : S8192x128.Idx → EReal := V m c main_arg1
abbrev A2 : S8192x128.Idx → EReal := V m c main_arg2
abbrev A3 : S8192x512.Idx → EReal := V m c main_v53
abbrev A4 : S4x512x128.Idx → EReal := V m c main_v47
abbrev A5 : S16x2x128.Idx → EReal := V m c main_v52
abbrev A6 : S1280x1024.Idx → EReal := V m c main_v56
abbrev A7 : S8192x1024.Idx → EReal := V m c main_arg5
abbrev A8 : S1x1024.Idx → EReal := V m c main_arg6
abbrev A9 : S8192x1024.Idx → EReal := V m c main_arg4

/-- The gradient of the projected rows. -/
def kDz : Fin 8192 → Fin 1280 → EReal := gDz (A0 m c) (A1 m c) (A2 m c) (A3 m c) (kCos (A4 m c) (A5 m c)) (kSin (A4 m c) (A5 m c))

/-! ## A point's formulas are the arrays' -/

section Point

variable (t : Fin cfg0.N) (r : Fin 512)

theorem cos_eq (l : Fin 128) : cosAt (X4 m c t) (X5 m c t) r l = kCos (A4 m c) (A5 m c) (tok t r) l := by
  simp only [cosAt, kCos, X4_apply, X5_apply, within_tok, block_tok]

theorem sin_eq (l : Fin 128) : sinAt (X4 m c t) (X5 m c t) r l = kSin (A4 m c) (A5 m c) (tok t r) l := by
  simp only [sinAt, kSin, X4_apply, X5_apply, within_tok, block_tok]

theorem dq_eq (j : Fin 512) : dqAt (X0 m c t) (X4 m c t) (X5 m c t) r j
    = gDq (A0 m c) (kCos (A4 m c) (A5 m c)) (kSin (A4 m c) (A5 m c)) (tok t r) j := by
  simp only [dqAt, gDq, X0_apply, cos_eq, sin_eq]

theorem dk_eq (j : Fin 128) : dkAt (X1 m c t) (X4 m c t) (X5 m c t) r j
    = gDk (A1 m c) (kCos (A4 m c) (A5 m c)) (kSin (A4 m c) (A5 m c)) (tok t r) j := by
  simp only [dkAt, gDk, X1_apply, cos_eq, sin_eq]

theorem dz_eq (j : Fin 1280) : dz (X0 m c t) (X1 m c t) (X2 m c t) (X3 m c t) (X4 m c t) (X5 m c t) r j = kDz m c (tok t r) j := by
  simp only [dz, kDz, gDz, dq_eq, dk_eq, X2_apply, X3_apply]

theorem row_eq (x : Vec Ideal S512x1024 .f32) (h : x = X7 m c t) : row x r = gRow (A7 m c) (tok t r) := by
  subst h
  funext j
  exact X7_apply m c t r j

theorem scale_eq : (fun k => X8 m c t (ix2 0 k)) = fun k => A8 m c (ix2 0 k) := funext fun k => X8_apply m c t k

theorem dh_eq : dh (X0 m c t) (X1 m c t) (X2 m c t) (X3 m c t) (X4 m c t) (X5 m c t) (X6 m c t) r = gDh (kDz m c) (A6 m c) (tok t r) := by
  funext j
  simp only [dh, gDh, dz_eq, X6_apply]

theorem dx_eq (j : Fin 1024) : ptDx m c t (ix2 r j) = gDx (kDz m c) (A6 m c) (A7 m c) (A8 m c) (A9 m c) (tok t r) j := by
  refine (show _ = X9 m c t (ix2 r j) + Rms.back (row (X7 m c t) r) (fun k => X8 m c t (ix2 0 k))
    (dh (X0 m c t) (X1 m c t) (X2 m c t) (X3 m c t) (X4 m c t) (X5 m c t) (X6 m c t) r) j from rfl).trans ?_
  rw [row_eq m c t r _ rfl, dh_eq, scale_eq, X9_apply, gDx]

end Point

theorem lt15 : 15 < cfg0.N := by rw [show cfg0.N = 16 from N_0]; omega

theorem sum_tokens (f : Fin 8192 → EReal) : ∑ t : Fin (15 + 1), ∑ r : Fin 512, f (tok ⟨t.val, by have := lt15; omega⟩ r) = ∑ T : Fin 8192, f T :=
  sum_rows 16 512 8192 (by norm_num) f (fun t r => tok ⟨t.val, by have := lt15; omega⟩ r) fun _ _ => rfl

theorem upTo_w : upTo (ptDw m c) 15 lt15 = outDw (kDz m c) (A7 m c) (A8 m c) := by
  funext y
  refine Eq.trans ?_ (sum_tokens _)
  exact Finset.sum_congr rfl fun t _ => (zero_add _).trans (Finset.sum_congr rfl fun r _ =>
    congrArg₂ (· * ·) (dz_eq m c _ r (y 0)) (congrArg₂ (· * ·) (by rw [row_eq m c _ r _ rfl]) (X8_apply m c _ (y 1))))

theorem upTo_b : upTo (ptDb m c) 15 lt15 = outDb (kDz m c) := by
  funext y
  refine Eq.trans ?_ (sum_tokens _)
  exact Finset.sum_congr rfl fun t _ => (zero_add _).trans (Finset.sum_congr rfl fun r _ => dz_eq m c _ r (y 1))

theorem upTo_g : upTo (ptDg m c) 15 lt15 = outDg (kDz m c) (A6 m c) (A7 m c) := by
  funext y
  refine Eq.trans ?_ (sum_tokens _)
  exact Finset.sum_congr rfl fun t _ => (zero_add _).trans (Finset.sum_congr rfl fun r _ => by rw [dh_eq, row_eq m c _ r _ rfl])

/-! ## The arrays -/

theorem place10 (t : Fin cfg0.N) (y : S512x1024.Idx) : (win0_10.blk t).view.emb y = ix2 (tok t (y 0)) (y 1) := by
  blk_ext [index_rows t, tok]

theorem final10 : (dats m 0 c).arrAt 10 cfg0.N = outDx (kDz m c) (A6 m c) (A7 m c) (A8 m c) (A9 m c) := by
  refine (dats m 0 c).arrAt_eq_of_covers 10 _ (by decide +kernel) fun t hf y => ?_
  blk_simp
  rw [after0_10, (after m c t.val t.isLt).x]
  refine Eq.trans ?_ (congrArg (outDx (kDz m c) (A6 m c) (A7 m c) (A8 m c) (A9 m c)) (place10 t y)).symm
  idx_vars y
  exact dx_eq m c t _ _

/-- The last point. -/
def tl : Fin cfg0.N := ⟨15, lt15⟩

theorem final11 : (dats m 0 c).arrAt 11 cfg0.N = outDw (kDz m c) (A7 m c) (A8 m c) := by
  refine (dats m 0 c).arrAt_eq_of_after_last 11 tl (by decide +kernel) _ fun j => ?_
  blk_simp
  rw [after0_11, (after m c _ _).w]
  exact congrFun (upTo_w m c) j

theorem final12 : (dats m 0 c).arrAt 12 cfg0.N = outDb (kDz m c) := by
  refine (dats m 0 c).arrAt_eq_of_after_last 12 tl (by decide +kernel) _ fun j => ?_
  blk_simp
  rw [after0_12, (after m c _ _).b]
  exact congrFun (upTo_b m c) j

theorem final13 : (dats m 0 c).arrAt 13 cfg0.N = outDg (kDz m c) (A6 m c) (A7 m c) := by
  refine (dats m 0 c).arrAt_eq_of_after_last 13 tl (by decide +kernel) _ fun j => ?_
  blk_simp
  rw [after0_13, (after m c _ _).g]
  exact congrFun (upTo_g m c) j

end Cert.Inproj
-- ==== Proof.InprojTables.lean ====
/- The two tables of cosines and sines that the kernel is given, as the host forms them, and their entries. -/
module

public import proofs.«01_k».proof.Proof.InprojAngle
public import proofs.«01_k».proof.Proof.InprojArrays

@[expose] public section

set_option maxRecDepth 16384

noncomputable section

open Idealize.ShloMosaic Idealize.ShloMosaic.TcCoe Idealize.SL.Sem

namespace Cert.Inproj

open Cert.Kernel3Ideal Cert.Kernel3Ideal.Gen

/-! ## The lanes' frequencies and signs -/

/-- The frequencies, four times over: two heads of two halves. -/
def tFreq : FVec Ideal S128 .f32 :=
  shapeCast _ (broadcastInDim S4x32 ![0, 1] bcast_S1x32_S4x32_0_1
    (shapeCast S1x32 (Cert.Reference3Ideal.Read.val_main_v11 (F := Ideal)) shapeCasts_S32_S1x32)) shapeCasts_S4x32_S128

/-- The signs: minus on the first half of a head, plus on the second. -/
def tPair : FVec Ideal S2 .f32 := fun i => FloatOps.ofBits .f32 (lit0 (S2.rowMajor i))
def tSign : FVec Ideal S128 .f32 :=
  shapeCast _ (broadcastInDim S2x64 ![0, 1] bcast_S1x64_S2x64_0_1
    (shapeCast S1x64 (shapeCast S64 (broadcastInDim S2x32 ![0] bcast_S2_S2x32_0 tPair) shapeCasts_S2x32_S64) shapeCasts_S64_S1x64)) shapeCasts_S2x64_S128

theorem tFreq_at (l : Fin 128) : tFreq (ix1 l) = freq (pair l) := by
  unfold freq pair
  pointwise [tFreq]
  try rfl

theorem tPair_at (i : Fin 2) : tPair (ix1 i) = Ideal.ofBits .f32 (if i.val < 1 then 0xBF800000#32 else 0x3F800000#32) := by
  match i with
  | 0 => rfl
  | 1 => rfl

theorem tSign_at (l : Fin 128) : tSign (ix1 l) = sign l := by
  have e : tSign (ix1 l) = tPair (ix1 ⟨l.val % 64 / 32, by omega⟩) := by
    pointwise [tSign]
    try rfl
  rw [e, tPair_at, sign]
  congr 1
  dsimp only
  split_ifs <;> first | rfl | omega

/-! ## The table of places -/

def tIn : FVec Ideal S512x128 .f32 :=
  mulf (broadcastInDim S512x128 ![0, 1] bcast_S512x1_S512x128_0_1 (broadcastInDim S512x1 ![0] bcast_S512_S512x1_0 (sitofp .f32 (iotaInDim S512 32 0))))
    (broadcastInDim S512x128 ![0, 1] bcast_S1x128_S512x128_0_1 (broadcastInDim S1x128 ![1] bcast_S128_S1x128_1 tFreq))

def tSigns : FVec Ideal S512x128 .f32 :=
  broadcastInDim S512x128 ![0, 1] bcast_S1x128_S512x128_0_1 (broadcastInDim S1x128 ![1] bcast_S128_S1x128_1 tSign)

/-- One slice of the table. -/
def slice (v : FVec Ideal S512x128 .f32) : FVec Ideal S1x512x128 .f32 := broadcastInDim S1x512x128 ![1, 2] bcast_S512x128_S1x512x128_1_2 v

/-- Cosines, sines, signed sines, signed cosines. -/
def tab : FVec Ideal S4x512x128 .f32 :=
  concatenate S4x512x128 0 [⟨S1x512x128, slice (Host.cos tIn)⟩, ⟨S1x512x128, slice (Host.sin tIn)⟩, ⟨S1x512x128, slice (mulf tSigns (Host.sin tIn))⟩,
    ⟨S1x512x128, slice (mulf tSigns (Host.cos tIn))⟩] concatenates_S1x512x128_S1x512x128_S1x512x128_S1x512x128_S4x512x128_d0

theorem tIn_at (r : Fin 512) (l : Fin 128) : tIn (ix2 r l) = num r.val * freq (pair l) := by
  rw [← tFreq_at]
  unfold num
  pointwise [tIn]
  try rfl

theorem tSigns_at (r : Fin 512) (l : Fin 128) : tSigns (ix2 r l) = sign l := by
  rw [← tSign_at]
  pointwise [tSigns]

theorem tab0 (r : Fin 512) (l : Fin 128) : tab (ix3 0 r l) = Ideal.cos (num r.val * freq (pair l)) := by
  rw [← tIn_at]
  pointwise [tab, slice]

theorem tab1 (r : Fin 512) (l : Fin 128) : tab (ix3 1 r l) = Ideal.sin (num r.val * freq (pair l)) := by
  rw [← tIn_at]
  pointwise [tab, slice]

theorem tab2 (r : Fin 512) (l : Fin 128) : tab (ix3 2 r l) = sign l * Ideal.sin (num r.val * freq (pair l)) := by
  rw [← tIn_at, ← tSigns_at r]
  pointwise [tab, slice]

theorem tab3 (r : Fin 512) (l : Fin 128) : tab (ix3 3 r l) = sign l * Ideal.cos (num r.val * freq (pair l)) := by
  rw [← tIn_at, ← tSigns_at r]
  pointwise [tab, slice]

/-! ## The table of blocks -/

def tStart : FVec Ideal S16x128 .f32 :=
  mulf (broadcastInDim S16x128 ![0, 1] bcast_S16x1_S16x128_0_1 (broadcastInDim S16x1 ![0] bcast_S16_S16x1_0
      (addf (broadcastInDim S16 ![] bcast_S_S16 (constant S_ .f32 0x00000000#32))
        (mulf (broadcastInDim S16 ![] bcast_S_S16 (constant S_ .f32 0x44000000#32)) (sitofp .f32 (iotaInDim S16 32 0))))))
    (broadcastInDim S16x128 ![0, 1] bcast_S1x128_S16x128_0_1 (broadcastInDim S1x128 ![1] bcast_S128_S1x128_1 tFreq))

def starts : FVec Ideal S16x2x128 .f32 :=
  concatenate S16x2x128 1 [⟨S16x1x128, broadcastInDim S16x1x128 ![0, 2] bcast_S16x128_S16x1x128_0_2 (Host.cos tStart)⟩,
    ⟨S16x1x128, broadcastInDim S16x1x128 ![0, 2] bcast_S16x128_S16x1x128_0_2 (Host.sin tStart)⟩] concatenates_S16x1x128_S16x1x128_S16x2x128_d1

theorem tStart_at (b : Fin 16) (l : Fin 128) :
    tStart (ix2 b l) = (0 + Ideal.ofBits .f32 0x44000000#32 * num b.val) * freq (pair l) := by
  rw [← tFreq_at]
  unfold num
  pointwise [tStart]
  try rfl

theorem starts0 (b : Fin 16) (l : Fin 128) :
    starts (ix3 b 0 l) = Ideal.cos ((0 + Ideal.ofBits .f32 0x44000000#32 * num b.val) * freq (pair l)) := by
  rw [← tStart_at]
  pointwise [starts]

theorem starts1 (b : Fin 16) (l : Fin 128) :
    starts (ix3 b 1 l) = Ideal.sin ((0 + Ideal.ofBits .f32 0x44000000#32 * num b.val) * freq (pair l)) := by
  rw [← tStart_at]
  pointwise [starts]

/-! ## The kernel's cosines and sines are those of the token -/

theorem token (T : Fin 8192) : T.val = (block T).val * 512 + (within T).val := by
  unfold block within
  dsimp only
  omega

theorem kCos_eq : kCos tab starts = rCos := by
  funext T l
  rw [kCos, tab0, tab1, starts0, starts1]
  exact cos_add T l _ _ (block T).isLt (within T).isLt (token T)

theorem kSin_eq : kSin tab starts = rSin := by
  funext T l
  rw [kSin, tab2, tab3, starts0, starts1]
  exact sin_add T l _ _ (block T).isLt (within T).isLt (token T)

end Cert.Inproj
-- ==== Proof.Inproj.lean ====
/- The input projection call: what the kernel reads, in the reference's words, and the value claim. -/
module

public import proofs.«01_k».proof.Proof.InprojRef
public import proofs.«01_k».proof.Proof.InprojTables
public import proofs.«01_k».proof.Proof.Gen.Kernel3Ideal.Value
public import proofs.«01_k».proof.Defs
public import Idealize.ShloMosaic.Lib.StableHlo.RunRead

@[expose] public section

set_option maxRecDepth 16384

noncomputable section

open Idealize.ShloMosaic Idealize.ShloMosaic.TcCoe Idealize.SL.Sem

namespace Cert.Inproj

open Cert.Kernel3Ideal Cert.Kernel3Ideal.Gen

section Entry

variable (m : (ℓ : Loc nD τ sig) → Buf (Elt Ideal) ℓ) (c : Dev nD)

theorem V_arg0 : V m c main_arg0 = m ((c : Thread nD τ).loc main_arg0) := by entry_read; try rfl
theorem V_arg1 : V m c main_arg1 = m ((c : Thread nD τ).loc main_arg1) := by entry_read; try rfl
theorem V_arg2 : V m c main_arg2 = m ((c : Thread nD τ).loc main_arg2) := by entry_read; try rfl
theorem V_arg4 : V m c main_arg4 = m ((c : Thread nD τ).loc main_arg4) := by entry_read; try rfl
theorem V_arg5 : V m c main_arg5 = m ((c : Thread nD τ).loc main_arg5) := by entry_read; try rfl
theorem V_arg6 : V m c main_arg6 = m ((c : Thread nD τ).loc main_arg6) := by entry_read; try rfl
theorem V_v53 : V m c main_v53 = m ((c : Thread nD τ).loc main_arg3) := by entry_read; rfl
theorem V_v56 : V m c main_v56 = Ref.flip (m ((c : Thread nD τ).loc main_arg7)) := by
  entry_read
  funext y
  idx_vars y
  pointwise [Ref.flip]
set_option maxHeartbeats 1000000 in
theorem V_v47 : V m c main_v47 = tab := by
  unfold V
  after_reads_simp
  rfl
set_option maxHeartbeats 1000000 in
theorem V_v52 : V m c main_v52 = starts := by entry_read; rfl

end Entry

section Agree

abbrev RefMem : Type :=
  (ℓ : Loc Cert.Reference3Ideal.nD Cert.Reference3Ideal.τ Cert.Reference3Ideal.sig) → Buf (Elt Ideal) ℓ

/-! The reference's arguments. -/

variable (m' : RefMem) (c : Dev nD)

abbrev B0 : FVec Ideal S8192x512 .f32 := m' ((c.tc : Thread Cert.Reference3Ideal.nD Cert.Reference3Ideal.τ).loc Cert.Reference3Ideal.main_arg0)
abbrev B1 : FVec Ideal S8192x128 .f32 := m' ((c.tc : Thread Cert.Reference3Ideal.nD Cert.Reference3Ideal.τ).loc Cert.Reference3Ideal.main_arg1)
abbrev B2 : FVec Ideal S8192x128 .f32 := m' ((c.tc : Thread Cert.Reference3Ideal.nD Cert.Reference3Ideal.τ).loc Cert.Reference3Ideal.main_arg2)
abbrev B3 : FVec Ideal S8192x512 .f32 := m' ((c.tc : Thread Cert.Reference3Ideal.nD Cert.Reference3Ideal.τ).loc Cert.Reference3Ideal.main_arg3)
abbrev B4 : FVec Ideal S8192x1024 .f32 := m' ((c.tc : Thread Cert.Reference3Ideal.nD Cert.Reference3Ideal.τ).loc Cert.Reference3Ideal.main_arg4)
abbrev B5 : FVec Ideal S8192x1024 .f32 := m' ((c.tc : Thread Cert.Reference3Ideal.nD Cert.Reference3Ideal.τ).loc Cert.Reference3Ideal.main_arg5)
abbrev B6 : FVec Ideal S1x1024 .f32 := m' ((c.tc : Thread Cert.Reference3Ideal.nD Cert.Reference3Ideal.τ).loc Cert.Reference3Ideal.main_arg6)
abbrev B7 : FVec Ideal S1x1024x1280 .f32 := m' ((c.tc : Thread Cert.Reference3Ideal.nD Cert.Reference3Ideal.τ).loc Cert.Reference3Ideal.main_arg7)

variable (m : (ℓ : Loc nD τ sig) → Buf (Elt Ideal) ℓ)

/-- The two programs are given the same arrays. -/
structure Agree : Prop where
  a0 : m ((c : Thread nD τ).loc main_arg0) = B0 m' c
  a1 : m ((c : Thread nD τ).loc main_arg1) = B1 m' c
  a2 : m ((c : Thread nD τ).loc main_arg2) = B2 m' c
  a3 : m ((c : Thread nD τ).loc main_arg3) = B3 m' c
  a4 : m ((c : Thread nD τ).loc main_arg4) = B4 m' c
  a5 : m ((c : Thread nD τ).loc main_arg5) = B5 m' c
  a6 : m ((c : Thread nD τ).loc main_arg6) = B6 m' c
  a7 : m ((c : Thread nD τ).loc main_arg7) = B7 m' c

variable {m c m'} (A : Agree m' c m)
include A

theorem at0 : A0 m c = B0 m' c := (V_arg0 m c).trans A.a0
theorem at1 : A1 m c = B1 m' c := (V_arg1 m c).trans A.a1
theorem at2 : A2 m c = B2 m' c := (V_arg2 m c).trans A.a2
theorem at3 : A3 m c = B3 m' c := (V_v53 m c).trans A.a3
theorem at6 : A6 m c = Ref.flip (B7 m' c) := (V_v56 m c).trans (by rw [A.a7])
theorem at7 : A7 m c = B5 m' c := (V_arg5 m c).trans A.a5
theorem at8 : A8 m c = B6 m' c := (V_arg6 m c).trans A.a6
theorem at9 : A9 m c = B4 m' c := (V_arg4 m c).trans A.a4

omit A in
theorem cos_tables : kCos (A4 m c) (A5 m c) = rCos := by rw [← kCos_eq, A4, A5, V_v47, V_v52]
omit A in
theorem sin_tables : kSin (A4 m c) (A5 m c) = rSin := by rw [← kSin_eq, A4, A5, V_v47, V_v52]

/-- The two have the same gradient of the projected rows. -/
theorem dz_agree : kDz m c = gDz (B0 m' c) (B1 m' c) (B2 m' c) (B3 m' c) rCos rSin := by
  rw [kDz, cos_tables, sin_tables, at0 A, at1 A, at2 A, at3 A]

theorem res0 : Cert.Reference3Ideal.Value.res_out0 m' c = (dats m 0 c).arrAt 10 cfg0.N := by
  rw [final10, dz_agree A, at6 A, at7 A, at8 A, at9 A]
  exact (Cert.Reference3Ideal.Read.val_main_v139_eq m' c).trans (Ref.out0 _ _ _ _ _ _ _ _)

theorem res1 : Cert.Reference3Ideal.Value.res_out1 m' c = (dats m 0 c).arrAt 11 cfg0.N := by
  rw [final11, dz_agree A, at7 A, at8 A]
  exact (Cert.Reference3Ideal.Read.val_main_v140_eq m' c).trans (Ref.out1 _ _ _ _ _ _)

theorem res2 : Cert.Reference3Ideal.Value.res_out2 m' c = (dats m 0 c).arrAt 12 cfg0.N := by
  rw [final12, dz_agree A]
  exact (Cert.Reference3Ideal.Read.val_main_v116_eq m' c).trans (Ref.out2 _ _ _ _)

theorem res3 : Cert.Reference3Ideal.Value.res_out3 m' c = (dats m 0 c).arrAt 13 cfg0.N := by
  rw [final13, dz_agree A, at6 A, at7 A]
  exact (Cert.Reference3Ideal.Read.val_main_v122_eq m' c).trans (Ref.out3 _ _ _ _ _ _)

end Agree

set_option maxHeartbeats 4000000 in
/-- The input projection call computes the gradients. -/
theorem algebraic : Cert.algebraic_Kernel3Ideal_Reference3Ideal := by
  intro m ρ m' ρ' _ hagree
  refine ⟨fun c => (dats m 0 c).arrAt 10 cfg0.N, fun c => (dats m 0 c).arrAt 11 cfg0.N, fun c => (dats m 0 c).arrAt 12 cfg0.N,
    fun c => (dats m 0 c).arrAt 13 cfg0.N,
    (θ_run _ _ _).mono (fun r hr c => ?_) (Cert.Kernel3Ideal.Value.run_blocks m ρ),
    (θ_run _ _ _).mono (fun r hr c => ?_) (Cert.Reference3Ideal.Value.run m' ρ')⟩
  · exact hr c
  · have a := hagree c
    have A : Agree m' c m := ⟨a.1.symm, a.2.1.symm, a.2.2.1.symm, a.2.2.2.1.symm, a.2.2.2.2.1.symm, a.2.2.2.2.2.1.symm,
      a.2.2.2.2.2.2.1.symm, a.2.2.2.2.2.2.2.1.symm⟩
    have h := hr c
    refine ⟨h.1.trans ?_, h.2.1.trans ?_, h.2.2.1.trans ?_, h.2.2.2.1.trans ?_, h.2.2.2.2⟩
    · exact res0 A
    · exact res1 A
    · exact res2 A
    · exact res3 A

end Cert.Inproj
-- ==== Proof.ActFormulas.lean ====
/- The forward call that projects the two branches' results, normalizes and computes the hidden layer, as formulas of one
   token's rows.  Column `j` runs over the 1024 model columns, column `k` over the 2816 columns of the hidden layer. -/
module

public import proofs.«01_k».proof.Proof.Gen.Kernel4Ideal.Frame
public import proofs.«01_k».proof.Proof.Rms

@[expose] public section

noncomputable section

open Idealize.ShloMosaic Idealize.ShloMosaic.TcCoe Idealize.SL.Sem

namespace Cert.Act

open Cert.Kernel4Ideal

/-! ## One token -/

/-- A row of the projection's weights that multiplies the attention's column, and the pooling's. -/
def low (i : Fin 512) : Fin 1024 := ⟨i.val, by omega⟩
def high (i : Fin 512) : Fin 1024 := ⟨512 + i.val, by omega⟩

/-- The token's row `x` with the projections of its attention row `a` and its pooling row `p`, and the bias. -/
def mix (a p : Fin 512 → EReal) (w : S1024x1024.Idx → EReal) (b : S1x1024.Idx → EReal) (x : Fin 1024 → EReal) (j : Fin 1024) : EReal :=
  x j + ∑ i : Fin 512, a i * w (ix2 (low i) j) + ∑ i : Fin 512, p i * w (ix2 (high i) j) + b (ix2 0 j)

/-- The normalized row times the scale `g`. -/
def scaled (y : Fin 1024 → EReal) (g : S1x1024.Idx → EReal) (j : Fin 1024) : EReal := Rms.norm y j * g (ix2 0 j)

/-- The row times transposed weights: one entry of the gate or of the up projection. -/
def proj (h : Fin 1024 → EReal) (w : S2816x1024.Idx → EReal) (k : Fin 2816) : EReal := ∑ j : Fin 1024, h j * w (ix2 k j)

/-- The activation of a gate entry and an up entry. -/
def silu (g u : EReal) : EReal := g * Ideal.logistic g * u

/-! ## The results -/

section Results

variable (a p : S8192x512.Idx → EReal) (w : S1024x1024.Idx → EReal) (b : S1x1024.Idx → EReal) (x : S8192x1024.Idx → EReal)
  (g : S1x1024.Idx → EReal) (wg wu : S2816x1024.Idx → EReal)

/-- The row of a token after the branch. -/
def gX (T : Fin 8192) : Fin 1024 → EReal := mix (fun i => a (ix2 T i)) (fun i => p (ix2 T i)) w b (fun j => x (ix2 T j))

/-- Its normalized and scaled row. -/
def gH (T : Fin 8192) : Fin 1024 → EReal := scaled (gX a p w b x T) g

/-- The new rows. -/
def outX : S8192x1024.Idx → EReal := fun y => gX a p w b x (y 0) (y 1)

/-- The gate, or the up projection, by its weights. -/
def outProj : S8192x2816.Idx → EReal := fun y => proj (gH a p w b x g (y 0)) wg (y 1)

/-- The activation. -/
def outAct : S8192x2816.Idx → EReal := fun y => silu (proj (gH a p w b x g (y 0)) wg (y 1)) (proj (gH a p w b x g (y 0)) wu (y 1))

end Results

end Cert.Act
-- ==== Proof.ActStep.lean ====
/- What one grid point of the activation call leaves in its four buffers, as formulas of the blocks it reads.

   A grid point holds 512 tokens `r`.  `x0` is the block of the attention's result, `x1` of the pooling's, `x2` the projection's
   weights, `x3` its bias, `x4` the block of the rows it is added to, `x5` the scale of the normalization, `x6` and `x7` the
   transposed gate and up weights. -/
module

public import proofs.«01_k».proof.Proof.ActFormulas
public import Idealize.ShloMosaic.Lib.Pipeline.Value
public import Idealize.ShloMosaic.Lib.Pipeline.ReadBack
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.Act

open Cert.Kernel4Ideal Cert.Kernel4Ideal.Gen

variable (x0 x1 : Vec Ideal S512x512 .bf16) (x2 : Vec Ideal S1024x1024 .bf16) (x3 : Vec Ideal S1x1024 .f32)
  (x4 : Vec Ideal S512x1024 .f32) (x5 : Vec Ideal S1x1024 .f32) (x6 x7 : Vec Ideal S2816x1024 .bf16)

/-! ## The formulas -/

/-- The new rows. -/
def bX : Vec Ideal S512x1024 .f32 := fun y =>
  mix (fun i => x0 (ix2 (y 0) i)) (fun i => x1 (ix2 (y 0) i)) x2 x3 (fun j => x4 (ix2 (y 0) j)) (y 1)

/-- The normalized and scaled rows. -/
def bH : Vec Ideal S512x1024 .bf16 := fun y => scaled (fun j => bX x0 x1 x2 x3 x4 (ix2 (y 0) j)) x5 (y 1)

/-- Rows `h` times transposed weights `w`. -/
def bProj (h : Vec Ideal S512x1024 .bf16) (w : Vec Ideal S2816x1024 .bf16) : Vec Ideal S512x2816 .bf16 := fun y =>
  proj (fun j => h (ix2 (y 0) j)) w (y 1)

/-- The activation from rows `h`. -/
def bAct (h : Vec Ideal S512x1024 .bf16) (w v : Vec Ideal S2816x1024 .bf16) : Vec Ideal S512x2816 .bf16 := fun y =>
  silu (proj (fun j => h (ix2 (y 0) j)) w (y 1)) (proj (fun j => h (ix2 (y 0) j)) v (y 1))

theorem emb_idx {s : Shape} (r : Rect s) (x : r.shape.Idx) : r.emb x = r.toLoadRect.idx x := rfl

/-- Stores that are blocks of `G` and tile the buffer leave `G`. -/
theorem canon_eq {S : Shape} {e : EltTy} (G : S.Idx → Elt Ideal e) (L : List (View.Piece (Elt Ideal) S e))
    (h : View.PiecesOf G L) (size : Fin S.rank → ℕ) (hc : View.Piece.tiledL L size = true) : View.canon L = G :=
  funext fun y => View.canon_apply_of_pieces G L h.mem y (View.cover_of_tiledL L size hc y)

/-! ## The new rows and their normalization -/

theorem rows_eq : k0_pay5 (View.ld x4 r0_0) (View.ld x0 r0_1) (View.ld x2 r0_2) (View.ld x1 r0_1) (View.ld x2 r0_3) (View.ld x3 r0_4)
    = bX x0 x1 x2 x3 x4 := by
  funext y
  idx_vars y
  pointwise [k0_pay5, bX, mix, low, high, emb_idx]

theorem step8 : out0_8 x0 x1 x2 x3 x4 x5 x6 x7 = bX x0 x1 x2 x3 x4 := by
  unfold out0_8
  rw [rows_eq]
  refine canon_eq _ _ ⟨fun z => ?_, trivial⟩ S512x1024.size (by sl_kernel_rfl)
  idx_vars z
  pointwise [emb_idx]

theorem norm_eq : k0_pay63 x0 x1 x2 x3 x4 x5 x6 x7 = bH x0 x1 x2 x3 x4 x5 := by
  unfold k0_pay63 k0_pay6
  rw [rows_eq]
  unfold bH
  generalize bX x0 x1 x2 x3 x4 = X
  funext y
  idx_vars y
  pointwise [scaled, Rms.norm, Rms.scale, Rms.width, Rms.eps, emb_idx]

theorem first_eq : k0_pay64 x0 x1 x2 x3 x4 x5 x6 x7 = k0_pay8 (bH x0 x1 x2 x3 x4 x5) (View.ld x6 r0_5) := by
  rw [← norm_eq x0 x1 x2 x3 x4 x5 x6 x7]
  rfl

/-! ## The hidden layer, 256 columns at a time -/

theorem step9 : out0_9 x0 x1 x2 x3 x4 x5 x6 x7 = bProj (bH x0 x1 x2 x3 x4 x5) x6 := by
  unfold out0_9
  simp only [k0_pay73, k0_pay71, k0_pay69, k0_pay67, k0_pay65, first_eq, norm_eq]
  generalize bH x0 x1 x2 x3 x4 x5 = h
  refine canon_eq _ _ ?_ S512x256.size (by sl_kernel_rfl)
  refine ⟨fun z => ?_, fun z => ?_, fun z => ?_, fun z => ?_, fun z => ?_, fun z => ?_, fun z => ?_, fun z => ?_, fun z => ?_, fun z => ?_, fun z => ?_, trivial⟩ <;> idx_vars z <;>
    pointwise [k0_pay2, k0_pay8, k0_pay9, k0_pay11, k0_pay14, k0_pay16, k0_pay20, k0_pay22, k0_pay25, k0_pay27, k0_pay31, k0_pay33,
      k0_pay36, k0_pay38, k0_pay42, k0_pay44, k0_pay47, k0_pay49, k0_pay53, k0_pay55, k0_pay58, k0_pay60, bProj, proj, emb_idx]

theorem step10 : out0_10 x0 x1 x2 x3 x4 x5 x6 x7 = bProj (bH x0 x1 x2 x3 x4 x5) x7 := by
  unfold out0_10
  simp only [k0_pay74, k0_pay72, k0_pay70, k0_pay68, k0_pay66, norm_eq]
  generalize bH x0 x1 x2 x3 x4 x5 = h
  refine canon_eq _ _ ?_ S512x256.size (by sl_kernel_rfl)
  refine ⟨fun z => ?_, fun z => ?_, fun z => ?_, fun z => ?_, fun z => ?_, fun z => ?_, fun z => ?_, fun z => ?_, fun z => ?_, fun z => ?_, fun z => ?_, trivial⟩ <;> idx_vars z <;>
    pointwise [k0_pay3, k0_pay8, k0_pay10, k0_pay12, k0_pay15, k0_pay17, k0_pay21, k0_pay23, k0_pay26, k0_pay28, k0_pay32, k0_pay34,
      k0_pay37, k0_pay39, k0_pay43, k0_pay45, k0_pay48, k0_pay50, k0_pay54, k0_pay56, k0_pay59, k0_pay61, bProj, proj, emb_idx]

theorem step11 : out0_11 x0 x1 x2 x3 x4 x5 x6 x7 = bAct (bH x0 x1 x2 x3 x4 x5) x6 x7 := by
  unfold out0_11
  simp only [k0_pay74, k0_pay73, k0_pay72, k0_pay71, k0_pay70, k0_pay69, k0_pay68, k0_pay67, k0_pay66, k0_pay65, first_eq, norm_eq]
  generalize bH x0 x1 x2 x3 x4 x5 = h
  refine canon_eq _ _ ?_ S512x256.size (by sl_kernel_rfl)
  refine ⟨fun z => ?_, fun z => ?_, fun z => ?_, fun z => ?_, fun z => ?_, fun z => ?_, fun z => ?_, fun z => ?_, fun z => ?_, fun z => ?_, fun z => ?_, trivial⟩ <;> idx_vars z <;>
    pointwise [k0_pay1, k0_pay4, k0_pay8, k0_pay9, k0_pay10, k0_pay13, k0_pay14, k0_pay15, k0_pay18, k0_pay19, k0_pay20, k0_pay21,
      k0_pay24, k0_pay25, k0_pay26, k0_pay29, k0_pay30, k0_pay31, k0_pay32, k0_pay35, k0_pay36, k0_pay37, k0_pay40, k0_pay41,
      k0_pay42, k0_pay43, k0_pay46, k0_pay47, k0_pay48, k0_pay51, k0_pay52, k0_pay53, k0_pay54, k0_pay57, k0_pay58, k0_pay59,
      k0_pay62, bAct, silu, proj, emb_idx]

end Cert.Act
-- ==== Proof.ActArrays.lean ====
/- The four arrays the activation call leaves, as formulas of the arrays it reads. -/
module

public import proofs.«01_k».proof.Proof.ActStep
public import proofs.«01_k».proof.Proof.Gen.Kernel4Ideal.Value
public import Idealize.ShloMosaic.Lib.Pipeline.ValueKit

@[expose] public section

set_option maxRecDepth 16384

noncomputable section

open Idealize.ShloMosaic Idealize.ShloMosaic.TcCoe Idealize.SL.Sem

namespace Cert.Act

open Cert.Kernel4Ideal Cert.Kernel4Ideal.Gen

variable (m : (ℓ : Loc nD τ sig) → Buf (Elt Ideal) ℓ) (c : Dev nD) (t : Fin cfg0.N)

/-! The blocks a point reads. -/

abbrev X0 : Vec Ideal S512x512 .bf16 := iblk m c 0 t
abbrev X1 : Vec Ideal S512x512 .bf16 := iblk m c 1 t
abbrev X2 : Vec Ideal S1024x1024 .bf16 := iblk m c 2 t
abbrev X3 : Vec Ideal S1x1024 .f32 := iblk m c 3 t
abbrev X4 : Vec Ideal S512x1024 .f32 := iblk m c 4 t
abbrev X5 : Vec Ideal S1x1024 .f32 := iblk m c 5 t
abbrev X6 : Vec Ideal S2816x1024 .bf16 := iblk m c 6 t
abbrev X7 : Vec Ideal S2816x1024 .bf16 := iblk m c 7 t

/-! The arrays the kernel reads. -/

abbrev A0 : S8192x512.Idx → EReal := V m c main_v0
abbrev A1 : S8192x512.Idx → EReal := V m c main_v1
abbrev A2 : S1024x1024.Idx → EReal := V m c main_v2
abbrev A3 : S1x1024.Idx → EReal := V m c main_arg3
abbrev A4 : S8192x1024.Idx → EReal := V m c main_arg4
abbrev A5 : S1x1024.Idx → EReal := V m c main_arg5
abbrev A6 : S2816x1024.Idx → EReal := V m c main_v4
abbrev A7 : S2816x1024.Idx → EReal := V m c main_v6

/-! ## The blocks within the arrays -/

/-- The token at row `r` of point `t`. -/
def tok (t : Fin cfg0.N) (r : Fin 512) : Fin 8192 := ⟨t.val * 512 + r.val, by have h : t.val < 16 := lt_of_lt_of_eq t.isLt N_0; omega⟩

theorem index_rows : ∀ t : Fin grid0.N, win0_0.index t = ![t.val, 0] ∧ win0_1.index t = ![t.val, 0]
    ∧ win0_2.index t = ![0, 0] ∧ win0_3.index t = ![0, 0] ∧ win0_4.index t = ![t.val, 0] ∧ win0_5.index t = ![0, 0]
    ∧ win0_6.index t = ![0, 0] ∧ win0_7.index t = ![0, 0] ∧ win0_8.index t = ![t.val, 0] ∧ win0_9.index t = ![t.val, 0]
    ∧ win0_10.index t = ![t.val, 0] ∧ win0_11.index t = ![t.val, 0] := by
  decide +kernel

theorem X0_apply (r i : Fin 512) : X0 m c t (ix2 r i) = A0 m c (ix2 (tok t r) i) := by
  show iblk m c 0 t _ = _
  blk_ext [iblk, index_rows t, tok]

theorem X1_apply (r i : Fin 512) : X1 m c t (ix2 r i) = A1 m c (ix2 (tok t r) i) := by
  show iblk m c 1 t _ = _
  blk_ext [iblk, index_rows t, tok]

theorem X2_apply (i j : Fin 1024) : X2 m c t (ix2 i j) = A2 m c (ix2 i j) := by
  show iblk m c 2 t _ = _
  blk_ext [iblk, index_rows t]

theorem X3_apply (j : Fin 1024) : X3 m c t (ix2 0 j) = A3 m c (ix2 0 j) := by
  show iblk m c 3 t _ = _
  blk_ext [iblk, index_rows t]

theorem X4_apply (r : Fin 512) (j : Fin 1024) : X4 m c t (ix2 r j) = A4 m c (ix2 (tok t r) j) := by
  show iblk m c 4 t _ = _
  blk_ext [iblk, index_rows t, tok]

theorem X5_apply (j : Fin 1024) : X5 m c t (ix2 0 j) = A5 m c (ix2 0 j) := by
  show iblk m c 5 t _ = _
  blk_ext [iblk, index_rows t]

theorem X6_apply (k : Fin 2816) (j : Fin 1024) : X6 m c t (ix2 k j) = A6 m c (ix2 k j) := by
  show iblk m c 6 t _ = _
  blk_ext [iblk, index_rows t]

theorem X7_apply (k : Fin 2816) (j : Fin 1024) : X7 m c t (ix2 k j) = A7 m c (ix2 k j) := by
  show iblk m c 7 t _ = _
  blk_ext [iblk, index_rows t]

/-! ## A point's formulas are the arrays' -/

section Point

variable (r : Fin 512)

theorem rows_at (j : Fin 1024) : bX (X0 m c t) (X1 m c t) (X2 m c t) (X3 m c t) (X4 m c t) (ix2 r j)
    = gX (A0 m c) (A1 m c) (A2 m c) (A3 m c) (A4 m c) (tok t r) j := by
  refine (show _ = mix (fun i => X0 m c t (ix2 r i)) (fun i => X1 m c t (ix2 r i)) (X2 m c t) (X3 m c t) (fun j => X4 m c t (ix2 r j)) j from rfl).trans ?_
  simp only [mix, gX, X0_apply, X1_apply, X2_apply, X3_apply, X4_apply]

/-- The normalized rows of a point. -/
abbrev H : Vec Ideal S512x1024 .bf16 := bH (X0 m c t) (X1 m c t) (X2 m c t) (X3 m c t) (X4 m c t) (X5 m c t)

theorem norm_at (j : Fin 1024) : H m c t (ix2 r j) = gH (A0 m c) (A1 m c) (A2 m c) (A3 m c) (A4 m c) (A5 m c) (tok t r) j := by
  refine (show _ = scaled (fun i => bX (X0 m c t) (X1 m c t) (X2 m c t) (X3 m c t) (X4 m c t) (ix2 r i)) (X5 m c t) j from rfl).trans ?_
  simp only [rows_at, scaled, gH, X5_apply]

theorem gate_at (k : Fin 2816) : proj (fun j => H m c t (ix2 r j)) (X6 m c t) k
    = proj (gH (A0 m c) (A1 m c) (A2 m c) (A3 m c) (A4 m c) (A5 m c) (tok t r)) (A6 m c) k :=
  Finset.sum_congr rfl fun j _ => congrArg₂ (· * ·) (norm_at m c t r j) (X6_apply m c t k j)

theorem up_at (k : Fin 2816) : proj (fun j => H m c t (ix2 r j)) (X7 m c t) k
    = proj (gH (A0 m c) (A1 m c) (A2 m c) (A3 m c) (A4 m c) (A5 m c) (tok t r)) (A7 m c) k :=
  Finset.sum_congr rfl fun j _ => congrArg₂ (· * ·) (norm_at m c t r j) (X7_apply m c t k j)

end Point

/-! ## The arrays -/

theorem place8 (y : S512x1024.Idx) : (win0_8.blk t).view.emb y = ix2 (tok t (y 0)) (y 1) := by
  blk_ext [index_rows t, tok]
theorem place9 (y : S512x2816.Idx) : (win0_9.blk t).view.emb y = ix2 (tok t (y 0)) (y 1) := by
  blk_ext [index_rows t, tok]
theorem place10 (y : S512x2816.Idx) : (win0_10.blk t).view.emb y = ix2 (tok t (y 0)) (y 1) := by
  blk_ext [index_rows t, tok]
theorem place11 (y : S512x2816.Idx) : (win0_11.blk t).view.emb y = ix2 (tok t (y 0)) (y 1) := by
  blk_ext [index_rows t, tok]

/-- The arrays of the four results. -/
def rX : S8192x1024.Idx → EReal := outX (A0 m c) (A1 m c) (A2 m c) (A3 m c) (A4 m c)
def rGate : S8192x2816.Idx → EReal := outProj (A0 m c) (A1 m c) (A2 m c) (A3 m c) (A4 m c) (A5 m c) (A6 m c)
def rUp : S8192x2816.Idx → EReal := outProj (A0 m c) (A1 m c) (A2 m c) (A3 m c) (A4 m c) (A5 m c) (A7 m c)
def rAct : S8192x2816.Idx → EReal := outAct (A0 m c) (A1 m c) (A2 m c) (A3 m c) (A4 m c) (A5 m c) (A6 m c) (A7 m c)

theorem final8 : (dats m 0 c).arrAt 8 cfg0.N = rX m c := by
  refine (dats m 0 c).arrAt_eq_of_covers 8 _ (by decide +kernel) fun t hf y => ?_
  blk_simp
  rw [after0_8, step8]
  refine Eq.trans ?_ (congrArg (rX m c) (place8 t y)).symm
  idx_vars y
  exact rows_at m c t _ _

theorem final9 : (dats m 0 c).arrAt 9 cfg0.N = rGate m c := by
  refine (dats m 0 c).arrAt_eq_of_covers 9 _ (by decide +kernel) fun t hf y => ?_
  blk_simp
  rw [after0_9, step9]
  refine Eq.trans ?_ (congrArg (rGate m c) (place9 t y)).symm
  idx_vars y
  exact gate_at m c t _ _

theorem final10 : (dats m 0 c).arrAt 10 cfg0.N = rUp m c := by
  refine (dats m 0 c).arrAt_eq_of_covers 10 _ (by decide +kernel) fun t hf y => ?_
  blk_simp
  rw [after0_10, step10]
  refine Eq.trans ?_ (congrArg (rUp m c) (place10 t y)).symm
  idx_vars y
  exact up_at m c t _ _

theorem final11 : (dats m 0 c).arrAt 11 cfg0.N = rAct m c := by
  refine (dats m 0 c).arrAt_eq_of_covers 11 _ (by decide +kernel) fun t hf y => ?_
  blk_simp
  rw [after0_11, step11]
  refine Eq.trans ?_ (congrArg (rAct m c) (place11 t y)).symm
  idx_vars y
  exact congrArg₂ silu (gate_at m c t _ _) (up_at m c t _ _)

end Cert.Act
-- ==== Proof.ActRef.lean ====
/- The entries of the activation call's reference, operation by operation, and its four results as the same formulas. -/
module

public import proofs.«01_k».proof.Proof.ActFormulas
public import proofs.«01_k».proof.Proof.RmsReal
public import proofs.«01_k».proof.Proof.Gen.Reference4Ideal.Read

@[expose] public section

set_option maxRecDepth 16384

noncomputable section

open Idealize.ShloMosaic Idealize.ShloMosaic.TcCoe Idealize.SL.Sem

namespace Cert.Act.Ref

open Cert.Reference4Ideal Cert.Reference4Ideal.Gen Cert.Reference4Ideal.Read

variable (x0 x1 : FVec Ideal S8192x512 .f32) (x2 : FVec Ideal S1024x1024 .f32) (x3 : FVec Ideal S1x1024 .f32)
  (x4 : FVec Ideal S8192x1024 .f32) (x5 : FVec Ideal S1x1024 .f32) (x6 x7 : FVec Ideal S1024x2816 .f32)

/-- A weight matrix the other way round. -/
def flip (w : FVec Ideal S1024x2816 .f32) : Cert.Kernel4Ideal.S2816x1024.Idx → EReal := fun y => w (ix2 (y 1) (y 0))

/-! ## The new rows -/

theorem left_at (T : Fin 8192) (i : Fin 512) : val_main_v0 (F := Ideal) x0 x1 (ix2 T (low i)) = x0 (ix2 T i) := by
  unfold low
  pointwise [val_main_v0]

theorem right_at (T : Fin 8192) (i : Fin 512) : val_main_v0 (F := Ideal) x0 x1 (ix2 T (high i)) = x1 (ix2 T i) := by
  unfold high
  pointwise [val_main_v0]

/-- A sum over the 1024 columns of both branches is the sum over the attention's and the sum over the pooling's. -/
theorem sum_both (f : Fin 1024 → EReal) : ∑ i, f i = ∑ i, f (low i) + ∑ i, f (high i) := Fin.sum_univ_add (a := 512) (b := 512) f

theorem product_at (T : Fin 8192) (j : Fin 1024) : val_main_v1 (F := Ideal) x0 x1 x2 (ix2 T j)
    = ∑ i : Fin 512, x0 (ix2 T i) * x2 (ix2 (low i) j) + ∑ i : Fin 512, x1 (ix2 T i) * x2 (ix2 (high i) j) := by
  refine (show _ = ∑ i : Fin 1024, val_main_v0 (F := Ideal) x0 x1 (ix2 T i) * x2 (ix2 i j) from ?_).trans ?_
  · unfold val_main_v1
    generalize val_main_v0 (F := Ideal) x0 x1 = X
    pointwise []
  · rw [sum_both]
    simp only [left_at, right_at]

theorem rows_at (T : Fin 8192) (j : Fin 1024) : val_main_v4 (F := Ideal) x0 x1 x2 x3 x4 (ix2 T j) = gX x0 x1 x2 x3 x4 T j := by
  refine (show _ = x4 (ix2 T j) + val_main_v1 (F := Ideal) x0 x1 x2 (ix2 T j) + x3 (ix2 0 j) from ?_).trans ?_
  · unfold val_main_v4 val_main_v2
    generalize val_main_v1 (F := Ideal) x0 x1 x2 = X
    pointwise [val_main_v3]
  · rw [product_at, ← add_assoc]
    rfl

/-! ## The normalization -/

theorem sum_at (T : Fin 8192) : val_main_v6 (F := Ideal) x0 x1 x2 x3 x4 (ix1 T) = ∑ j, gX x0 x1 x2 x3 x4 T j * gX x0 x1 x2 x3 x4 T j := by
  simp only [← rows_at]
  unfold val_main_v6 val_main_v5
  generalize val_main_v4 (F := Ideal) x0 x1 x2 x3 x4 = X
  pointwise [val_main_cst]

theorem scale_at (T : Fin 8192) : val_main_v12 (F := Ideal) x0 x1 x2 x3 x4 (ix2 T 0) = Rms.scale (gX x0 x1 x2 x3 x4 T) := by
  unfold Rms.scale Rms.width Rms.eps
  rw [← sum_at]
  unfold val_main_v12 val_main_v11 val_main_v9 val_main_v7
  generalize val_main_v6 (F := Ideal) x0 x1 x2 x3 x4 = X
  pointwise [val_main_v10, val_main_cst_1, val_main_v8, val_main_cst_0]

theorem scaled_at (T : Fin 8192) (j : Fin 1024) : val_main_v16 (F := Ideal) x0 x1 x2 x3 x4 x5 (ix2 T j) = gH x0 x1 x2 x3 x4 x5 T j := by
  unfold gH scaled Rms.norm
  rw [← scale_at, ← rows_at]
  unfold val_main_v16 val_main_v14 val_main_v13
  generalize val_main_v12 (F := Ideal) x0 x1 x2 x3 x4 = X
  generalize val_main_v4 (F := Ideal) x0 x1 x2 x3 x4 = Y
  pointwise [val_main_v15]

/-! ## The hidden layer -/

theorem gate_at (T : Fin 8192) (k : Fin 2816) : val_main_v17 (F := Ideal) x0 x1 x2 x3 x4 x5 x6 (ix2 T k)
    = proj (gH x0 x1 x2 x3 x4 x5 T) (flip x6) k := by
  unfold proj flip
  simp only [← scaled_at]
  unfold val_main_v17
  generalize val_main_v16 (F := Ideal) x0 x1 x2 x3 x4 x5 = X
  pointwise []

theorem up_at (T : Fin 8192) (k : Fin 2816) : val_main_v18 (F := Ideal) x0 x1 x2 x3 x4 x5 x7 (ix2 T k)
    = proj (gH x0 x1 x2 x3 x4 x5 T) (flip x7) k := by
  unfold proj flip
  simp only [← scaled_at]
  unfold val_main_v18
  generalize val_main_v16 (F := Ideal) x0 x1 x2 x3 x4 x5 = X
  pointwise []

theorem act_at (T : Fin 8192) (k : Fin 2816) : val_main_v23 (F := Ideal) x0 x1 x2 x3 x4 x5 x6 x7 (ix2 T k)
    = silu (proj (gH x0 x1 x2 x3 x4 x5 T) (flip x6) k) (proj (gH x0 x1 x2 x3 x4 x5 T) (flip x7) k) := by
  rw [← gate_at, ← up_at]
  unfold silu Ideal.logistic
  rw [← Rms.ofBits_one]
  unfold val_main_v23 val_main_v22 val_main_v21 val_main_call0_v5 val_main_call0_v3 val_main_call0_v1 val_main_call0_v0
  generalize val_main_v17 (F := Ideal) x0 x1 x2 x3 x4 x5 x6 = X
  generalize val_main_v18 (F := Ideal) x0 x1 x2 x3 x4 x5 x7 = Y
  pointwise [val_main_call0_v4, val_main_call0_cst_0, val_main_call0_v2, val_main_call0_cst]

/-! ## The results -/

theorem out0 : val_main_v4 (F := Ideal) x0 x1 x2 x3 x4 = outX x0 x1 x2 x3 x4 := by
  funext y
  idx_vars y
  exact rows_at x0 x1 x2 x3 x4 _ _

theorem out1 : val_main_v19 (F := Ideal) x0 x1 x2 x3 x4 x5 x6 = outProj x0 x1 x2 x3 x4 x5 (flip x6) := by
  funext y
  idx_vars y
  exact gate_at x0 x1 x2 x3 x4 x5 x6 _ _

theorem out2 : val_main_v20 (F := Ideal) x0 x1 x2 x3 x4 x5 x7 = outProj x0 x1 x2 x3 x4 x5 (flip x7) := by
  funext y
  idx_vars y
  exact up_at x0 x1 x2 x3 x4 x5 x7 _ _

theorem out3 : val_main_v23 (F := Ideal) x0 x1 x2 x3 x4 x5 x6 x7 = outAct x0 x1 x2 x3 x4 x5 (flip x6) (flip x7) := by
  funext y
  idx_vars y
  exact act_at x0 x1 x2 x3 x4 x5 x6 x7 _ _

end Cert.Act.Ref
-- ==== Proof.Act.lean ====
/- The activation call and its reference compute the same four arrays. -/
module

public import proofs.«01_k».proof.Proof.ActArrays
public import proofs.«01_k».proof.Proof.ActRef
public import proofs.«01_k».proof.Proof.Gen.Kernel4Ideal.Value
public import proofs.«01_k».proof.Proof.Gen.Reference4Ideal.Run
public import proofs.«01_k».proof.Defs
public import Idealize.ShloMosaic.Lib.Tactic

@[expose] public section

set_option maxRecDepth 16384

noncomputable section

open Idealize.ShloMosaic Idealize.ShloMosaic.TcCoe Idealize.SL.Sem

namespace Cert.Act

open Cert.Kernel4Ideal Cert.Kernel4Ideal.Gen

/-! ## The arrays the kernel reads, from the arguments -/

section Entry

variable (m : (ℓ : Loc nD τ sig) → Buf (Elt Ideal) ℓ) (c : Dev nD)

theorem V_v0 : V m c main_v0 = m ((c : Thread nD τ).loc main_arg0) := by entry_read; rfl
theorem V_v1 : V m c main_v1 = m ((c : Thread nD τ).loc main_arg1) := by entry_read; rfl
theorem V_v2 : V m c main_v2 = m ((c : Thread nD τ).loc main_arg2) := by entry_read; rfl
theorem V_arg3 : V m c main_arg3 = m ((c : Thread nD τ).loc main_arg3) := by entry_read; try rfl
theorem V_arg4 : V m c main_arg4 = m ((c : Thread nD τ).loc main_arg4) := by entry_read; try rfl
theorem V_arg5 : V m c main_arg5 = m ((c : Thread nD τ).loc main_arg5) := by entry_read; try rfl
theorem V_v4 : V m c main_v4 = Ref.flip (m ((c : Thread nD τ).loc main_arg6)) := by
  entry_read
  funext y
  idx_vars y
  pointwise [Ref.flip]
theorem V_v6 : V m c main_v6 = Ref.flip (m ((c : Thread nD τ).loc main_arg7)) := by
  entry_read
  funext y
  idx_vars y
  pointwise [Ref.flip]

end Entry

section Agree

abbrev RefMem : Type :=
  (ℓ : Loc Cert.Reference4Ideal.nD Cert.Reference4Ideal.τ Cert.Reference4Ideal.sig) → Buf (Elt Ideal) ℓ

/-! The reference's arguments. -/

variable (m' : RefMem) (c : Dev nD)

abbrev B0 : FVec Ideal S8192x512 .f32 := m' ((c.tc : Thread Cert.Reference4Ideal.nD Cert.Reference4Ideal.τ).loc Cert.Reference4Ideal.main_arg0)
abbrev B1 : FVec Ideal S8192x512 .f32 := m' ((c.tc : Thread Cert.Reference4Ideal.nD Cert.Reference4Ideal.τ).loc Cert.Reference4Ideal.main_arg1)
abbrev B2 : FVec Ideal S1024x1024 .f32 := m' ((c.tc : Thread Cert.Reference4Ideal.nD Cert.Reference4Ideal.τ).loc Cert.Reference4Ideal.main_arg2)
abbrev B3 : FVec Ideal S1x1024 .f32 := m' ((c.tc : Thread Cert.Reference4Ideal.nD Cert.Reference4Ideal.τ).loc Cert.Reference4Ideal.main_arg3)
abbrev B4 : FVec Ideal S8192x1024 .f32 := m' ((c.tc : Thread Cert.Reference4Ideal.nD Cert.Reference4Ideal.τ).loc Cert.Reference4Ideal.main_arg4)
abbrev B5 : FVec Ideal S1x1024 .f32 := m' ((c.tc : Thread Cert.Reference4Ideal.nD Cert.Reference4Ideal.τ).loc Cert.Reference4Ideal.main_arg5)
abbrev B6 : FVec Ideal S1024x2816 .f32 := m' ((c.tc : Thread Cert.Reference4Ideal.nD Cert.Reference4Ideal.τ).loc Cert.Reference4Ideal.main_arg6)
abbrev B7 : FVec Ideal S1024x2816 .f32 := m' ((c.tc : Thread Cert.Reference4Ideal.nD Cert.Reference4Ideal.τ).loc Cert.Reference4Ideal.main_arg7)

variable (m : (ℓ : Loc nD τ sig) → Buf (Elt Ideal) ℓ)

/-- The two programs are given the same arrays. -/
structure Agree : Prop where
  a0 : m ((c : Thread nD τ).loc main_arg0) = B0 m' c
  a1 : m ((c : Thread nD τ).loc main_arg1) = B1 m' c
  a2 : m ((c : Thread nD τ).loc main_arg2) = B2 m' c
  a3 : m ((c : Thread nD τ).loc main_arg3) = B3 m' c
  a4 : m ((c : Thread nD τ).loc main_arg4) = B4 m' c
  a5 : m ((c : Thread nD τ).loc main_arg5) = B5 m' c
  a6 : m ((c : Thread nD τ).loc main_arg6) = B6 m' c
  a7 : m ((c : Thread nD τ).loc main_arg7) = B7 m' c

variable {m c m'} (A : Agree m' c m)
include A

theorem at0 : A0 m c = B0 m' c := (V_v0 m c).trans A.a0
theorem at1 : A1 m c = B1 m' c := (V_v1 m c).trans A.a1
theorem at2 : A2 m c = B2 m' c := (V_v2 m c).trans A.a2
theorem at3 : A3 m c = B3 m' c := (V_arg3 m c).trans A.a3
theorem at4 : A4 m c = B4 m' c := (V_arg4 m c).trans A.a4
theorem at5 : A5 m c = B5 m' c := (V_arg5 m c).trans A.a5
theorem at6 : A6 m c = Ref.flip (B6 m' c) := (V_v4 m c).trans (by rw [A.a6])
theorem at7 : A7 m c = Ref.flip (B7 m' c) := (V_v6 m c).trans (by rw [A.a7])

theorem res0 : Cert.Reference4Ideal.Read.val_main_v4 (F := Ideal) (B0 m' c) (B1 m' c) (B2 m' c) (B3 m' c) (B4 m' c) = (dats m 0 c).arrAt 8 cfg0.N := by
  rw [final8, rX, at0 A, at1 A, at2 A, at3 A, at4 A]
  exact Ref.out0 _ _ _ _ _

theorem res1 : Cert.Reference4Ideal.Read.val_main_v19 (F := Ideal) (B0 m' c) (B1 m' c) (B2 m' c) (B3 m' c) (B4 m' c) (B5 m' c) (B6 m' c) = (dats m 0 c).arrAt 9 cfg0.N := by
  rw [final9, rGate, at0 A, at1 A, at2 A, at3 A, at4 A, at5 A, at6 A]
  exact Ref.out1 _ _ _ _ _ _ _

theorem res2 : Cert.Reference4Ideal.Read.val_main_v20 (F := Ideal) (B0 m' c) (B1 m' c) (B2 m' c) (B3 m' c) (B4 m' c) (B5 m' c) (B7 m' c) = (dats m 0 c).arrAt 10 cfg0.N := by
  rw [final10, rUp, at0 A, at1 A, at2 A, at3 A, at4 A, at5 A, at7 A]
  exact Ref.out2 _ _ _ _ _ _ _

theorem res3 : Cert.Reference4Ideal.Value.res_out3 m' c = (dats m 0 c).arrAt 11 cfg0.N := by
  rw [final11, rAct, at0 A, at1 A, at2 A, at3 A, at4 A, at5 A, at6 A, at7 A]
  exact (Cert.Reference4Ideal.Read.val_main_v23_eq m' c).trans (Ref.out3 _ _ _ _ _ _ _ _)

end Agree

set_option maxHeartbeats 4000000 in
/-- The activation call computes the new rows, the gate, the up projection and the activation. -/
theorem algebraic : Cert.algebraic_Kernel4Ideal_Reference4Ideal := by
  intro m ρ m' ρ' _ hagree
  refine ⟨fun c => (dats m 0 c).arrAt 8 cfg0.N, fun c => (dats m 0 c).arrAt 9 cfg0.N, fun c => (dats m 0 c).arrAt 10 cfg0.N,
    fun c => (dats m 0 c).arrAt 11 cfg0.N,
    (θ_run _ _ _).mono (fun r hr c => ?_) (Cert.Kernel4Ideal.Value.run_blocks m ρ),
    (θ_run _ _ _).mono (fun r hr c => ?_) (Cert.Reference4Ideal.Value.run m' ρ')⟩
  · exact hr c
  · have a := hagree c
    have A : Agree m' c m := ⟨a.1.symm, a.2.1.symm, a.2.2.1.symm, a.2.2.2.1.symm, a.2.2.2.2.1.symm, a.2.2.2.2.2.1.symm,
      a.2.2.2.2.2.2.1.symm, a.2.2.2.2.2.2.2.symm⟩
    have h := hr c
    refine ⟨h.1.trans ?_, h.2.1.trans ?_, h.2.2.1.trans ?_, h.2.2.2.1.trans ?_, h.2.2.2.2⟩
    · exact (Cert.Reference4Ideal.Read.val_main_v4_eq (F := Ideal) (B0 m' c) (B1 m' c) (B2 m' c) (B3 m' c) (B4 m' c)).trans (res0 A)
    · exact (Cert.Reference4Ideal.Read.val_main_v19_eq (F := Ideal) (B0 m' c) (B1 m' c) (B2 m' c) (B3 m' c) (B4 m' c) (B5 m' c) (B6 m' c)).trans (res1 A)
    · exact (Cert.Reference4Ideal.Read.val_main_v20_eq (F := Ideal) (B0 m' c) (B1 m' c) (B2 m' c) (B3 m' c) (B4 m' c) (B5 m' c) (B7 m' c)).trans (res2 A)
    · exact res3 A

end Cert.Act
-- ==== Proof.AdamFormulas.lean ====
/- The optimiser's step, entry by entry: the two moments and the change of the weight. -/
module

public import Idealize.ShloMosaic.Lib.Pipeline.Value
public import Idealize.ShloMosaic.Lib.Pipeline.ReadBack
public import Idealize.ShloMosaic.Lib.Tactic
public import Idealize.ShloMosaic.Lib.Pointwise
public import Idealize.ShloMosaic.Lib.Ring

@[expose] public section

noncomputable section

open Idealize.ShloMosaic

namespace Cert.Adam

/-- The number that a float's bits stand for. -/
abbrev lit (b : BitVec 32) : EReal := FloatOps.ofBits (F := Ideal) .f32 b

variable {S : Shape} (g w m v : FVec Ideal S .f32)

/-- The new first moment: nine tenths of the old one and a tenth of the gradient. -/
def first : FVec Ideal S .f32 := fun y => lit 0x3F666666#32 * m y + lit 0x3DCCCCCD#32 * g y

/-- The new second moment: the same of the gradient's square, with a thousandth. -/
def second : FVec Ideal S .f32 := fun y => lit 0x3F7FBE77#32 * v y + lit 0x3A83126F#32 * (g y * g y)

/-- The change of the weight: the first moment over the root of the second, both rescaled for the tenth step, and the decay. -/
def step : FVec Ideal S .f32 := fun y =>
  lit 0xBA83126F#32 * (Ideal.div (Ideal.div (first g m y) (lit 0x3F26BD02#32)) (Ideal.sqrt (Ideal.div (second g v y) (lit 0x3C231ACC#32)) + lit 0x322BCC77#32)
    + lit 0x3C23D70A#32 * w y)

/-- Row `r` of received part `k`, the parts having `n` rows each and lying one below the other. -/
def part {n N : ℕ} (h : N = 3 * n) (k : Fin 3) (r : Fin n) : Fin N := ⟨n * k.val + r.val, by
  have hk := Nat.mul_le_mul_left n (Nat.le_of_lt_succ k.isLt)
  omega⟩

/-- The gradient of a shard: the own sum and the three received parts. -/
def total {n N : ℕ} (h : N = 3 * n) (own : FVec Ideal ⟨2, ![n, 1024]⟩ .f32) (received : FVec Ideal ⟨2, ![N, 1024]⟩ .bf16) : FVec Ideal ⟨2, ![n, 1024]⟩ .f32 :=
  fun y => own y + received (ix2 (part h 0 (y 0)) (y 1)) + received (ix2 (part h 1 (y 0)) (y 1)) + received (ix2 (part h 2 (y 0)) (y 1))

theorem emb_idx {s : Shape} (r : Rect s) (x : r.shape.Idx) : r.emb x = r.toLoadRect.idx x := rfl

/-- Stores that are blocks of `G` and tile the buffer leave `G`. -/
theorem canon_eq {S : Shape} {e : EltTy} (G : S.Idx → Elt Ideal e) (L : List (View.Piece (Elt Ideal) S e))
    (h : View.PiecesOf G L) (size : Fin S.rank → ℕ) (hc : View.Piece.tiledL L size = true) : View.canon L = G :=
  funext fun y => View.canon_apply_of_pieces G L h.mem y (View.cover_of_tiledL L size hc y)

end Cert.Adam
-- ==== Proof.Shard.lean ====
/- The optimiser's step for one device's rows of w_gate, w_up or w_down: the received parts are added to the own sum and the step taken. -/
module

public import proofs.«01_k».proof.Proof.AdamFormulas
public import proofs.«01_k».proof.Proof.Gen.Kernel5Ideal.Value
public import proofs.«01_k».proof.Proof.Gen.Reference5Ideal.Run
public import proofs.«01_k».proof.Proof.Gen.Reference5Ideal.Read
public import proofs.«01_k».proof.Defs
public import Idealize.ShloMosaic.Lib.Pipeline.ValueKit

@[expose] public section

set_option maxRecDepth 16384

noncomputable section

open Idealize.ShloMosaic Idealize.ShloMosaic.TcCoe Idealize.SL.Sem

namespace Cert.Shard

open Cert.Kernel5Ideal Cert.Kernel5Ideal.Gen
open Cert.Reference5Ideal.Read

/-! ## The reference -/

section Reference

variable (x0 : Vec Ideal S352x1024 .f32) (x1 : Vec Ideal S1056x1024 .bf16) (x2 x3 x4 : Vec Ideal S352x1024 .f32)

/-- The gradient. -/
abbrev total : FVec Ideal S352x1024 .f32 := Adam.total (n := 352) (N := 1056) rfl x0 x1

/-- The reference's row of received part `k`. -/
theorem row_part (r : Fin 352) (l : Fin 1024) (k : Fin 3) : idx_main_v1 (idx_main_v2 (ix2 r l) k) = ix2 (Adam.part (N := 1056) rfl k r) l := by
  funext a
  fin_cases a <;> apply Fin.ext <;> simp [Adam.part] <;> omega

theorem ref_total : val_main_v3 (F := Ideal) x0 x1 = total x0 x1 := by
  funext y
  rw [val_main_v3_apply, val_main_v2_apply, Fin.sum_univ_three]
  simp only [val_main_v1_apply]
  idx_vars y
  simp only [row_part]
  pointwise [Adam.total, val_main_v0, val_main_cst]
  simp only [add_assoc]

theorem ref_first : val_main_v8 (F := Ideal) x0 x1 x3 = Adam.first (total x0 x1) x3 := by rw [← ref_total]; rfl
theorem ref_second : val_main_v14 (F := Ideal) x0 x1 x4 = Adam.second (total x0 x1) x4 := by rw [← ref_total]; rfl
theorem ref_step : val_main_v27 (F := Ideal) x0 x1 x2 x3 x4 = Adam.step (total x0 x1) x2 x3 x4 := by rw [← ref_total]; rfl

end Reference

/-! ## What the call leaves in its four blocks -/

section Blocks

variable (c : Dev nD) (arg0 : Memref sig .tc .vmem S352x1024 .f32) (harg0 : arg0.IsWhole) (arg1 : Memref sig .tc .vmem S1056x1024 .bf16) (harg1 : arg1.IsWhole)
  (arg2 : Memref sig .tc .vmem S352x1024 .f32) (harg2 : arg2.IsWhole) (arg3 : Memref sig .tc .vmem S352x1024 .f32) (harg3 : arg3.IsWhole)
  (arg4 : Memref sig .tc .vmem S352x1024 .f32) (harg4 : arg4.IsWhole) (arg6 : Memref sig .tc .vmem S352x1024 .f32) (harg6 : arg6.IsWhole)
  (arg7 : Memref sig .tc .vmem S352x1024 .f32) (harg7 : arg7.IsWhole) (arg8 : Memref sig .tc .vmem S352x1024 .f32) (harg8 : arg8.IsWhole)
  (arg9 : Memref sig .tc .vmem S352x1024 .f32) (harg9 : arg9.IsWhole)
  (x0 : Vec Ideal S352x1024 .f32) (x1 : Vec Ideal S1056x1024 .bf16) (x2 x3 x4 : Vec Ideal S352x1024 .f32)

/-- One run of the body leaves the gradient, the change of the weight and the two moments. -/
theorem blocks :
    out0_A_5 (F := Ideal) c arg0 harg0 arg1 harg1 arg2 harg2 arg3 harg3 arg4 harg4 arg6 harg6 arg7 harg7 arg8 harg8 arg9 harg9 x0 x1 x2 x3 x4 = total x0 x1
    ∧ out0_A_6 (F := Ideal) c arg0 harg0 arg1 harg1 arg2 harg2 arg3 harg3 arg4 harg4 arg6 harg6 arg7 harg7 arg8 harg8 arg9 harg9 x0 x1 x2 x3 x4 = Adam.step (total x0 x1) x2 x3 x4
    ∧ out0_A_7 (F := Ideal) c arg0 harg0 arg1 harg1 arg2 harg2 arg3 harg3 arg4 harg4 arg6 harg6 arg7 harg7 arg8 harg8 arg9 harg9 x0 x1 x2 x3 x4 = Adam.first (total x0 x1) x3
    ∧ out0_A_8 (F := Ideal) c arg0 harg0 arg1 harg1 arg2 harg2 arg3 harg3 arg4 harg4 arg6 harg6 arg7 harg7 arg8 harg8 arg9 harg9 x0 x1 x2 x3 x4 = Adam.second (total x0 x1) x4 := by
  unfold out0_A_5 out0_A_6 out0_A_7 out0_A_8
  rw [View.read_writes_eq_canon _ _ _ (cover0_A_5 c arg0 harg0 arg1 harg1 arg2 harg2 arg3 harg3 arg4 harg4 arg6 harg6 arg7 harg7 arg8 harg8 arg9 harg9 x0 x1 x2 x3 x4),
    View.read_writes_eq_canon _ _ _ (cover0_A_6 c arg0 harg0 arg1 harg1 arg2 harg2 arg3 harg3 arg4 harg4 arg6 harg6 arg7 harg7 arg8 harg8 arg9 harg9 x0 x1 x2 x3 x4),
    View.read_writes_eq_canon _ _ _ (cover0_A_7 c arg0 harg0 arg1 harg1 arg2 harg2 arg3 harg3 arg4 harg4 arg6 harg6 arg7 harg7 arg8 harg8 arg9 harg9 x0 x1 x2 x3 x4),
    View.read_writes_eq_canon _ _ _ (cover0_A_8 c arg0 harg0 arg1 harg1 arg2 harg2 arg3 harg3 arg4 harg4 arg6 harg6 arg7 harg7 arg8 harg8 arg9 harg9 x0 x1 x2 x3 x4)]
  unfold kernelRun0_A
  dsimp only
  sl_unfold_words
  simp (disch := decide) only [↓View.readCov_skip, ↓View.readCov_fill, View.readAt_eq_ld, harg0.read_unread, harg1.read_unread, harg2.read_unread, harg3.read_unread, harg4.read_unread]
  refine ⟨?_, ?_, ?_, ?_⟩ <;> refine Adam.canon_eq _ _ ⟨fun z => ?_, trivial⟩ S352x1024.size (by sl_kernel_rfl) <;> idx_vars z <;>
    pointwise [k0_pay1, k0_pay2, k0_pay3, k0_pay4, k0_pay5, k0_pay6, Adam.total, Adam.part, Adam.first, Adam.second, Adam.step, Adam.emb_idx]

end Blocks

/-! ## The call: at its one grid point every block is its array -/

section Call

variable (m : (ℓ : Loc nD τ sig) → Buf (Elt Ideal) ℓ) (c : Dev nD) (t : Fin cfg0.N)

abbrev A0 : FVec Ideal S352x1024 .f32 := m ((c : Thread nD τ).loc main_arg0)
abbrev A1 : FVec Ideal S1056x1024 .bf16 := m ((c : Thread nD τ).loc main_arg1)
abbrev A2 : FVec Ideal S352x1024 .f32 := m ((c : Thread nD τ).loc main_arg2)
abbrev A3 : FVec Ideal S352x1024 .f32 := m ((c : Thread nD τ).loc main_arg3)
abbrev A4 : FVec Ideal S352x1024 .f32 := m ((c : Thread nD τ).loc main_arg4)

theorem index_zero : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] := by
  decide +kernel

/-- An index of an output block is the same index of its array. -/
theorem place (y : S352x1024.Idx) : (win0_5.blk t).view.emb y = y ∧ (win0_6.blk t).view.emb y = y ∧ (win0_7.blk t).view.emb y = y
    ∧ (win0_8.blk t).view.emb y = y := by
  refine ⟨?_, ?_, ?_, ?_⟩ <;> blk_ext [index_zero t]

/-- The input blocks are the arrays. -/
theorem whole : iblk m c 0 t = A0 m c ∧ iblk m c 1 t = A1 m c ∧ iblk m c 2 t = A2 m c ∧ iblk m c 3 t = A3 m c ∧ iblk m c 4 t = A4 m c := by
  refine ⟨?_, ?_, ?_, ?_, ?_⟩ <;> funext y <;> blk_ext [iblk, index_zero t]

/-- The four output blocks. -/
theorem point : outsAt0 m c t = (total (A0 m c) (A1 m c), Adam.step (total (A0 m c) (A1 m c)) (A2 m c) (A3 m c) (A4 m c),
    Adam.first (total (A0 m c) (A1 m c)) (A3 m c), Adam.second (total (A0 m c) (A1 m c)) (A4 m c)) := by
  obtain ⟨e0, e1, e2, e3, e4⟩ := whole m c t
  rw [outsAt0, (blocks ..).1, (blocks ..).2.1, (blocks ..).2.2.1, (blocks ..).2.2.2, e0, e1, e2, e3, e4]

/-- The four arrays that the call leaves. -/
theorem final : (dats m 0 c).arrAt 5 cfg0.N = total (A0 m c) (A1 m c)
    ∧ (dats m 0 c).arrAt 6 cfg0.N = Adam.step (total (A0 m c) (A1 m c)) (A2 m c) (A3 m c) (A4 m c)
    ∧ (dats m 0 c).arrAt 7 cfg0.N = Adam.first (total (A0 m c) (A1 m c)) (A3 m c)
    ∧ (dats m 0 c).arrAt 8 cfg0.N = Adam.second (total (A0 m c) (A1 m c)) (A4 m c) := by
  refine ⟨(dats m 0 c).arrAt_eq_of_covers 5 _ (by decide +kernel) fun t hf y => ?_, (dats m 0 c).arrAt_eq_of_covers 6 _ (by decide +kernel) fun t hf y => ?_,
    (dats m 0 c).arrAt_eq_of_covers 7 _ (by decide +kernel) fun t hf y => ?_, (dats m 0 c).arrAt_eq_of_covers 8 _ (by decide +kernel) fun t hf y => ?_⟩ <;>
  blk_simp
  · rw [after0_5, point]
    exact (congrArg (total _ _) (place t y).1).symm
  · rw [after0_6, point]
    exact (congrArg (Adam.step _ _ _ _) (place t y).2.1).symm
  · rw [after0_7, point]
    exact (congrArg (Adam.first _ _) (place t y).2.2.1).symm
  · rw [after0_8, point]
    exact (congrArg (Adam.second _ _) (place t y).2.2.2).symm

end Call

/-! ## The claim -/

/-- The call adds the received parts to the own sum and takes the optimiser's step with the result, as the reference does. -/
theorem algebraic : Cert.algebraic_Kernel5Ideal_Reference5Ideal := by
  intro m ρ m' ρ' _ hagree
  refine ⟨_, _, _, _, Cert.Kernel5Ideal.Value.run_blocks m ρ, (θ_run _ _ _).mono (fun r hr c => ?_) (Cert.Reference5Ideal.Value.run m' ρ')⟩
  have e := hagree c
  have h := hr c
  obtain ⟨f5, f6, f7, f8⟩ := final m c
  refine ⟨h.1.trans ?_, h.2.1.trans ?_, h.2.2.1.trans ?_, h.2.2.2.1.trans ?_, h.2.2.2.2⟩
  · rw [e.1, e.2.1, f5]
    exact (val_main_v3_eq (F := Ideal) _ _).trans (ref_total _ _)
  · rw [e.1, e.2.1, e.2.2.1, e.2.2.2.1, e.2.2.2.2.1, f6]
    exact (val_main_v27_eq (F := Ideal) _ _ _ _ _).trans (ref_step _ _ _ _ _)
  · rw [e.1, e.2.1, e.2.2.2.1, f7]
    exact (val_main_v8_eq (F := Ideal) _ _ _).trans (ref_first _ _ _)
  · rw [e.1, e.2.1, e.2.2.2.2.1, f8]
    exact (val_main_v14_eq (F := Ideal) _ _ _).trans (ref_second _ _ _)

end Cert.Shard
-- ==== Proof.Small.lean ====
/- The optimiser's step for the small arrays: the gradient's eight parts are added and the step taken. -/
module

public import proofs.«01_k».proof.Proof.AdamFormulas
public import proofs.«01_k».proof.Proof.Gen.Kernel6Ideal.Value
public import proofs.«01_k».proof.Proof.Gen.Reference6Ideal.Run
public import proofs.«01_k».proof.Proof.Gen.Reference6Ideal.Read
public import proofs.«01_k».proof.Defs
public import Idealize.ShloMosaic.Lib.Tactic
public import Idealize.ShloMosaic.Lib.Pointwise

@[expose] public section

set_option maxRecDepth 16384

noncomputable section

open Idealize.ShloMosaic Idealize.ShloMosaic.TcCoe Idealize.SL.Sem

namespace Cert.Small

open Cert.Kernel6Ideal Cert.Kernel6Ideal.Gen Cert.Kernel6Ideal.Value
open Cert.Reference6Ideal.Read

variable (a0 : Vec Ideal S4096x128 .bf16) (a1 : Vec Ideal S384x128 .f32) (a2 : Vec Ideal S256x128 .f32) (a3 a4 a5 : Vec Ideal S592x128 .f32)

/-! ## The reference's row of part `k` -/

theorem row_wide (r : Fin 512) (l : Fin 128) (k : Fin 8) :
    idx_main_v1 (idx_main_v2 (ix2 r l) k) = ix2 (⟨512 * k.val + r.val, by omega⟩ : Fin 4096) l := by
  funext a
  fin_cases a <;> apply Fin.ext <;> simp <;> omega

theorem row_early (r : Fin 48) (l : Fin 128) (k : Fin 8) :
    idx_main_v3 (idx_main_v4 (ix2 r l) k) = ix2 (⟨48 * k.val + r.val, by omega⟩ : Fin 384) l := by
  funext a
  fin_cases a <;> apply Fin.ext <;> simp <;> omega

theorem row_late (r : Fin 32) (l : Fin 128) (k : Fin 8) :
    idx_main_v5 (idx_main_v6 (ix2 r l) k) = ix2 (⟨32 * k.val + r.val, by omega⟩ : Fin 256) l := by
  funext a
  fin_cases a <;> apply Fin.ext <;> simp <;> omega

/-! ## The gradient: the sums of the eight parts, one below the other -/

/-- The sum of the eight parts of the first array, in bfloat16. -/
theorem wide : k0_pay9 (F := Ideal) a0 a1 a2 a3 a4 a5 = val_main_v2 (F := Ideal) a0 := by
  funext y
  rw [val_main_v2_apply, Fin.sum_univ_eight]
  simp only [val_main_v1_apply]
  idx_vars y
  simp only [row_wide]
  pointwise [k0_pay9, k0_pay4, val_main_v0, val_main_cst, Adam.emb_idx]

/-- The sum of the eight parts of the second array. -/
theorem early : addf (addf (addf (k0_pay10 (F := Ideal) a0 a1 a2 a3 a4 a5) (View.ld a1 r0_13)) (View.ld a1 r0_14)) (View.ld a1 r0_15) = val_main_v4 (F := Ideal) a1 := by
  funext y
  rw [val_main_v4_apply, Fin.sum_univ_eight]
  simp only [val_main_v3_apply]
  idx_vars y
  simp only [row_early]
  pointwise [k0_pay10, k0_pay5, val_main_cst_0, Adam.emb_idx]

/-- The sum of the eight parts of the third array. -/
theorem late : (addf (addf (addf (addf (addf (addf (addf (View.ld a2 r0_16) (View.ld a2 r0_17)) (View.ld a2 r0_18)) (View.ld a2 r0_19)) (View.ld a2 r0_20))
    (View.ld a2 r0_21)) (View.ld a2 r0_22)) (View.ld a2 r0_23) : FVec Ideal S32x128 .f32) = val_main_v6 (F := Ideal) a2 := by
  funext y
  rw [val_main_v6_apply, Fin.sum_univ_eight]
  simp only [val_main_v5_apply]
  idx_vars y
  simp only [row_late]
  pointwise [val_main_cst_1, Adam.emb_idx]

theorem grad : G6 (F := Ideal) a0 a1 a2 a3 a4 a5 = val_main_v7 (F := Ideal) a0 a1 a2 := by
  unfold val_main_v7
  rw [← wide a0 a1 a2 a3 a4 a5, ← early a0 a1 a2 a3 a4 a5, ← late a2]
  rfl

theorem grad' : k0_pay11 (F := Ideal) a0 a1 a2 a3 a4 a5 = val_main_v7 (F := Ideal) a0 a1 a2 := grad a0 a1 a2 a3 a4 a5

/-! ## The step from the gradient -/

/-- The new first moment. -/
theorem first : G8 (F := Ideal) a0 a1 a2 a3 a4 a5 = val_main_v12 (F := Ideal) a0 a1 a2 a4 := by
  unfold G8 val_main_v12 val_main_v11
  rw [grad']
  generalize val_main_v7 (F := Ideal) a0 a1 a2 = g
  funext y
  idx_vars y
  pointwise [k0_pay1, k0_pay12, k0_pay13, k0_pay7, k0_pay8, val_main_v8, val_main_v9, val_main_v10, val_main_cst_2, val_main_cst_3, Adam.emb_idx]

/-- The new second moment. -/
theorem second : G9 (F := Ideal) a0 a1 a2 a3 a4 a5 = val_main_v18 (F := Ideal) a0 a1 a2 a5 := by
  unfold G9 val_main_v18 val_main_v17 val_main_v15
  rw [grad']
  generalize val_main_v7 (F := Ideal) a0 a1 a2 = g
  funext y
  idx_vars y
  pointwise [k0_pay2, val_main_v13, val_main_v14, val_main_v16, val_main_cst_4, val_main_cst_5, Adam.emb_idx]

/-- The step, from the two moments. -/
theorem delta : G7 (F := Ideal) a0 a1 a2 a3 a4 a5 = val_main_v31 (F := Ideal) a0 a1 a2 a3 a4 a5 := by
  have h1 := first a0 a1 a2 a3 a4 a5
  have h2 := second a0 a1 a2 a3 a4 a5
  unfold G8 at h1
  unfold G9 at h2
  unfold G7 k0_pay3
  dsimp only
  rw [h1, h2]
  unfold val_main_v31 val_main_v29 val_main_v26 val_main_v25 val_main_v23 val_main_v22 val_main_v20
  generalize val_main_v12 (F := Ideal) a0 a1 a2 a4 = u
  generalize val_main_v18 (F := Ideal) a0 a1 a2 a5 = v
  funext y
  idx_vars y
  pointwise [val_main_v19, val_main_v21, val_main_v24, val_main_v27, val_main_v28, val_main_v30, val_main_cst_6, val_main_cst_7,
    val_main_cst_8, val_main_cst_9, val_main_cst_10, Adam.emb_idx]

/-! ## The claim -/

/-- The call adds the eight parts of the small gradients and takes the optimiser's step with the sum, as the reference does. -/
theorem algebraic : Cert.algebraic_Kernel6Ideal_Reference6Ideal := by
  intro m ρ m' ρ' _ hagree
  refine ⟨_, _, _, _, Cert.Kernel6Ideal.Value.run m ρ, (θ_run _ _ _).mono (fun r hr c => ?_) (Cert.Reference6Ideal.Value.run m' ρ')⟩
  obtain ⟨e0, e1, e2, e3, e4, e5⟩ := hagree c
  have h := hr c
  refine ⟨h.1.trans ?_, h.2.1.trans ?_, h.2.2.1.trans ?_, h.2.2.2.1.trans ?_, h.2.2.2.2⟩
  · rw [e0, e1, e2]
    exact (val_main_v7_eq (F := Ideal) _ _ _).trans (grad _ _ _ _ _ _).symm
  · rw [e0, e1, e2, e3, e4, e5]
    exact (val_main_v31_eq (F := Ideal) _ _ _ _ _ _).trans (delta _ _ _ _ _ _).symm
  · rw [e0, e1, e2, e4]
    exact (val_main_v12_eq (F := Ideal) _ _ _ _).trans (first _ _ _ _ _ _).symm
  · rw [e0, e1, e2, e5]
    exact (val_main_v18_eq (F := Ideal) _ _ _ _).trans (second _ _ _ _ _ _).symm

end Cert.Small
-- ==== Proof.lean ====
/- The proof of the claim: the frames of the six calls and of their references, that the idealized programs keep the
   printed ones' numbers, and the value claims. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_finite
public import proofs.«01_k».proof.Proof.Gen.Pre_finite2
public import proofs.«01_k».proof.Proof.Pool
public import proofs.«01_k».proof.Proof.Ffn
public import proofs.«01_k».proof.Proof.Inproj
public import proofs.«01_k».proof.Proof.Act
public import proofs.«01_k».proof.Proof.Shard
public import proofs.«01_k».proof.Proof.Small
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Pre_finite.Gen.facts, Cert.Pre_finite2.Gen.facts,
    fun m ρ _ => Cert.Kernel.Gen.frame m ρ, fun m ρ _ => Cert.KernelIdeal.Gen.frame m ρ, fun m ρ _ => Cert.KernelIdeal.Gen.frame m ρ,
    fun m ρ _ => (θ_run _ _ _).mono (fun r h => ⟨fun c => (h c).2.2.2.2.2.2, sem_eq_zero_of_no_sems rfl _⟩) (Cert.ReferenceIdeal.Value.run m ρ),
    fun m ρ _ => (θ_run _ _ _).mono (fun r h => ⟨fun c => (h c).2.2.2.2.2.2, sem_eq_zero_of_no_sems rfl _⟩) (Cert.ReferenceIdeal.Value.run m ρ),
    fun m ρ _ => Cert.Kernel2.Gen.frame m ρ, fun m ρ _ => Cert.Kernel2Ideal.Gen.frame m ρ, fun m ρ _ => Cert.Kernel2Ideal.Gen.frame m ρ,
    fun m ρ _ => (θ_run _ _ _).mono (fun r h => ⟨fun c => (h c).2.2.2.2.2, sem_eq_zero_of_no_sems rfl _⟩) (Cert.Reference2Ideal.Value.run m ρ),
    fun m ρ _ => (θ_run _ _ _).mono (fun r h => ⟨fun c => (h c).2.2.2.2.2, sem_eq_zero_of_no_sems rfl _⟩) (Cert.Reference2Ideal.Value.run m ρ),
    fun m ρ _ => Cert.Kernel3.Gen.frame m ρ, fun m ρ _ => Cert.Kernel3Ideal.Gen.frame m ρ,
    fun m ρ _ => (θ_run _ _ _).mono (fun r h => ⟨fun c => (h c).2.2.2.2, sem_eq_zero_of_no_sems rfl _⟩) (Cert.Reference3Ideal.Value.run m ρ),
    fun m ρ _ => Cert.Kernel4.Gen.frame m ρ, fun m ρ _ => Cert.Kernel4Ideal.Gen.frame m ρ,
    fun m ρ _ => (θ_run _ _ _).mono (fun r h => ⟨fun c => (h c).2.2.2.2, sem_eq_zero_of_no_sems rfl _⟩) (Cert.Reference4Ideal.Value.run m ρ),
    fun m ρ _ => Cert.Kernel5.Gen.frame m ρ, fun m ρ _ => Cert.Kernel5Ideal.Gen.frame m ρ,
    fun m ρ _ => (θ_run _ _ _).mono (fun r h => ⟨fun c => (h c).2.2.2.2, sem_eq_zero_of_no_sems rfl _⟩) (Cert.Reference5Ideal.Value.run m ρ),
    fun m ρ _ => Cert.Kernel6.Gen.frame m ρ, fun m ρ _ => Cert.Kernel6Ideal.Gen.frame m ρ,
    fun m ρ _ => (θ_run _ _ _).mono (fun r h => ⟨fun c => (h c).2.2.2.2, sem_eq_zero_of_no_sems rfl _⟩) (Cert.Reference6Ideal.Value.run m ρ),
    trivial, Cert.Pool.algebraic, trivial, Cert.Ffn.algebraic, trivial, Cert.Inproj.algebraic, trivial, Cert.Act.algebraic,
    trivial, Cert.Shard.algebraic, trivial, Cert.Small.algebraic⟩

end Cert.Proof

end
